-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x256x128 : S_.BroadcastsInDim S1x1024x256x128 (![] : Fin 0 → Fin S1x1024x256x128.rank)

variable [Facts]

def fn_part1 {F : FTy → Type} [FloatOps F] (main_v6 : IVec S1x1024x1024 1) (main_v13 : IVec S1024x1024 1) (main_v16 : IVec S1x1024x256x128 1) (main_v17 : FVec F S1x1024x256x128 .f32) (main_cst_4 : FVec F S_ .f32) : IVec S1x1024x1024 1 × IVec S1024x1024 1 × IVec S1x1024x256x128 1 :=
  let main_v18 : FVec F S1x1024x256x128 .f32 := broadcastInDim S1x1024x256x128 ![] bcast_S_S1x1024x256x128 main_cst_4
  let main_v19 : IVec S1x1024x256x128 1 := cmpf .olt main_v17 main_v18
  let main_v20 : IVec S1x1024x256x128 1 := andi main_v16 main_v19
  (main_v6, main_v13, main_v20)

def fn {F : FTy → Type} [FloatOps F] (main_arg0 : FVec F S1x1024x1024 .bf16) (main_arg1 : FVec F S1024x1024 .bf16) (main_arg2 : FVec F S1x1024x256x128 .bf16) (main_arg3 : FVec F S1x1024x256x128 .bf16) (main_arg4 : FVec F S1024x1024 .bf16) : IVec S1x1024x1024 1 × IVec S1024x1024 1 × IVec S1x1024x256x128 1 :=
  let main_v0 : FVec F S1x1024x1024 .f32 := (extf .f32 · bitsLt_bf16_f32) main_arg0
  let main_cst : FVec F S_ .f32 := constant S_ .f32 0xFF800000#32
  let main_v1 : FVec F S1x1024x1024 .f32 := broadcastInDim S1x1024x1024 ![] bcast_S_S1x1024x1024 main_cst
  let main_v2 : IVec S1x1024x1024 1 := cmpf .ogt main_v0 main_v1
  let main_v3 : FVec F S1x1024x1024 .f32 := (extf .f32 · bitsLt_bf16_f32) main_arg0
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : IVec S1x1024x1024 1 := andi main_v2 main_v5
  let main_v7 : FVec F S1024x1024 .f32 := (extf .f32 · bitsLt_bf16_f32) main_arg1
  let main_cst_1 : FVec F S_ .f32 := constant S_ .f32 0xFF800000#32
  let main_v8 : FVec F S1024x1024 .f32 := broadcastInDim S1024x1024 ![] bcast_S_S1024x1024 main_cst_1
  let main_v9 : IVec S1024x1024 1 := cmpf .ogt main_v7 main_v8
  let main_v10 : FVec F S1024x1024 .f32 := (extf .f32 · bitsLt_bf16_f32) main_arg1
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : IVec S1024x1024 1 := andi main_v9 main_v12
  let main_v14 : FVec F S1x1024x256x128 .f32 := (extf .f32 · bitsLt_bf16_f32) main_arg2
  let main_cst_3 : FVec F S_ .f32 := constant S_ .f32 0xFF800000#32
  let main_v15 : FVec F S1x1024x256x128 .f32 := broadcastInDim S1x1024x256x128 ![] bcast_S_S1x1024x256x128 main_cst_3
  let main_v16 : IVec S1x1024x256x128 1 := cmpf .ogt main_v14 main_v15
  let main_v17 : FVec F S1x1024x256x128 .f32 := (extf .f32 · bitsLt_bf16_f32) main_arg2
  let main_cst_4 : FVec F S_ .f32 := constant S_ .f32 0x7F800000#32
  fn_part1 (F := F) main_v6 main_v13 main_v16 main_v17 main_cst_4
-- ==== Pre_finite_ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x32768 : S_.BroadcastsInDim S1024x32768 (![] : Fin 0 → Fin S1024x32768.rank)
  bcast_S_S1x1024x256x128 : S_.BroadcastsInDim S1x1024x256x128 (![] : Fin 0 → Fin S1x1024x256x128.rank)

variable [Facts]

def fn_part1 {F : FTy → Type} [FloatOps F] (main_v6 : IVec S1x1024x1024 1) (main_v13 : IVec S1024x32768 1) (main_v16 : IVec S1x1024x256x128 1) (main_v17 : FVec F S1x1024x256x128 .f32) (main_cst_4 : FVec F S_ .f32) : IVec S1x1024x1024 1 × IVec S1024x32768 1 × IVec S1x1024x256x128 1 :=
  let main_v18 : FVec F S1x1024x256x128 .f32 := broadcastInDim S1x1024x256x128 ![] bcast_S_S1x1024x256x128 main_cst_4
  let main_v19 : IVec S1x1024x256x128 1 := cmpf .olt main_v17 main_v18
  let main_v20 : IVec S1x1024x256x128 1 := andi main_v16 main_v19
  (main_v6, main_v13, main_v20)

def fn {F : FTy → Type} [FloatOps F] (main_arg0 : FVec F S1x1024x1024 .bf16) (main_arg1 : FVec F S1024x32768 .bf16) (main_arg2 : FVec F S1x1024x256x128 .bf16) (main_arg3 : FVec F S1x1024x256x128 .bf16) (main_arg4 : FVec F S32768x1024 .bf16) : IVec S1x1024x1024 1 × IVec S1024x32768 1 × IVec S1x1024x256x128 1 :=
  let main_v0 : FVec F S1x1024x1024 .f32 := (extf .f32 · bitsLt_bf16_f32) main_arg0
  let main_cst : FVec F S_ .f32 := constant S_ .f32 0xFF800000#32
  let main_v1 : FVec F S1x1024x1024 .f32 := broadcastInDim S1x1024x1024 ![] bcast_S_S1x1024x1024 main_cst
  let main_v2 : IVec S1x1024x1024 1 := cmpf .ogt main_v0 main_v1
  let main_v3 : FVec F S1x1024x1024 .f32 := (extf .f32 · bitsLt_bf16_f32) main_arg0
  let main_cst_0 : FVec F S_ .f32 := constant S_ .f32 0x7F800000#32
  let main_v4 : FVec F S1x1024x1024 .f32 := broadcastInDim S1x1024x1024 ![] bcast_S_S1x1024x1024 main_cst_0
  let main_v5 : IVec S1x1024x1024 1 := cmpf .olt main_v3 main_v4
  let main_v6 : IVec S1x1024x1024 1 := andi main_v2 main_v5
  let main_v7 : FVec F S1024x32768 .f32 := (extf .f32 · bitsLt_bf16_f32) main_arg1
  let main_cst_1 : FVec F S_ .f32 := constant S_ .f32 0xFF800000#32
  let main_v8 : FVec F S1024x32768 .f32 := broadcastInDim S1024x32768 ![] bcast_S_S1024x32768 main_cst_1
  let main_v9 : IVec S1024x32768 1 := cmpf .ogt main_v7 main_v8
  let main_v10 : FVec F S1024x32768 .f32 := (extf .f32 · bitsLt_bf16_f32) main_arg1
  let main_cst_2 : FVec F S_ .f32 := constant S_ .f32 0x7F800000#32
  let main_v11 : FVec F S1024x32768 .f32 := broadcastInDim S1024x32768 ![] bcast_S_S1024x32768 main_cst_2
  let main_v12 : IVec S1024x32768 1 := cmpf .olt main_v10 main_v11
  let main_v13 : IVec S1024x32768 1 := andi main_v9 main_v12
  let main_v14 : FVec F S1x1024x256x128 .f32 := (extf .f32 · bitsLt_bf16_f32) main_arg2
  let main_cst_3 : FVec F S_ .f32 := constant S_ .f32 0xFF800000#32
  let main_v15 : FVec F S1x1024x256x128 .f32 := broadcastInDim S1x1024x256x128 ![] bcast_S_S1x1024x256x128 main_cst_3
  let main_v16 : IVec S1x1024x256x128 1 := cmpf .ogt main_v14 main_v15
  let main_v17 : FVec F S1x1024x256x128 .f32 := (extf .f32 · bitsLt_bf16_f32) main_arg2
  let main_cst_4 : FVec F S_ .f32 := constant S_ .f32 0x7F800000#32
  fn_part1 (F := F) main_v6 main_v13 main_v16 main_v17 main_cst_4
-- ==== Kernel.lean ====
abbrev S1x1024x1024 : Shape := ⟨3, ![1, 1024, 1024]⟩
abbrev S1024x1024 : Shape := ⟨2, ![1024, 1024]⟩
abbrev S1x1024x256x128 : Shape := ⟨4, ![1, 1024, 256, 128]⟩
abbrev S_ : Shape := ⟨0, ![]⟩
abbrev S1024x8x128 : Shape := ⟨3, ![1024, 8, 128]⟩
abbrev S1024x256x128 : Shape := ⟨3, ![1024, 256, 128]⟩
abbrev S4x4x64x8x128 : Shape := ⟨5, ![4, 4, 64, 8, 128]⟩
abbrev S4x256x8x128 : Shape := ⟨4, ![4, 256, 8, 128]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x128x256 : Shape := ⟨4, ![4, 8, 128, 256]⟩
abbrev S7x128x1024 : Shape := ⟨3, ![7, 128, 1024]⟩
abbrev S3x32x1024 : Shape := ⟨3, ![3, 32, 1024]⟩
abbrev S32x1024 : Shape := ⟨2, ![32, 1024]⟩
abbrev S128x1024 : Shape := ⟨2, ![128, 1024]⟩
abbrev S20 : Shape := ⟨1, ![20]⟩
abbrev S1 : Shape := ⟨1, ![1]⟩
abbrev S1x128x1024 : Shape := ⟨3, ![1, 128, 1024]⟩
abbrev S1x32x1024 : Shape := ⟨3, ![1, 32, 1024]⟩

abbrev nBuf : Space → Nat
  | .hbm => 72
  | .vmem => 11
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x256x128, .bf16⟩
  | .hbm, ⟨3, _⟩ => ⟨S1x1024x256x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S1024x1024, .f32⟩
  | .hbm, ⟨13, _⟩ => ⟨S1024x8x128, .f32⟩
  | .hbm, ⟨14, _⟩ => ⟨S1024x8x128, .bf16⟩
  | .hbm, ⟨15, _⟩ => ⟨S1024x256x128, .bf16⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1024x8x128, .bf16⟩
  | .hbm, ⟨26, _⟩ => ⟨S1024x256x128, .bf16⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1024x8x128, .bf16⟩
  | .hbm, ⟨37, _⟩ => ⟨S4x4x64x8x128, .bf16⟩
  | .hbm, ⟨38, _⟩ => ⟨S4x4x64x8x128, .bf16⟩
  | .hbm, ⟨39, _⟩ => ⟨S4x256x8x128, .bf16⟩
  | .hbm, ⟨40, _⟩ => ⟨S4x4x64x8x128, .bf16⟩
  | .hbm, ⟨41, _⟩ => ⟨S4x4x64x8x128, .bf16⟩
  | .hbm, ⟨42, _⟩ => ⟨S4x256x8x128, .bf16⟩
  | .hbm, ⟨43, _⟩ => ⟨S4x4x64x8x128, .bf16⟩
  | .hbm, ⟨44, _⟩ => ⟨S4x4x64x8x128, .bf16⟩
  | .hbm, ⟨45, _⟩ => ⟨S4x256x8x128, .bf16⟩
  | .hbm, ⟨46, _⟩ => ⟨S4x8x256x256, .f32⟩
  | .hbm, ⟨47, _⟩ => ⟨S_, .f32⟩
  | .hbm, ⟨48, _⟩ => ⟨S4x8x256x256, .f32⟩
  | .hbm, ⟨49, _⟩ => ⟨S4x8x256x256, .f32⟩
  | .hbm, ⟨50, _⟩ => ⟨S_, .f32⟩
  | .hbm, ⟨51, _⟩ => ⟨S4x8x256, .f32⟩
  | .hbm, ⟨52, _⟩ => ⟨S_, .f32⟩
  | .hbm, ⟨53, _⟩ => ⟨S4x8x256, .f32⟩
  | .hbm, ⟨54, _⟩ => ⟨S4x8x256, .f32⟩
  | .hbm, ⟨55, _⟩ => ⟨S4x8x256x1, .f32⟩
  | .hbm, ⟨56, _⟩ => ⟨S4x8x256x256, .f32⟩
  | .hbm, ⟨57, _⟩ => ⟨S4x8x256x256, .f32⟩
  | .hbm, ⟨58, _⟩ => ⟨S4x8x256x256, .f32⟩
  | .hbm, ⟨59, _⟩ => ⟨S_, .f32⟩
  | .hbm, ⟨60, _⟩ => ⟨S4x8x256, .f32⟩
  | .hbm, ⟨61, _⟩ => ⟨S4x8x256x1, .f32⟩
  | .hbm, ⟨62, _⟩ => ⟨S4x8x256x256, .f32⟩
  | .hbm, ⟨63, _⟩ => ⟨S4x8x256x256, .f32⟩
  | .hbm, ⟨64, _⟩ => ⟨S4x8x256x256, .bf16⟩
  | .hbm, ⟨65, _⟩ => ⟨S4x8x128x256, .f32⟩
  | .hbm, ⟨66, _⟩ => ⟨S4x256x8x128, .f32⟩
  | .hbm, ⟨67, _⟩ => ⟨S4x4x64x8x128, .f32⟩
  | .hbm, ⟨68, _⟩ => ⟨S4x4x64x8x128, .f32⟩
  | .hbm, ⟨69, _⟩ => ⟨S1024x1024, .f32⟩
  | .hbm, ⟨70, _⟩ => ⟨S1024x1024, .bf16⟩
  | .hbm, ⟨71, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .bf16⟩
  | .local _ .vmem, ⟨4, _⟩ => ⟨S7x128x1024, .bf16⟩
  | .local _ .vmem, ⟨5, _⟩ => ⟨S3x32x1024, .bf16⟩
  | .local _ .vmem, ⟨6, _⟩ => ⟨S3x32x1024, .bf16⟩
  | .local _ .vmem, ⟨7, _⟩ => ⟨S32x1024, .bf16⟩
  | .local _ .vmem, ⟨8, _⟩ => ⟨S3x32x1024, .bf16⟩
  | .local _ .vmem, ⟨9, _⟩ => ⟨S128x1024, .bf16⟩
  | .local _ .vmem, ⟨10, _⟩ => ⟨S7x128x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_c_7 : Ref sig .tc := ⟨.hbm, 29, rfl⟩
abbrev main_v17 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_c_10 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_cst_12 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v21 : BitVec 32 := Scalar.muli v19 c8_i32_6
  let c8_i32_5 : BitVec 32 := 8#32
  let v20 : BitVec 32 := Scalar.remsi v2 c8_i32_5
  let c1_i32_7 : BitVec 32 := 1#32
  let v22 : BitVec 32 := Scalar.addi v20 c1_i32_7
  let c8_i32_8 : BitVec 32 := 8#32
  let v23 : BitVec 32 := Scalar.remsi v22 c8_i32_8
  let v24 : BitVec 32 := Scalar.addi v21 v23
  let c1_i32_31 : BitVec 32 := 1#32
  let v62 : BitVec 32 := Scalar.muli v24 c1_i32_31
  let v63 : BitVec 32 := Scalar.addi c0_i32_32 v62
  v63.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_9 : BitVec 32 := 8#32
  let v25 : BitVec 32 := Scalar.muli v19 c8_i32_9
  let c8_i32_5 : BitVec 32 := 8#32
  let v20 : BitVec 32 := Scalar.remsi v2 c8_i32_5
  let c2_i32 : BitVec 32 := 2#32
  let v26 : BitVec 32 := Scalar.addi v20 c2_i32
  let c8_i32_10 : BitVec 32 := 8#32
  let v27 : BitVec 32 := Scalar.remsi v26 c8_i32_10
  let v28 : BitVec 32 := Scalar.addi v25 v27
  let c1_i32_34 : BitVec 32 := 1#32
  let v64 : BitVec 32 := Scalar.muli v28 c1_i32_34
  let v65 : BitVec 32 := Scalar.addi c0_i32_35 v64
  v65.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v29 : BitVec 32 := Scalar.muli v19 c8_i32_11
  let c8_i32_5 : BitVec 32 := 8#32
  let v20 : BitVec 32 := Scalar.remsi v2 c8_i32_5
  let c3_i32 : BitVec 32 := 3#32
  let v30 : BitVec 32 := Scalar.addi v20 c3_i32
  let c8_i32_12 : BitVec 32 := 8#32
  let v31 : BitVec 32 := Scalar.remsi v30 c8_i32_12
  let v32 : BitVec 32 := Scalar.addi v29 v31
  let c1_i32_37 : BitVec 32 := 1#32
  let v66 : BitVec 32 := Scalar.muli v32 c1_i32_37
  let v67 : BitVec 32 := Scalar.addi c0_i32_38 v66
  v67.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_13 : BitVec 32 := 8#32
  let v33 : BitVec 32 := Scalar.muli v19 c8_i32_13
  let c8_i32_5 : BitVec 32 := 8#32
  let v20 : BitVec 32 := Scalar.remsi v2 c8_i32_5
  let c4_i32 : BitVec 32 := 4#32
  let v34 : BitVec 32 := Scalar.addi v20 c4_i32
  let c8_i32_14 : BitVec 32 := 8#32
  let v35 : BitVec 32 := Scalar.remsi v34 c8_i32_14
  let v36 : BitVec 32 := Scalar.addi v33 v35
  let c1_i32_40 : BitVec 32 := 1#32
  let v68 : BitVec 32 := Scalar.muli v36 c1_i32_40
  let v69 : BitVec 32 := Scalar.addi c0_i32_41 v68
  v69.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_15 : BitVec 32 := 8#32
  let v37 : BitVec 32 := Scalar.muli v19 c8_i32_15
  let c8_i32_5 : BitVec 32 := 8#32
  let v20 : BitVec 32 := Scalar.remsi v2 c8_i32_5
  let c5_i32 : BitVec 32 := 5#32
  let v38 : BitVec 32 := Scalar.addi v20 c5_i32
  let c8_i32_16 : BitVec 32 := 8#32
  let v39 : BitVec 32 := Scalar.remsi v38 c8_i32_16
  let v40 : BitVec 32 := Scalar.addi v37 v39
  let c1_i32_43 : BitVec 32 := 1#32
  let v70 : BitVec 32 := Scalar.muli v40 c1_i32_43
  let v71 : BitVec 32 := Scalar.addi c0_i32_44 v70
  v71.toNat
def k0_dev6 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_17 : BitVec 32 := 8#32
  let v41 : BitVec 32 := Scalar.muli v19 c8_i32_17
  let c8_i32_5 : BitVec 32 := 8#32
  let v20 : BitVec 32 := Scalar.remsi v2 c8_i32_5
  let c6_i32 : BitVec 32 := 6#32
  let v42 : BitVec 32 := Scalar.addi v20 c6_i32
  let c8_i32_18 : BitVec 32 := 8#32
  let v43 : BitVec 32 := Scalar.remsi v42 c8_i32_18
  let v44 : BitVec 32 := Scalar.addi v41 v43
  let c1_i32_46 : BitVec 32 := 1#32
  let v72 : BitVec 32 := Scalar.muli v44 c1_i32_46
  let v73 : BitVec 32 := Scalar.addi c0_i32_47 v72
  v73.toNat
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_19 : BitVec 32 := 8#32
  let v45 : BitVec 32 := Scalar.muli v19 c8_i32_19
  let c8_i32_5 : BitVec 32 := 8#32
  let v20 : BitVec 32 := Scalar.remsi v2 c8_i32_5
  let c7_i32 : BitVec 32 := 7#32
  let v46 : BitVec 32 := Scalar.addi v20 c7_i32
  let c8_i32_20 : BitVec 32 := 8#32
  let v47 : BitVec 32 := Scalar.remsi v46 c8_i32_20
  let v48 : BitVec 32 := Scalar.addi v45 v47
  let c1_i32_49 : BitVec 32 := 1#32
  let v74 : BitVec 32 := Scalar.muli v48 c1_i32_49
  let v75 : BitVec 32 := Scalar.addi c0_i32_50 v74
  v75.toNat
def k0_dev8 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_21 : BitVec 32 := 1#32
  let v49 : BitVec 32 := Scalar.addi v19 c1_i32_21
  let c4_i32_22 : BitVec 32 := 4#32
  let v50 : BitVec 32 := Scalar.remsi v49 c4_i32_22
  let c8_i32_23 : BitVec 32 := 8#32
  let v51 : BitVec 32 := Scalar.muli v50 c8_i32_23
  let c8_i32_5 : BitVec 32 := 8#32
  let v20 : BitVec 32 := Scalar.remsi v2 c8_i32_5
  let v52 : BitVec 32 := Scalar.addi v51 v20
  let c1_i32_52 : BitVec 32 := 1#32
  let v76 : BitVec 32 := Scalar.muli v52 c1_i32_52
  let v77 : BitVec 32 := Scalar.addi c0_i32_53 v76
  v77.toNat
def k0_dev9 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_24 : BitVec 32 := 2#32
  let v53 : BitVec 32 := Scalar.addi v19 c2_i32_24
  let c4_i32_25 : BitVec 32 := 4#32
  let v54 : BitVec 32 := Scalar.remsi v53 c4_i32_25
  let c8_i32_26 : BitVec 32 := 8#32
  let v55 : BitVec 32 := Scalar.muli v54 c8_i32_26
  let c8_i32_5 : BitVec 32 := 8#32
  let v20 : BitVec 32 := Scalar.remsi v2 c8_i32_5
  let v56 : BitVec 32 := Scalar.addi v55 v20
  let c1_i32_55 : BitVec 32 := 1#32
  let v78 : BitVec 32 := Scalar.muli v56 c1_i32_55
  let v79 : BitVec 32 := Scalar.addi c0_i32_56 v78
  v79.toNat
def k0_dev10 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_27 : BitVec 32 := 3#32
  let v57 : BitVec 32 := Scalar.addi v19 c3_i32_27
  let c4_i32_28 : BitVec 32 := 4#32
  let v58 : BitVec 32 := Scalar.remsi v57 c4_i32_28
  let c8_i32_29 : BitVec 32 := 8#32
  let v59 : BitVec 32 := Scalar.muli v58 c8_i32_29
  let c8_i32_5 : BitVec 32 := 8#32
  let v20 : BitVec 32 := Scalar.remsi v2 c8_i32_5
  let v60 : BitVec 32 := Scalar.addi v59 v20
  let c1_i32_58 : BitVec 32 := 1#32
  let v80 : BitVec 32 := Scalar.muli v60 c1_i32_58
  let v81 : BitVec 32 := Scalar.addi c0_i32_59 v80
  v81.toNat
def k0_off1 (d0 : Dev nD) (c1_i32_60 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v82 : BitVec 32 := Scalar.addi v20 c1_i32_60
  let c8_i32_61 : BitVec 32 := 8#32
  let v83 : BitVec 32 := Scalar.remsi v82 c8_i32_61
  let c128_i32 : BitVec 32 := 128#32
  let v84 : BitVec 32 := Scalar.muli v83 c128_i32
  let v85 : Index := Scalar.indexCast v84
  let c0 : Index := 0#32
  ![v85.toNat, 0]
def k0_off2 (d0 : Dev nD) (c1_i32_60 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v82 : BitVec 32 := Scalar.addi v20 c1_i32_60
  let c8_i32_61 : BitVec 32 := 8#32
  let v83 : BitVec 32 := Scalar.remsi v82 c8_i32_61
  let c128_i32_66 : BitVec 32 := 128#32
  let v97 : BitVec 32 := Scalar.muli v83 c128_i32_66
  let c0_i32_75 : BitVec 32 := 0#32
  ![v97.toNat, 0]
def k0_dev11 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_67 : BitVec 32 := 8#32
  let v98 : BitVec 32 := Scalar.muli v19 c8_i32_67
  let c8_i32_5 : BitVec 32 := 8#32
  let v20 : BitVec 32 := Scalar.remsi v2 c8_i32_5
  let c1_i32_60 : BitVec 32 := 1#32
  let v82 : BitVec 32 := Scalar.addi v20 c1_i32_60
  let c8_i32_61 : BitVec 32 := 8#32
  let v83 : BitVec 32 := Scalar.remsi v82 c8_i32_61
  let v99 : BitVec 32 := Scalar.addi v98 v83
  let c1_i32_71 : BitVec 32 := 1#32
  let v100 : BitVec 32 := Scalar.muli v99 c1_i32_71
  let v101 : BitVec 32 := Scalar.addi c0_i32_72 v100
  v101.toNat
def k0_dev12 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_86 : BitVec 32 := 8#32
  let v125 : BitVec 32 := Scalar.muli v19 c8_i32_86
  let c8_i32_5 : BitVec 32 := 8#32
  let v20 : BitVec 32 := Scalar.remsi v2 c8_i32_5
  let c2_i32_76 : BitVec 32 := 2#32
  let v109 : BitVec 32 := Scalar.addi v20 c2_i32_76
  let c8_i32_77 : BitVec 32 := 8#32
  let v110 : BitVec 32 := Scalar.remsi v109 c8_i32_77
  let v126 : BitVec 32 := Scalar.addi v125 v110
  let c1_i32_90 : BitVec 32 := 1#32
  let v127 : BitVec 32 := Scalar.muli v126 c1_i32_90
  let v128 : BitVec 32 := Scalar.addi c0_i32_91 v127
  v128.toNat
def k0_dev13 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_105 : BitVec 32 := 8#32
  let v152 : BitVec 32 := Scalar.muli v19 c8_i32_105
  let c8_i32_5 : BitVec 32 := 8#32
  let v20 : BitVec 32 := Scalar.remsi v2 c8_i32_5
  let c3_i32_95 : BitVec 32 := 3#32
  let v136 : BitVec 32 := Scalar.addi v20 c3_i32_95
  let c8_i32_96 : BitVec 32 := 8#32
  let v137 : BitVec 32 := Scalar.remsi v136 c8_i32_96
  let v153 : BitVec 32 := Scalar.addi v152 v137
  let c1_i32_109 : BitVec 32 := 1#32
  let v154 : BitVec 32 := Scalar.muli v153 c1_i32_109
  let v155 : BitVec 32 := Scalar.addi c0_i32_110 v154
  v155.toNat
def k0_dev14 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_124 : BitVec 32 := 8#32
  let v179 : BitVec 32 := Scalar.muli v19 c8_i32_124
  let c8_i32_5 : BitVec 32 := 8#32
  let v20 : BitVec 32 := Scalar.remsi v2 c8_i32_5
  let c4_i32_114 : BitVec 32 := 4#32
  let v163 : BitVec 32 := Scalar.addi v20 c4_i32_114
  let c8_i32_115 : BitVec 32 := 8#32
  let v164 : BitVec 32 := Scalar.remsi v163 c8_i32_115
  let v180 : BitVec 32 := Scalar.addi v179 v164
  let c1_i32_128 : BitVec 32 := 1#32
  let v181 : BitVec 32 := Scalar.muli v180 c1_i32_128
  let v182 : BitVec 32 := Scalar.addi c0_i32_129 v181
  v182.toNat
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_143 : BitVec 32 := 8#32
  let v206 : BitVec 32 := Scalar.muli v19 c8_i32_143
  let c8_i32_5 : BitVec 32 := 8#32
  let v20 : BitVec 32 := Scalar.remsi v2 c8_i32_5
  let c5_i32_133 : BitVec 32 := 5#32
  let v190 : BitVec 32 := Scalar.addi v20 c5_i32_133
  let c8_i32_134 : BitVec 32 := 8#32
  let v191 : BitVec 32 := Scalar.remsi v190 c8_i32_134
  let v207 : BitVec 32 := Scalar.addi v206 v191
  let c1_i32_147 : BitVec 32 := 1#32
  let v208 : BitVec 32 := Scalar.muli v207 c1_i32_147
  let v209 : BitVec 32 := Scalar.addi c0_i32_148 v208
  v209.toNat
def k0_dev16 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_162 : BitVec 32 := 8#32
  let v233 : BitVec 32 := Scalar.muli v19 c8_i32_162
  let c8_i32_5 : BitVec 32 := 8#32
  let v20 : BitVec 32 := Scalar.remsi v2 c8_i32_5
  let c6_i32_152 : BitVec 32 := 6#32
  let v217 : BitVec 32 := Scalar.addi v20 c6_i32_152
  let c8_i32_153 : BitVec 32 := 8#32
  let v218 : BitVec 32 := Scalar.remsi v217 c8_i32_153
  let v234 : BitVec 32 := Scalar.addi v233 v218
  let c1_i32_166 : BitVec 32 := 1#32
  let v235 : BitVec 32 := Scalar.muli v234 c1_i32_166
  let v236 : BitVec 32 := Scalar.addi c0_i32_167 v235
  v236.toNat
def k0_dev17 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_181 : BitVec 32 := 8#32
  let v260 : BitVec 32 := Scalar.muli v19 c8_i32_181
  let c8_i32_5 : BitVec 32 := 8#32
  let v20 : BitVec 32 := Scalar.remsi v2 c8_i32_5
  let c7_i32_171 : BitVec 32 := 7#32
  let v244 : BitVec 32 := Scalar.addi v20 c7_i32_171
  let c8_i32_172 : BitVec 32 := 8#32
  let v245 : BitVec 32 := Scalar.remsi v244 c8_i32_172
  let v261 : BitVec 32 := Scalar.addi v260 v245
  let c1_i32_185 : BitVec 32 := 1#32
  let v262 : BitVec 32 := Scalar.muli v261 c1_i32_185
  let v263 : BitVec 32 := Scalar.addi c0_i32_186 v262
  v263.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c128_i32_190 : BitVec 32 := 128#32
  let v271 : BitVec 32 := Scalar.muli v20 c128_i32_190
  let v272 : Index := Scalar.indexCast v271
  let c0_191 : Index := 0#32
  ![v272.toNat, 0]
def k0_off4 (d0 : Dev nD) (c1_i32_267 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c128_i32_190 : BitVec 32 := 128#32
  let v271 : BitVec 32 := Scalar.muli v20 c128_i32_190
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v357 : BitVec 32 := Scalar.addi v19 c1_i32_267
  let c4_i32_268 : BitVec 32 := 4#32
  let v358 : BitVec 32 := Scalar.remsi v357 c4_i32_268
  let c32_i32_269 : BitVec 32 := 32#32
  let v359 : BitVec 32 := Scalar.muli v358 c32_i32_269
  let v360 : BitVec 32 := Scalar.addi v271 v359
  let v361 : Index := Scalar.indexCast v360
  let c0_270 : Index := 0#32
  ![v361.toNat, 0]
def k0_dev18 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_267 : BitVec 32 := 1#32
  let v357 : BitVec 32 := Scalar.addi v19 c1_i32_267
  let c4_i32_268 : BitVec 32 := 4#32
  let v358 : BitVec 32 := Scalar.remsi v357 c4_i32_268
  let c8_i32_274 : BitVec 32 := 8#32
  let v368 : BitVec 32 := Scalar.muli v358 c8_i32_274
  let c8_i32_5 : BitVec 32 := 8#32
  let v20 : BitVec 32 := Scalar.remsi v2 c8_i32_5
  let v369 : BitVec 32 := Scalar.addi v368 v20
  let c1_i32_279 : BitVec 32 := 1#32
  let v370 : BitVec 32 := Scalar.muli v369 c1_i32_279
  let v371 : BitVec 32 := Scalar.addi c0_i32_280 v370
  v371.toNat
def k0_dev19 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_285 : BitVec 32 := 2#32
  let v380 : BitVec 32 := Scalar.addi v19 c2_i32_285
  let c4_i32_286 : BitVec 32 := 4#32
  let v381 : BitVec 32 := Scalar.remsi v380 c4_i32_286
  let c8_i32_292 : BitVec 32 := 8#32
  let v391 : BitVec 32 := Scalar.muli v381 c8_i32_292
  let c8_i32_5 : BitVec 32 := 8#32
  let v20 : BitVec 32 := Scalar.remsi v2 c8_i32_5
  let v392 : BitVec 32 := Scalar.addi v391 v20
  let c1_i32_297 : BitVec 32 := 1#32
  let v393 : BitVec 32 := Scalar.muli v392 c1_i32_297
  let v394 : BitVec 32 := Scalar.addi c0_i32_298 v393
  v394.toNat
def k0_dev20 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_303 : BitVec 32 := 3#32
  let v403 : BitVec 32 := Scalar.addi v19 c3_i32_303
  let c4_i32_304 : BitVec 32 := 4#32
  let v404 : BitVec 32 := Scalar.remsi v403 c4_i32_304
  let c8_i32_310 : BitVec 32 := 8#32
  let v414 : BitVec 32 := Scalar.muli v404 c8_i32_310
  let c8_i32_5 : BitVec 32 := 8#32
  let v20 : BitVec 32 := Scalar.remsi v2 c8_i32_5
  let v415 : BitVec 32 := Scalar.addi v414 v20
  let c1_i32_314 : BitVec 32 := 1#32
  let v416 : BitVec 32 := Scalar.muli v415 c1_i32_314
  let v417 : BitVec 32 := Scalar.addi c0_i32_315 v416
  v417.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c128_i32_190 : BitVec 32 := 128#32
  let v271 : BitVec 32 := Scalar.muli v20 c128_i32_190
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c32_i32_320 : BitVec 32 := 32#32
  let v426 : BitVec 32 := Scalar.muli v19 c32_i32_320
  let v427 : BitVec 32 := Scalar.addi v271 v426
  let v463 : Index := Scalar.indexCast v427
  let c0_360 : Index := 0#32
  ![v463.toNat, 0]
def k0_dev21 (d0 : Dev nD) : Nat :=
  let c0_i32_372 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_365 : BitVec 32 := 1#32
  let v476 : BitVec 32 := Scalar.addi v19 c1_i32_365
  let c4_i32_366 : BitVec 32 := 4#32
  let v477 : BitVec 32 := Scalar.remsi v476 c4_i32_366
  let c8_i32_367 : BitVec 32 := 8#32
  let v478 : BitVec 32 := Scalar.muli v477 c8_i32_367
  let c8_i32_5 : BitVec 32 := 8#32
  let v20 : BitVec 32 := Scalar.remsi v2 c8_i32_5
  let v479 : BitVec 32 := Scalar.addi v478 v20
  let c1_i32_371 : BitVec 32 := 1#32
  let v480 : BitVec 32 := Scalar.muli v479 c1_i32_371
  let v481 : BitVec 32 := Scalar.addi c0_i32_372 v480
  v481.toNat
def k0_dev22 (d0 : Dev nD) : Nat :=
  let c0_i32_381 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_375 : BitVec 32 := 2#32
  let v488 : BitVec 32 := Scalar.addi v19 c2_i32_375
  let c4_i32_376 : BitVec 32 := 4#32
  let v489 : BitVec 32 := Scalar.remsi v488 c4_i32_376
  let c8_i32_377 : BitVec 32 := 8#32
  let v490 : BitVec 32 := Scalar.muli v489 c8_i32_377
  let c8_i32_5 : BitVec 32 := 8#32
  let v20 : BitVec 32 := Scalar.remsi v2 c8_i32_5
  let v491 : BitVec 32 := Scalar.addi v490 v20
  let c1_i32_380 : BitVec 32 := 1#32
  let v492 : BitVec 32 := Scalar.muli v491 c1_i32_380
  let v493 : BitVec 32 := Scalar.addi c0_i32_381 v492
  v493.toNat
def k0_dev23 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_384 : BitVec 32 := 3#32
  let v500 : BitVec 32 := Scalar.addi v19 c3_i32_384
  let c4_i32_385 : BitVec 32 := 4#32
  let v501 : BitVec 32 := Scalar.remsi v500 c4_i32_385
  let c8_i32_386 : BitVec 32 := 8#32
  let v502 : BitVec 32 := Scalar.muli v501 c8_i32_386
  let c8_i32_5 : BitVec 32 := 8#32
  let v20 : BitVec 32 := Scalar.remsi v2 c8_i32_5
  let v503 : BitVec 32 := Scalar.addi v502 v20
  let c1_i32_389 : BitVec 32 := 1#32
  let v504 : BitVec 32 := Scalar.muli v503 c1_i32_389
  let v505 : BitVec 32 := Scalar.addi c0_i32_390 v504
  v505.toNat
def k0_off6 (d0 : Dev nD) (c0_i32_400 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let c128_i32_190 : BitVec 32 := 128#32
  let v271 : BitVec 32 := Scalar.muli v20 c128_i32_190
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v518 : BitVec 32 := Scalar.subi v19 c0_i32_400
  let c1_i32_401 : BitVec 32 := 1#32
  let v519 : BitVec 32 := Scalar.subi v518 c1_i32_401
  let c4_i32_402 : BitVec 32 := 4#32
  let v520 : BitVec 32 := Scalar.addi v519 c4_i32_402
  let c4_i32_403 : BitVec 32 := 4#32
  let v521 : BitVec 32 := Scalar.remsi v520 c4_i32_403
  let c32_i32_407 : BitVec 32 := 32#32
  let v525 : BitVec 32 := Scalar.muli v521 c32_i32_407
  let v526 : BitVec 32 := Scalar.addi v271 v525
  let v527 : Index := Scalar.indexCast v526
  let c0_408 : Index := 0#32
  ![v527.toNat, 0]
def k0_dev24 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_444 : BitVec 32 := 8#32
  let v570 : BitVec 32 := Scalar.muli v19 c8_i32_444
  let c8_i32_5 : BitVec 32 := 8#32
  let v20 : BitVec 32 := Scalar.remsi v2 c8_i32_5
  let c1_i32_445 : BitVec 32 := 1#32
  let v571 : BitVec 32 := Scalar.addi v20 c1_i32_445
  let c8_i32_446 : BitVec 32 := 8#32
  let v572 : BitVec 32 := Scalar.remsi v571 c8_i32_446
  let v573 : BitVec 32 := Scalar.addi v570 v572
  let c1_i32_449 : BitVec 32 := 1#32
  let v574 : BitVec 32 := Scalar.muli v573 c1_i32_449
  let v575 : BitVec 32 := Scalar.addi c0_i32_450 v574
  v575.toNat
def k0_dev25 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_453 : BitVec 32 := 8#32
  let v582 : BitVec 32 := Scalar.muli v19 c8_i32_453
  let c8_i32_5 : BitVec 32 := 8#32
  let v20 : BitVec 32 := Scalar.remsi v2 c8_i32_5
  let c2_i32_454 : BitVec 32 := 2#32
  let v583 : BitVec 32 := Scalar.addi v20 c2_i32_454
  let c8_i32_455 : BitVec 32 := 8#32
  let v584 : BitVec 32 := Scalar.remsi v583 c8_i32_455
  let v585 : BitVec 32 := Scalar.addi v582 v584
  let c1_i32_458 : BitVec 32 := 1#32
  let v586 : BitVec 32 := Scalar.muli v585 c1_i32_458
  let v587 : BitVec 32 := Scalar.addi c0_i32_459 v586
  v587.toNat
def k0_dev26 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_462 : BitVec 32 := 8#32
  let v594 : BitVec 32 := Scalar.muli v19 c8_i32_462
  let c8_i32_5 : BitVec 32 := 8#32
  let v20 : BitVec 32 := Scalar.remsi v2 c8_i32_5
  let c3_i32_463 : BitVec 32 := 3#32
  let v595 : BitVec 32 := Scalar.addi v20 c3_i32_463
  let c8_i32_464 : BitVec 32 := 8#32
  let v596 : BitVec 32 := Scalar.remsi v595 c8_i32_464
  let v597 : BitVec 32 := Scalar.addi v594 v596
  let c1_i32_467 : BitVec 32 := 1#32
  let v598 : BitVec 32 := Scalar.muli v597 c1_i32_467
  let v599 : BitVec 32 := Scalar.addi c0_i32_468 v598
  v599.toNat
def k0_dev27 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_471 : BitVec 32 := 8#32
  let v606 : BitVec 32 := Scalar.muli v19 c8_i32_471
  let c8_i32_5 : BitVec 32 := 8#32
  let v20 : BitVec 32 := Scalar.remsi v2 c8_i32_5
  let c4_i32_472 : BitVec 32 := 4#32
  let v607 : BitVec 32 := Scalar.addi v20 c4_i32_472
  let c8_i32_473 : BitVec 32 := 8#32
  let v608 : BitVec 32 := Scalar.remsi v607 c8_i32_473
  let v609 : BitVec 32 := Scalar.addi v606 v608
  let c1_i32_476 : BitVec 32 := 1#32
  let v610 : BitVec 32 := Scalar.muli v609 c1_i32_476
  let v611 : BitVec 32 := Scalar.addi c0_i32_477 v610
  v611.toNat
def k0_dev28 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_480 : BitVec 32 := 8#32
  let v618 : BitVec 32 := Scalar.muli v19 c8_i32_480
  let c8_i32_5 : BitVec 32 := 8#32
  let v20 : BitVec 32 := Scalar.remsi v2 c8_i32_5
  let c5_i32_481 : BitVec 32 := 5#32
  let v619 : BitVec 32 := Scalar.addi v20 c5_i32_481
  let c8_i32_482 : BitVec 32 := 8#32
  let v620 : BitVec 32 := Scalar.remsi v619 c8_i32_482
  let v621 : BitVec 32 := Scalar.addi v618 v620
  let c1_i32_485 : BitVec 32 := 1#32
  let v622 : BitVec 32 := Scalar.muli v621 c1_i32_485
  let v623 : BitVec 32 := Scalar.addi c0_i32_486 v622
  v623.toNat
def k0_dev29 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_489 : BitVec 32 := 8#32
  let v630 : BitVec 32 := Scalar.muli v19 c8_i32_489
  let c8_i32_5 : BitVec 32 := 8#32
  let v20 : BitVec 32 := Scalar.remsi v2 c8_i32_5
  let c6_i32_490 : BitVec 32 := 6#32
  let v631 : BitVec 32 := Scalar.addi v20 c6_i32_490
  let c8_i32_491 : BitVec 32 := 8#32
  let v632 : BitVec 32 := Scalar.remsi v631 c8_i32_491
  let v633 : BitVec 32 := Scalar.addi v630 v632
  let c1_i32_494 : BitVec 32 := 1#32
  let v634 : BitVec 32 := Scalar.muli v633 c1_i32_494
  let v635 : BitVec 32 := Scalar.addi c0_i32_495 v634
  v635.toNat
def k0_dev30 (d0 : Dev nD) : Nat :=
  let c0_i32_504 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_498 : BitVec 32 := 8#32
  let v642 : BitVec 32 := Scalar.muli v19 c8_i32_498
  let c8_i32_5 : BitVec 32 := 8#32
  let v20 : BitVec 32 := Scalar.remsi v2 c8_i32_5
  let c7_i32_499 : BitVec 32 := 7#32
  let v643 : BitVec 32 := Scalar.addi v20 c7_i32_499
  let c8_i32_500 : BitVec 32 := 8#32
  let v644 : BitVec 32 := Scalar.remsi v643 c8_i32_500
  let v645 : BitVec 32 := Scalar.addi v642 v644
  let c1_i32_503 : BitVec 32 := 1#32
  let v646 : BitVec 32 := Scalar.muli v645 c1_i32_503
  let v647 : BitVec 32 := Scalar.addi c0_i32_504 v646
  v647.toNat
def k0_off7 (d0 : Dev nD) (c0_i32_514 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v660 : BitVec 32 := Scalar.subi v20 c0_i32_514
  let c1_i32_515 : BitVec 32 := 1#32
  let v661 : BitVec 32 := Scalar.subi v660 c1_i32_515
  let c8_i32_516 : BitVec 32 := 8#32
  let v662 : BitVec 32 := Scalar.addi v661 c8_i32_516
  let c8_i32_517 : BitVec 32 := 8#32
  let v663 : BitVec 32 := Scalar.remsi v662 c8_i32_517
  let c128_i32_521 : BitVec 32 := 128#32
  let v667 : BitVec 32 := Scalar.muli v663 c128_i32_521
  let v668 : Index := Scalar.indexCast v667
  let c0_522 : Index := 0#32
  ![v668.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S1x1024x256x128 : Shape := ⟨4, ![1, 1024, 256, 128]⟩
abbrev S32768x1024 : Shape := ⟨2, ![32768, 1024]⟩
abbrev S1024x1024 : Shape := ⟨2, ![1024, 1024]⟩
abbrev S1024x256x128 : Shape := ⟨3, ![1024, 256, 128]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S256x1024x1024 : Shape := ⟨3, ![256, 1024, 1024]⟩
abbrev S256x1024 : Shape := ⟨2, ![256, 1024]⟩
abbrev S256x1024x1 : Shape := ⟨3, ![256, 1024, 1]⟩
abbrev S1x1024x1 : Shape := ⟨3, ![1, 1024, 1]⟩
abbrev S256x128x1024 : Shape := ⟨3, ![256, 128, 1024]⟩

abbrev nBuf : Space → Nat
  | .hbm => 145
  | .vmem => 0
  | .smem => 0
  | _ => 0

abbrev hbmTy0_0 (i : Nat) : BufTy := match i % 128 with
  | 0 => ⟨S1x1024x1024, .bf16⟩
  | 1 => ⟨S1024x32768, .bf16⟩
  | 2 => ⟨S1x1024x256x128, .bf16⟩
  | 3 => ⟨S1x1024x256x128, .bf16⟩
  | 4 => ⟨S32768x1024, .bf16⟩
  | 5 => ⟨S1024x1024, .bf16⟩
  | 6 => ⟨S1024x256x128, .bf16⟩
  | 7 => ⟨S1024x256x128, .bf16⟩
  | 8 => ⟨S1024x1024, .f32⟩
  | 9 => ⟨S1024x32768, .f32⟩
  | 10 => ⟨S1024x256x128, .f32⟩
  | 11 => ⟨S1024x256x128, .f32⟩
  | 12 => ⟨S32768x1024, .f32⟩
  | 13 => ⟨S1024x32768, .f32⟩
  | 14 => ⟨S1024x256x128, .f32⟩
  | 15 => ⟨S1024, .i32⟩
  | 16 => ⟨S_, .i32⟩
  | 17 => ⟨S_, .i32⟩
  | 18 => ⟨S1024, .i32⟩
  | 19 => ⟨S1024, .i32⟩
  | 20 => ⟨S1024, .i32⟩
  | 21 => ⟨S_, .i32⟩
  | 22 => ⟨S1024, .i32⟩
  | 23 => ⟨S1024, .i1⟩
  | 24 => ⟨S1024, .i32⟩
  | 25 => ⟨S1024, .i32⟩
  | 26 => ⟨S_, .i32⟩
  | 27 => ⟨S1024, .i32⟩
  | 28 => ⟨S1024, .i1⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S1024, .i32⟩
  | 36 => ⟨S_, .i32⟩
  | 37 => ⟨S_, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i1⟩
  | 44 => ⟨S1024, .i32⟩
  | 45 => ⟨S1024, .i32⟩
  | 46 => ⟨S_, .i32⟩
  | 47 => ⟨S1024, .i32⟩
  | 48 => ⟨S1024, .i1⟩
  | 49 => ⟨S1024, .i1⟩
  | 50 => ⟨S_, .i32⟩
  | 51 => ⟨S1024, .i32⟩
  | 52 => ⟨S1024, .i32⟩
  | 53 => ⟨S1024, .i32⟩
  | 54 => ⟨S1x1024, .i32⟩
  | 55 => ⟨S1024x1024, .i32⟩
  | 56 => ⟨S1024x1024, .i32⟩
  | 57 => ⟨S1024x1024, .i1⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S1x1024, .i32⟩
  | 65 => ⟨S1x1024, .i32⟩
  | 66 => ⟨S_, .i32⟩
  | 67 => ⟨S1x1024, .i32⟩
  | 68 => ⟨S1x1024, .i1⟩
  | 69 => ⟨S_, .i32⟩
  | 70 => ⟨S1x1024, .i32⟩
  | 71 => ⟨S1x1024, .i1⟩
  | 72 => ⟨S_, .i32⟩
  | 73 => ⟨S_, .i1⟩
  | 74 => ⟨S1x1024, .i1⟩
  | 75 => ⟨S1x1024, .i1⟩
  | 76 => ⟨S1x1024, .i1⟩
  | 77 => ⟨S1x1024, .i32⟩
  | 78 => ⟨S1x1024, .i32⟩
  | 79 => ⟨S1x1024, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S1024x1, .i32⟩
  | 87 => ⟨S1024x1, .i32⟩
  | 88 => ⟨S_, .i32⟩
  | 89 => ⟨S1024x1, .i32⟩
  | 90 => ⟨S1024x1, .i1⟩
  | 91 => ⟨S_, .i32⟩
  | 92 => ⟨S1024x1, .i32⟩
  | 93 => ⟨S1024x1, .i1⟩
  | 94 => ⟨S_, .i32⟩
  | 95 => ⟨S_, .i1⟩
  | 96 => ⟨S1024x1, .i1⟩
  | 97 => ⟨S1024x1, .i1⟩
  | 98 => ⟨S1024x1, .i1⟩
  | 99 => ⟨S1024x1, .i32⟩
  | 100 => ⟨S1024x1, .i32⟩
  | 101 => ⟨S1024x1, .i32⟩
  | 102 => ⟨S1024x1024, .i32⟩
  | 103 => ⟨S1024x1024, .i32⟩
  | 104 => ⟨S1024x1024, .i1⟩
  | 105 => ⟨S1024x1024, .i1⟩
  | 106 => ⟨S256x1024x1024, .f32⟩
  | 107 => ⟨S_, .f32⟩
  | 108 => ⟨S256x1024x1024, .f32⟩
  | 109 => ⟨S256x1024x1024, .f32⟩
  | 110 => ⟨S1x1024x1024, .i1⟩
  | 111 => ⟨S_, .f32⟩
  | 112 => ⟨S_, .f32⟩
  | 113 => ⟨S256x1024x1024, .i1⟩
  | 114 => ⟨S256x1024x1024, .f32⟩
  | 115 => ⟨S256x1024x1024, .f32⟩
  | 116 => ⟨S_, .f32⟩
  | 117 => ⟨S256x1024, .f32⟩
  | 118 => ⟨S256x1024x1, .f32⟩
  | 119 => ⟨S256x1024x1024, .f32⟩
  | 120 => ⟨S256x1024x1024, .f32⟩
  | 121 => ⟨S256x1024x1024, .f32⟩
  | 122 => ⟨S_, .i1⟩
  | 123 => ⟨S1024, .i1⟩
  | 124 => ⟨S1x1024x1, .i1⟩
  | 125 => ⟨S_, .f32⟩
  | 126 => ⟨S256x1024, .f32⟩
  | 127 => ⟨S256x1024x1, .f32⟩
  | _ => ⟨S1x1024x1024, .bf16⟩

abbrev hbmTy0_1 (i : Nat) : BufTy := match i % 128 with
  | 0 => ⟨S_, .f32⟩
  | 1 => ⟨S_, .f32⟩
  | 2 => ⟨S256x1024x1, .i1⟩
  | 3 => ⟨S256x1024x1, .f32⟩
  | 4 => ⟨S256x1024x1, .f32⟩
  | 5 => ⟨S256x1024x1024, .f32⟩
  | 6 => ⟨S256x1024x1024, .f32⟩
  | 7 => ⟨S1x1024x1, .i1⟩
  | 8 => ⟨S_, .f32⟩
  | 9 => ⟨S_, .f32⟩
  | 10 => ⟨S256x1024x1024, .i1⟩
  | 11 => ⟨S256x1024x1024, .f32⟩
  | 12 => ⟨S256x1024x1024, .f32⟩
  | 13 => ⟨S256x128x1024, .f32⟩
  | 14 => ⟨S1024x256x128, .f32⟩
  | 15 => ⟨S1024x32768, .f32⟩
  | 16 => ⟨S1024x1024, .f32⟩
  | _ => ⟨S1x1024x1024, .bf16⟩

abbrev hbmTy (i : Nat) : BufTy := match i / 128 with
  | 0 => hbmTy0_0 i
  | 1 => hbmTy0_1 i
  | _ => ⟨S1x1024x1024, .bf16⟩

abbrev bufTy : (tb : Table) → Fin (tcTables nBuf tb) → BufTy
  | .hbm, ⟨i, _⟩ => hbmTy i
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_c_1 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v19 : Ref sig .tc := ⟨.hbm, 79, rfl⟩
abbrev main_c_2 : Ref sig .tc := ⟨.hbm, 80, rfl⟩
abbrev main_call3_v0 : Ref sig .tc := ⟨.hbm, 81, rfl⟩
abbrev main_call3_c : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_c_1 : Ref sig .tc := ⟨.hbm, 88, rfl⟩
abbrev main_call3_v5 : Ref sig .tc := ⟨.hbm, 89, rfl⟩
abbrev main_call3_v6 : Ref sig .tc := ⟨.hbm, 90, rfl⟩
abbrev main_call3_c_2 : Ref sig .tc := ⟨.hbm, 91, rfl⟩
abbrev main_call3_v7 : Ref sig .tc := ⟨.hbm, 92, rfl⟩
abbrev main_call3_v8 : Ref sig .tc := ⟨.hbm, 93, rfl⟩
abbrev main_call3_c_3 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_v25 : Ref sig .tc := ⟨.hbm, 106, rfl⟩
abbrev main_cst : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_cst_3 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v29 : Ref sig .tc := ⟨.hbm, 115, rfl⟩
abbrev main_cst_4 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_c_5 : Ref sig .tc := ⟨.hbm, 122, rfl⟩
abbrev main_v35 : Ref sig .tc := ⟨.hbm, 123, rfl⟩
abbrev main_v36 : Ref sig .tc := ⟨.hbm, 124, rfl⟩
abbrev main_cst_6 : Ref sig .tc := ⟨.hbm, 125, rfl⟩
abbrev main_v37 : Ref sig .tc := ⟨.hbm, 126, rfl⟩
abbrev main_v38 : Ref sig .tc := ⟨.hbm, 127, rfl⟩
abbrev main_cst_7 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v39 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_cst_8 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩

abbrev nD : Nat := 1
abbrev τ : Topo := Topo.v7x

variable {F : FTy → Type} [FloatOps F]
-- ==== Proof.Mesh.lean ====
/-
  The mesh of thirty-two devices as eight-device planes and four-device columns: the ten neighbours of a device, the
  twenty transfers it starts, the semaphore cells those transfers use, and the devices the kernel's address arithmetic names.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace AllReduce

open Cert.KernelIdeal Cert.KernelIdeal.Gen
open Idealize.ShloMosaic
open Idealize.ShloMosaic.TcCoe
open Idealize.SL Idealize.SL.RA

/-! ## Neighbours -/

/-- The ten neighbours of a device: `inl j` is `j + 1` places further round its plane of eight, `inr j` is `j + 1` planes
    further along its column of four. -/
abbrev Pe : Type := Fin 7 ⊕ Fin 3

set_option backward.proofsInPublic true in
/-- The neighbour of device `c` in direction `y`. -/
def peer : Pe → Dev nD → Dev nD
  | .inl j, c => ⟨8 * (c.val / 8) + (c.val % 8 + j.val + 1) % 8, by have : c.val < 32 := c.isLt; show _ < 32; omega⟩
  | .inr j, c => ⟨8 * ((c.val / 8 + j.val + 1) % 4) + c.val % 8, by have : c.val < 32 := c.isLt; show _ < 32; omega⟩

/-- The opposite direction. -/
def opp : Pe → Pe
  | .inl j => .inl j.rev
  | .inr j => .inr j.rev

theorem opp_opp (y : Pe) : opp (opp y) = y := by revert y; decide
/-- Going to a neighbour and back is staying. -/
theorem peer_opp (y : Pe) (c : Dev nD) : peer y (peer (opp y) c) = c := by revert y c; decide +kernel
theorem opp_peer (y : Pe) (c : Dev nD) : peer (opp y) (peer y c) = c := by revert y c; decide +kernel

/-- Direction `y` as a permutation of the devices. -/
def peerE (y : Pe) : Dev nD ≃ Dev nD := ⟨peer y, peer (opp y), opp_peer y, peer_opp y⟩
/-- Reversing the direction, as a permutation. -/
def oppE : Pe ≃ Pe := ⟨opp, opp, opp_opp, opp_opp⟩

/-! ## Transfers -/

/-- The twenty transfers a device starts: one to each neighbour in the reduction (`false`) and one in the gathering
    (`true`). -/
abbrev Tr : Type := Bool × Pe

/-- The position of a transfer's semaphores in the two semaphore arrays. -/
def num : Tr → Fin 20
  | (false, .inl j) => ⟨j.val, by omega⟩
  | (false, .inr j) => ⟨7 + j.val, by omega⟩
  | (true, .inr j) => ⟨10 + j.val, by omega⟩
  | (true, .inl j) => ⟨13 + j.val, by omega⟩

theorem num_inj : Function.Injective num := by decide

/-- The transfers in the order the kernel starts them, waits for their arrival and waits for their departure. -/
def order : List Tr :=
  [(false, .inl 0), (false, .inl 1), (false, .inl 2), (false, .inl 3), (false, .inl 4), (false, .inl 5), (false, .inl 6),
   (false, .inr 0), (false, .inr 1), (false, .inr 2), (true, .inr 0), (true, .inr 1), (true, .inr 2),
   (true, .inl 0), (true, .inl 1), (true, .inl 2), (true, .inl 3), (true, .inl 4), (true, .inl 5), (true, .inl 6)]

/-- The ten directions in the order the kernel signals them. -/
def dirs : List Pe := [.inl 0, .inl 1, .inl 2, .inl 3, .inl 4, .inl 5, .inl 6, .inr 0, .inr 1, .inr 2]

theorem order_nodup : order.Nodup := by decide
theorem mem_order (s : Tr) : s ∈ order := by rcases s with ⟨_ | _, j | j⟩ <;> fin_cases j <;> simp [order, dirs]
theorem dirs_nodup : dirs.Nodup := by decide
theorem mem_dirs (y : Pe) : y ∈ dirs := by rcases y with j | j <;> fin_cases j <;> simp [order, dirs]

/-- The device whose transfer `s` lands on `c`. -/
abbrev sender (s : Tr) (c : Dev nD) : Dev nD := peer (opp s.2) c

/-! ## Semaphore cells -/

/-- The barrier semaphore. -/
abbrev barS : Sem sig := (SemArray.scalar (sig.barrier 0 rfl) : Sems sig S_).sem

/-- The semaphores of the protocol on one device: the barrier (`none`), the departure semaphore of each transfer
    (`false`) and the arrival semaphore of each transfer (`true`). -/
abbrev CK : Type := Option (Bool × Tr)

set_option backward.proofsInPublic true in
/-- The transfer semaphores by kind and transfer. -/
def xsem : Bool × Tr → DmaSem sig
  | (false, s) => ⟨3 + (num s).val, by have := (num s).isLt; show _ < 43; omega⟩
  | (true, s) => ⟨23 + (num s).val, by have := (num s).isLt; show _ < 43; omega⟩

theorem xsem_inj : Function.Injective xsem := by decide +kernel

/-- The scoped semaphores of the kernel itself. -/
abbrev osem (k : Bool × Tr) : SemLoc sig := .dma (xsem k)

/-- All the semaphores of the protocol. -/
def csem : CK → SemLoc sig
  | none => .reg barS
  | some k => osem k

theorem csem_inj : Function.Injective csem := by
  rintro (_ | a) (_ | b) h
  · rfl
  · exact absurd h (by simp [csem, osem])
  · exact absurd h (by simp [csem, osem])
  · simp only [csem, osem, SemLoc.dma.injEq] at h; rw [xsem_inj h]

/-- The cells of the protocol: a device and one of its semaphores. -/
abbrev kcell (ck : Dev nD × CK) : GSem nD τ sig := ((ck.1 : Thread nD τ), csem ck.2)

theorem kcell_inj : Function.Injective kcell := by
  rintro ⟨c, k⟩ ⟨c', k'⟩ h
  exact Prod.ext (congrArg (fun g : GSem nD τ sig => g.1.1) h) (csem_inj (congrArg Prod.snd h))

abbrev barCell (c : Dev nD) : GSem nD τ sig := kcell (c, none)
abbrev sendCell (c : Dev nD) (s : Tr) : GSem nD τ sig := kcell (c, some (false, s))
abbrev recvCell (c : Dev nD) (s : Tr) : GSem nD τ sig := kcell (c, some (true, s))

/-! ## The devices the kernel names -/

theorem dev1_eq (c : Dev nD) : (⟨k0_dev1 c, k0_dev1_lt c⟩ : Dev nD) = peer (.inl 0) c := by revert c; decide +kernel
theorem dev2_eq (c : Dev nD) : (⟨k0_dev2 c, k0_dev2_lt c⟩ : Dev nD) = peer (.inl 1) c := by revert c; decide +kernel
theorem dev3_eq (c : Dev nD) : (⟨k0_dev3 c, k0_dev3_lt c⟩ : Dev nD) = peer (.inl 2) c := by revert c; decide +kernel
theorem dev4_eq (c : Dev nD) : (⟨k0_dev4 c, k0_dev4_lt c⟩ : Dev nD) = peer (.inl 3) c := by revert c; decide +kernel
theorem dev5_eq (c : Dev nD) : (⟨k0_dev5 c, k0_dev5_lt c⟩ : Dev nD) = peer (.inl 4) c := by revert c; decide +kernel
theorem dev6_eq (c : Dev nD) : (⟨k0_dev6 c, k0_dev6_lt c⟩ : Dev nD) = peer (.inl 5) c := by revert c; decide +kernel
theorem dev7_eq (c : Dev nD) : (⟨k0_dev7 c, k0_dev7_lt c⟩ : Dev nD) = peer (.inl 6) c := by revert c; decide +kernel
theorem dev8_eq (c : Dev nD) : (⟨k0_dev8 c, k0_dev8_lt c⟩ : Dev nD) = peer (.inr 0) c := by revert c; decide +kernel
theorem dev9_eq (c : Dev nD) : (⟨k0_dev9 c, k0_dev9_lt c⟩ : Dev nD) = peer (.inr 1) c := by revert c; decide +kernel
theorem dev10_eq (c : Dev nD) : (⟨k0_dev10 c, k0_dev10_lt c⟩ : Dev nD) = peer (.inr 2) c := by revert c; decide +kernel
theorem dev11_eq (c : Dev nD) : (⟨k0_dev11 c, k0_dev11_lt c⟩ : Dev nD) = peer (.inl 0) c := by revert c; decide +kernel
theorem dev12_eq (c : Dev nD) : (⟨k0_dev12 c, k0_dev12_lt c⟩ : Dev nD) = peer (.inl 1) c := by revert c; decide +kernel
theorem dev13_eq (c : Dev nD) : (⟨k0_dev13 c, k0_dev13_lt c⟩ : Dev nD) = peer (.inl 2) c := by revert c; decide +kernel
theorem dev14_eq (c : Dev nD) : (⟨k0_dev14 c, k0_dev14_lt c⟩ : Dev nD) = peer (.inl 3) c := by revert c; decide +kernel
theorem dev15_eq (c : Dev nD) : (⟨k0_dev15 c, k0_dev15_lt c⟩ : Dev nD) = peer (.inl 4) c := by revert c; decide +kernel
theorem dev16_eq (c : Dev nD) : (⟨k0_dev16 c, k0_dev16_lt c⟩ : Dev nD) = peer (.inl 5) c := by revert c; decide +kernel
theorem dev17_eq (c : Dev nD) : (⟨k0_dev17 c, k0_dev17_lt c⟩ : Dev nD) = peer (.inl 6) c := by revert c; decide +kernel
theorem dev18_eq (c : Dev nD) : (⟨k0_dev18 c, k0_dev18_lt c⟩ : Dev nD) = peer (.inr 0) c := by revert c; decide +kernel
theorem dev19_eq (c : Dev nD) : (⟨k0_dev19 c, k0_dev19_lt c⟩ : Dev nD) = peer (.inr 1) c := by revert c; decide +kernel
theorem dev20_eq (c : Dev nD) : (⟨k0_dev20 c, k0_dev20_lt c⟩ : Dev nD) = peer (.inr 2) c := by revert c; decide +kernel
theorem dev21_eq (c : Dev nD) : (⟨k0_dev21 c, k0_dev21_lt c⟩ : Dev nD) = peer (.inr 0) c := by revert c; decide +kernel
theorem dev22_eq (c : Dev nD) : (⟨k0_dev22 c, k0_dev22_lt c⟩ : Dev nD) = peer (.inr 1) c := by revert c; decide +kernel
theorem dev23_eq (c : Dev nD) : (⟨k0_dev23 c, k0_dev23_lt c⟩ : Dev nD) = peer (.inr 2) c := by revert c; decide +kernel
theorem dev24_eq (c : Dev nD) : (⟨k0_dev24 c, k0_dev24_lt c⟩ : Dev nD) = peer (.inl 0) c := by revert c; decide +kernel
theorem dev25_eq (c : Dev nD) : (⟨k0_dev25 c, k0_dev25_lt c⟩ : Dev nD) = peer (.inl 1) c := by revert c; decide +kernel
theorem dev26_eq (c : Dev nD) : (⟨k0_dev26 c, k0_dev26_lt c⟩ : Dev nD) = peer (.inl 2) c := by revert c; decide +kernel
theorem dev27_eq (c : Dev nD) : (⟨k0_dev27 c, k0_dev27_lt c⟩ : Dev nD) = peer (.inl 3) c := by revert c; decide +kernel
theorem dev28_eq (c : Dev nD) : (⟨k0_dev28 c, k0_dev28_lt c⟩ : Dev nD) = peer (.inl 4) c := by revert c; decide +kernel
theorem dev29_eq (c : Dev nD) : (⟨k0_dev29 c, k0_dev29_lt c⟩ : Dev nD) = peer (.inl 5) c := by revert c; decide +kernel
theorem dev30_eq (c : Dev nD) : (⟨k0_dev30 c, k0_dev30_lt c⟩ : Dev nD) = peer (.inl 6) c := by revert c; decide +kernel

/-! ## The row blocks the kernel names -/

/-- The place of a device in its plane, which is also the chunk of 128 rows it reduces. -/
abbrev pl (c : Dev nD) : ℕ := c.val % 8
/-- The plane of a device, which is also the block of 32 rows of its chunk that it finishes. -/
abbrev zc (c : Dev nD) : ℕ := c.val / 8

theorem pl_lt (c : Dev nD) : pl c < 8 := Nat.mod_lt _ (by decide)
theorem zc_lt (c : Dev nD) : zc c < 4 := by have : c.val < 32 := c.isLt; unfold zc; omega

theorem off1_eq (c : Dev nD) (r : Fin 7) : k0_off1 c (BitVec.ofNat 32 (1 + r.val)) = ![128 * pl (peer (.inl r) c), 0] := by
  revert c r; decide +kernel
theorem off2_eq (c : Dev nD) (r : Fin 7) : k0_off2 c (BitVec.ofNat 32 (1 + r.val)) = ![128 * pl (peer (.inl r) c), 0] := by
  revert c r; decide +kernel
theorem off3_eq (c : Dev nD) : k0_off3 c = ![128 * pl c, 0] := by revert c; decide +kernel
theorem off4_eq (c : Dev nD) (r : Fin 3) :
    k0_off4 c (BitVec.ofNat 32 (1 + r.val)) = ![128 * pl c + 32 * zc (peer (.inr r) c), 0] := by
  revert c r; decide +kernel
theorem off5_eq (c : Dev nD) : k0_off5 c = ![128 * pl c + 32 * zc c, 0] := by revert c; decide +kernel
theorem off6_eq (c : Dev nD) (r : Fin 3) :
    k0_off6 c (BitVec.ofNat 32 r.val) = ![128 * pl c + 32 * zc (peer (opp (.inr r)) c), 0] := by
  revert c r; decide +kernel
theorem off7_eq (c : Dev nD) (r : Fin 7) : k0_off7 c (BitVec.ofNat 32 r.val) = ![128 * pl (peer (opp (.inl r)) c), 0] := by
  revert c r; decide +kernel

end AllReduce
-- ==== Proof.Contents.lean ====
/-
  What every buffer of the kernel holds, as functions of the two staged operands of all devices: the partial product of
  each device, the sums each step of the reduction forms, the messages of the twenty transfers, and the result.
-/
module

public import proofs.«01_k».proof.Proof.Mesh
public import Idealize.ShloMosaic.Lib.ValueIdxCore
public import Idealize.ShloMosaic.Lib.Pipeline.Value

@[expose] public section

noncomputable section

namespace AllReduce

open Cert.KernelIdeal Cert.KernelIdeal.Gen
open Idealize.ShloMosaic
open Idealize.ShloMosaic.ValueIdx

/-! ## Row blocks of a matrix -/

section Rows
variable {α : Type} {N n k : ℕ}

/-- The `n` rows from row `r` of a matrix of `N` rows. -/
def rowsAt [NeZero N] (n r : ℕ) (X : (⟨2, ![N, 1024]⟩ : Shape).Idx → α) : (⟨2, ![n, 1024]⟩ : Shape).Idx → α :=
  fun x => X (ix2 (Fin.ofNat N (r + (x 0).val)) (x 1))

/-- The matrix `X` with the `n` rows from row `r` replaced by `w`. -/
def putRows (n r : ℕ) (w : (⟨2, ![n, 1024]⟩ : Shape).Idx → α) (X : (⟨2, ![N, 1024]⟩ : Shape).Idx → α) :
    (⟨2, ![N, 1024]⟩ : Shape).Idx → α :=
  fun i => if h : r ≤ (i 0).val ∧ (i 0).val < r + n then w (ix2 ⟨(i 0).val - r, by omega⟩ (i 1)) else X i

/-- Row `r + a` of the replaced matrix is row `a` of the replacement. -/
theorem putRows_in {n r : ℕ} (w : (⟨2, ![n, 1024]⟩ : Shape).Idx → α) (X : (⟨2, ![N, 1024]⟩ : Shape).Idx → α)
    (i : (⟨2, ![N, 1024]⟩ : Shape).Idx) (x : (⟨2, ![n, 1024]⟩ : Shape).Idx) (h0 : (i 0).val = r + (x 0).val)
    (h1 : (i 1).val = (x 1).val) : putRows n r w X i = w x := by
  have hx := idx2_lt0 x
  unfold putRows
  rw [dif_pos ⟨by omega, by omega⟩]
  refine congrArg w (Eq.trans ?_ (eq_ix2 x).symm)
  congr 1
  · exact Fin.ext (by show (i 0).val - r = (x 0).val; omega)
  · exact Fin.ext h1

/-- Outside the replaced rows the matrix is as it was. -/
theorem putRows_out {n r : ℕ} (w : (⟨2, ![n, 1024]⟩ : Shape).Idx → α) (X : (⟨2, ![N, 1024]⟩ : Shape).Idx → α)
    (i : (⟨2, ![N, 1024]⟩ : Shape).Idx) (h : (i 0).val < r ∨ r + n ≤ (i 0).val) : putRows n r w X i = X i :=
  dif_neg (by omega)

/-- Reading the rows just replaced. -/
theorem rowsAt_putRows [NeZero N] (r : ℕ) (h : r + n ≤ N) (w : (⟨2, ![n, 1024]⟩ : Shape).Idx → α)
    (X : (⟨2, ![N, 1024]⟩ : Shape).Idx → α) : rowsAt n r (putRows n r w X) = w := by
  funext x
  have hx := idx2_lt0 x
  exact putRows_in w X _ x (by show (r + (x 0).val) % N = _; exact Nat.mod_eq_of_lt (by omega)) rfl

/-- Reading rows away from those replaced. -/
theorem rowsAt_putRows_out [NeZero N] {r t : ℕ} (h : t + k ≤ N) (hd : t + k ≤ r ∨ r + n ≤ t) (w : (⟨2, ![n, 1024]⟩ : Shape).Idx → α)
    (X : (⟨2, ![N, 1024]⟩ : Shape).Idx → α) : rowsAt k t (putRows n r w X) = rowsAt k t X := by
  funext x
  have hx := idx2_lt0 x
  exact putRows_out w X _ (by show (t + (x 0).val) % N < r ∨ r + n ≤ (t + (x 0).val) % N; rw [Nat.mod_eq_of_lt (by omega)]; omega)

/-- Reading some of the rows just replaced. -/
theorem rowsAt_putRows_in [NeZero N] [NeZero n] {r t : ℕ} (hr : r + n ≤ N) (ht : t + k ≤ n) (w : (⟨2, ![n, 1024]⟩ : Shape).Idx → α)
    (X : (⟨2, ![N, 1024]⟩ : Shape).Idx → α) : rowsAt k (r + t) (putRows n r w X) = rowsAt k t w := by
  funext x
  have hx := idx2_lt0 x
  refine putRows_in w X _ _ ?_ rfl
  show (r + t + (x 0).val) % N = r + (t + (x 0).val) % n
  rw [Nat.mod_eq_of_lt (by omega), Nat.mod_eq_of_lt (by omega)]
  omega

end Rows

/-! ## The reduction's values -/

/-- The device at place `q` of plane `z`. -/
def dv (z q : ℕ) : Dev nD := ⟨(8 * z + q) % 32, Nat.mod_lt _ (by decide)⟩

theorem dv_peer (r : Fin 3) (c : Dev nD) : dv (zc (peer (opp (.inr r)) c)) (pl c) = peer (opp (.inr r)) c := by
  revert r c; decide +kernel
theorem dv_peer_pl (r : Fin 7) (c : Dev nD) : dv (zc c) (pl (peer (opp (.inl r)) c)) = peer (opp (.inl r)) c := by
  revert r c; decide +kernel

/-- The shape of a transfer's message: a chunk of 128 rows within the plane, a block of 32 rows along the column. -/
abbrev shp : Tr → Shape
  | (_, .inl _) => S128x1024
  | (_, .inr _) => S32x1024

section Values
variable {F : FTy → Type} [FloatOps F]
variable (X W : Dev nD → FVec F S1024x1024 .bf16)

/-- A chunk of 128 rows times the square matrix, accumulated in single precision. -/
def prod (a : FVec F S128x1024 .bf16) (w : FVec F S1024x1024 .bf16) : FVec F S128x1024 .f32 :=
  matmul dot_S128x1024_S1024x1024_S128x1024_1_0_0_1_n_n none a w (constant S128x1024 .f32 0x00000000#32)

/-- Chunk `e` of device `d`'s partial product. -/
def part (d : Dev nD) (e : ℕ) : FVec F S128x1024 .f32 := prod (rowsAt 128 (128 * e) (X d)) (W d)

/-- The message of device `c` to its plane neighbour `j` in the reduction: the neighbour's chunk of the partial product. -/
def msgA (j : Fin 7) (c : Dev nD) : FVec F S128x1024 .bf16 := truncf .bf16 (part X W c (pl (peer (.inl j) c))) bitsLt_bf16_f32

/-- What arrives at `c` in slot `j` of that step, widened. -/
def inA (c : Dev nD) (j : Fin 7) : FVec F S128x1024 .f32 := extf .f32 (msgA X W j (sender (false, .inl j) c)) bitsLt_bf16_f32

/-- The sum of the first five arrivals. -/
def five (c : Dev nD) : FVec F S128x1024 .f32 :=
  addf (addf (addf (addf (inA X W c 0) (inA X W c 1)) (inA X W c 2)) (inA X W c 3)) (inA X W c 4)

/-- The chunk of device `c` summed over its plane. -/
def acc1 (c : Dev nD) : FVec F S128x1024 .f32 :=
  addf (part X W c (pl c)) (addf (addf (five X W c) (inA X W c 5)) (inA X W c 6))

/-- The message of device `c` to its column neighbour `j` in the reduction: the neighbour's block of the chunk. -/
def msgB (j : Fin 3) (c : Dev nD) : FVec F S32x1024 .bf16 :=
  truncf .bf16 (rowsAt 32 (32 * zc (peer (.inr j) c)) (acc1 X W c)) bitsLt_bf16_f32

/-- What arrives at `c` in slot `j` of that step, widened. -/
def inB (c : Dev nD) (j : Fin 3) : FVec F S32x1024 .f32 := extf .f32 (msgB X W j (sender (false, .inr j) c)) bitsLt_bf16_f32

/-- The block of device `c` summed over all devices. -/
def zsum (c : Dev nD) : FVec F S32x1024 .f32 :=
  addf (rowsAt 32 (32 * zc c) (acc1 X W c)) (addf (addf (inB X W c 0) (inB X W c 1)) (inB X W c 2))

/-- The finished block rounded to half width: the message of `c` along its column in the gathering. -/
def zag (c : Dev nD) : FVec F S32x1024 .bf16 := truncf .bf16 (zsum X W c) bitsLt_bf16_f32

/-- The chunk of device `c` after the gathering along its column: its own block in full, the others as they arrived. -/
def own (c : Dev nD) : FVec F S128x1024 .f32 := fun x =>
  if (x 0).val / 32 = zc c then zsum X W c (ix2 (Fin.ofNat 32 (x 0).val) (x 1))
  else extf .f32 (zag X W (dv ((x 0).val / 32) (pl c))) bitsLt_bf16_f32 (ix2 (Fin.ofNat 32 (x 0).val) (x 1))

/-- The finished chunk rounded to half width: the message of `c` round its plane in the gathering. -/
def pag (c : Dev nD) : FVec F S128x1024 .bf16 := truncf .bf16 (own X W c) bitsLt_bf16_f32

/-- The result on device `c`: its own chunk in full, the others as they arrived. -/
def outAt (c : Dev nD) : FVec F S1024x1024 .f32 := fun i =>
  if (i 0).val / 128 = pl c then own X W c (ix2 (Fin.ofNat 128 (i 0).val) (i 1))
  else extf .f32 (pag X W (dv (zc c) ((i 0).val / 128))) bitsLt_bf16_f32 (ix2 (Fin.ofNat 128 (i 0).val) (i 1))

/-- The message of transfer `s` of device `c`. -/
def msg : (s : Tr) → Dev nD → FVec F (shp s) .bf16
  | (false, .inl j), c => msgA X W j c
  | (false, .inr j), c => msgB X W j c
  | (true, .inr j), c => zag X W c
  | (true, .inl j), c => pag X W c

/-! ## The result buffer, step by step -/

/-- The result buffer after the reduction: the chunk of `c` summed over its plane, then its block summed over all. -/
def outB (c : Dev nD) (X₀ : FVec F S1024x1024 .f32) : FVec F S1024x1024 .f32 :=
  putRows 32 (128 * pl c + 32 * zc c) (zsum X W c) (putRows 128 (128 * pl c) (acc1 X W c) X₀)

/-- The write of the column arrival in slot `r`. -/
def putC (c : Dev nD) (r : Fin 3) (Y : FVec F S1024x1024 .f32) : FVec F S1024x1024 .f32 :=
  putRows 32 (128 * pl c + 32 * zc (peer (opp (.inr r)) c)) (extf .f32 (zag X W (sender (true, .inr r) c)) bitsLt_bf16_f32) Y

/-- The write of the plane arrival in slot `r`. -/
def putD (c : Dev nD) (r : Fin 7) (Y : FVec F S1024x1024 .f32) : FVec F S1024x1024 .f32 :=
  putRows 128 (128 * pl (peer (opp (.inl r)) c)) (extf .f32 (pag X W (sender (true, .inl r) c)) bitsLt_bf16_f32) Y

/-- A block written by `putC` reads back as the arrival. -/
theorem putC_at (c : Dev nD) (r : Fin 3) (Y : FVec F S1024x1024 .f32) (i : S1024x1024.Idx)
    (h : (i 0).val / 32 = 4 * pl c + zc (peer (opp (.inr r)) c)) :
    putC X W c r Y i = extf .f32 (zag X W (dv ((i 0).val / 32 % 4) (pl c))) bitsLt_bf16_f32 (ix2 (Fin.ofNat 32 (i 0).val) (i 1)) := by
  have hz := zc_lt (peer (opp (.inr r)) c)
  unfold putC
  rw [show (i 0).val / 32 % 4 = zc (peer (opp (.inr r)) c) by omega, dv_peer]
  exact putRows_in _ _ _ _ (by show (i 0).val = _ + (i 0).val % 32; omega) rfl

theorem putC_out (c : Dev nD) (r : Fin 3) (Y : FVec F S1024x1024 .f32) (i : S1024x1024.Idx)
    (h : (i 0).val / 32 ≠ 4 * pl c + zc (peer (opp (.inr r)) c)) : putC X W c r Y i = Y i :=
  putRows_out _ _ _ (by omega)

/-- A chunk written by `putD` reads back as the arrival. -/
theorem putD_at (c : Dev nD) (r : Fin 7) (Y : FVec F S1024x1024 .f32) (i : S1024x1024.Idx)
    (h : (i 0).val / 128 = pl (peer (opp (.inl r)) c)) :
    putD X W c r Y i = extf .f32 (pag X W (dv (zc c) ((i 0).val / 128))) bitsLt_bf16_f32 (ix2 (Fin.ofNat 128 (i 0).val) (i 1)) := by
  unfold putD
  rw [h, dv_peer_pl]
  exact putRows_in _ _ _ _ (by show (i 0).val = _ + (i 0).val % 128; omega) rfl

theorem putD_out (c : Dev nD) (r : Fin 7) (Y : FVec F S1024x1024 .f32) (i : S1024x1024.Idx)
    (h : (i 0).val / 128 ≠ pl (peer (opp (.inl r)) c)) : putD X W c r Y i = Y i :=
  putRows_out _ _ _ (by omega)

/-- The four planes are a device's own and its three column neighbours'. -/
theorem plane_cases (c : Dev nD) (b : Fin 4) : b.val ≠ zc c →
    b.val = zc (peer (opp (.inr 0)) c) ∨ b.val = zc (peer (opp (.inr 1)) c) ∨ b.val = zc (peer (opp (.inr 2)) c) := by
  revert c b; decide +kernel
/-- The eight places are a device's own and its seven plane neighbours'. -/
theorem place_cases (c : Dev nD) (b : Fin 8) : b.val ≠ pl c → ∃ r : Fin 7, b.val = pl (peer (opp (.inl r)) c) := by
  revert c b; decide +kernel
theorem zc_inj (c : Dev nD) (r r' : Fin 3) : zc (peer (opp (.inr r)) c) = zc (peer (opp (.inr r')) c) → r = r' := by
  revert c r r'; decide +kernel
theorem zc_ne (c : Dev nD) (r : Fin 3) : zc (peer (opp (.inr r)) c) ≠ zc c := by revert c r; decide +kernel
theorem pl_inj (c : Dev nD) (r r' : Fin 7) : pl (peer (opp (.inl r)) c) = pl (peer (opp (.inl r')) c) → r = r' := by
  revert c r r'; decide +kernel
theorem pl_ne (c : Dev nD) (r : Fin 7) : pl (peer (opp (.inl r)) c) ≠ pl c := by revert c r; decide +kernel

/-- The result buffer after the three column arrivals are written. -/
def outC (c : Dev nD) (X₀ : FVec F S1024x1024 .f32) : FVec F S1024x1024 .f32 :=
  putC X W c 2 (putC X W c 1 (putC X W c 0 (outB X W c X₀)))

/-- On the rows of its own chunk it holds `own`. -/
theorem outC_own (c : Dev nD) (X₀ : FVec F S1024x1024 .f32) (i : S1024x1024.Idx) (h : (i 0).val / 128 = pl c) :
    outC X W c X₀ i = own X W c (ix2 (Fin.ofNat 128 (i 0).val) (i 1)) := by
  have hb : (i 0).val % 128 / 32 = (i 0).val / 32 % 4 := by omega
  have hm : (Fin.ofNat 32 ((i 0).val % 128) : Fin 32) = Fin.ofNat 32 (i 0).val := Fin.ext (by show (i 0).val % 128 % 32 = (i 0).val % 32; omega)
  have key : own X W c (ix2 (Fin.ofNat 128 (i 0).val) (i 1))
      = if (i 0).val / 32 % 4 = zc c then zsum X W c (ix2 (Fin.ofNat 32 (i 0).val) (i 1))
        else extf .f32 (zag X W (dv ((i 0).val / 32 % 4) (pl c))) bitsLt_bf16_f32 (ix2 (Fin.ofNat 32 (i 0).val) (i 1)) := by
    show (if (i 0).val % 128 / 32 = zc c then zsum X W c (ix2 (Fin.ofNat 32 ((i 0).val % 128)) (i 1))
        else extf .f32 (zag X W (dv ((i 0).val % 128 / 32) (pl c))) bitsLt_bf16_f32 (ix2 (Fin.ofNat 32 ((i 0).val % 128)) (i 1))) = _
    rw [hb, hm]
  rw [key]
  have hz := zc_lt c
  have hn := zc_ne c
  unfold outC
  split
  · rename_i h1
    rw [putC_out _ _ _ _ _ _ (by have := hn 2; omega), putC_out _ _ _ _ _ _ (by have := hn 1; omega), putC_out _ _ _ _ _ _ (by have := hn 0; omega)]
    exact putRows_in _ _ _ _ (by show (i 0).val = _ + (i 0).val % 32; omega) rfl
  · rename_i h1
    have n01 := mt (zc_inj c 0 1) (by decide)
    have n02 := mt (zc_inj c 0 2) (by decide)
    have n12 := mt (zc_inj c 1 2) (by decide)
    rcases plane_cases c ⟨(i 0).val / 32 % 4, by omega⟩ h1 with h2 | h2 | h2 <;> dsimp only at h2
    · rw [putC_out _ _ _ _ _ _ (by omega), putC_out _ _ _ _ _ _ (by omega)]; exact putC_at _ _ _ _ _ _ (by omega)
    · rw [putC_out _ _ _ _ _ _ (by omega)]; exact putC_at _ _ _ _ _ _ (by omega)
    · exact putC_at _ _ _ _ _ _ (by omega)

/-- The rows of its own chunk, read as one vector. -/
theorem rowsAt_outC (c : Dev nD) (X₀ : FVec F S1024x1024 .f32) : rowsAt 128 (128 * pl c) (outC X W c X₀) = own X W c := by
  funext x
  have hx := idx2_lt0 x
  have hp := pl_lt c
  have hi : (128 * pl c + (x 0).val) % 1024 = 128 * pl c + (x 0).val := Nat.mod_eq_of_lt (by omega)
  refine (outC_own X W c X₀ _ (by show (128 * pl c + (x 0).val) % 1024 / 128 = _; omega)).trans ?_
  congr 1
  rw [eq_ix2 x]
  congr 1
  exact Fin.ext (by show (128 * pl c + (x 0).val) % 1024 % 128 = (x 0).val; omega)

/-- The result buffer after the first `n` plane arrivals are written. -/
def outD (c : Dev nD) (X₀ : FVec F S1024x1024 .f32) : ℕ → FVec F S1024x1024 .f32
  | 0 => outC X W c X₀
  | n + 1 => putD X W c (Fin.ofNat 7 n) (outD c X₀ n)

/-- Rows that no arrival so far writes are as after the column step. -/
theorem outD_out (c : Dev nD) (X₀ : FVec F S1024x1024 .f32) (i : S1024x1024.Idx) (n : ℕ)
    (h : ∀ k < n, (i 0).val / 128 ≠ pl (peer (opp (.inl (Fin.ofNat 7 k))) c)) : outD X W c X₀ n i = outC X W c X₀ i := by
  induction n with
  | zero => rfl
  | succ n ih => exact (putD_out _ _ _ _ _ _ (h n (by omega))).trans (ih fun k hk => h k (by omega))

/-- Rows that arrival `r` writes hold it from then on. -/
theorem outD_in (c : Dev nD) (X₀ : FVec F S1024x1024 .f32) (i : S1024x1024.Idx) (r : Fin 7) (n : ℕ) (hn : r.val < n) (h7 : n ≤ 7)
    (h : (i 0).val / 128 = pl (peer (opp (.inl r)) c)) :
    outD X W c X₀ n i = extf .f32 (pag X W (dv (zc c) ((i 0).val / 128))) bitsLt_bf16_f32 (ix2 (Fin.ofNat 128 (i 0).val) (i 1)) := by
  induction n with
  | zero => omega
  | succ n ih =>
    by_cases hr : r.val = n
    · have e : (Fin.ofNat 7 n : Fin 7) = r := Fin.ext (by show n % 7 = r.val; omega)
      exact putD_at _ _ _ _ _ _ (by rw [e]; exact h)
    · refine (putD_out _ _ _ _ _ _ fun h' => hr ?_).trans (ih (by omega) (by omega))
      have := pl_inj c r (Fin.ofNat 7 n) (h.symm.trans h')
      have h2 := congrArg Fin.val this
      have h3 : (Fin.ofNat 7 n : Fin 7).val = n := Nat.mod_eq_of_lt (by omega)
      omega

/-- After all seven arrivals the buffer holds the result, whatever it held at first. -/
theorem outD_seven (c : Dev nD) (X₀ : FVec F S1024x1024 .f32) : outD X W c X₀ 7 = outAt X W c := by
  funext i
  have hi := idx2_lt0 i
  unfold outAt
  split
  · rename_i h
    rw [outD_out X W c X₀ i 7 fun k _ h' => pl_ne c _ (h'.symm.trans h), outC_own X W c X₀ i h]
  · rename_i h
    obtain ⟨r, hr⟩ := place_cases c ⟨(i 0).val / 128, by omega⟩ h
    exact outD_in X W c X₀ i r 7 r.isLt le_rfl hr

end Values

end AllReduce
-- ==== Proof.Protocol.lean ====
/-
  The protocol of the all-reduce: the buffers each transfer reads and fills, what each semaphore cell hands over, what
  every device owes, and the order of the waits that rules out deadlock.
-/
module

public import proofs.«01_k».proof.Proof.Contents
public import Idealize.ShloMosaic.Lib.ShareLeaves
public import Idealize.ShloMosaic.Lib.Pipeline.BigSepL

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Pe
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers of the transfers -/

theorem inb7 (j : Fin 7) : ∀ a, (![j.val, 0, 0] : Fin 3 → ℕ) a + S1x128x1024.size a ≤ S7x128x1024.size a := by
  revert j; decide +kernel
theorem inb3 (j : Fin 3) : ∀ a, (![j.val, 0, 0] : Fin 3 → ℕ) a + S1x32x1024.size a ≤ S3x32x1024.size a := by
  revert j; decide +kernel
theorem inbChunk (c : Dev nD) : ∀ a, (![128 * pl c, 0] : Fin 2 → ℕ) a + S128x1024.size a ≤ S1024x1024.size a := by
  revert c; decide +kernel

/-- Slot `j` of a buffer of seven chunks. -/
abbrev slot7 (M : Memref sig .tc .vmem S7x128x1024 .bf16) (j : Fin 7) : Memref sig .tc .vmem S128x1024 .bf16 :=
  (M.slice (Rect.unit (s := S7x128x1024) ![j.val, 0, 0] S1x128x1024.size (inb7 j)) (fun _ => rfl)).squeeze S128x1024 squeezes_S1x128x1024_S128x1024
/-- Slot `j` of a buffer of three blocks. -/
abbrev slot3 (M : Memref sig .tc .vmem S3x32x1024 .bf16) (j : Fin 3) : Memref sig .tc .vmem S32x1024 .bf16 :=
  (M.slice (Rect.unit (s := S3x32x1024) ![j.val, 0, 0] S1x32x1024.size (inb3 j)) (fun _ => rfl)).squeeze S32x1024 squeezes_S1x32x1024_S32x1024
/-- The chunk of a square buffer that device `d` reduces. -/
abbrev chunkM (d : Dev nD) : Memref sig .tc .vmem S128x1024 .bf16 :=
  (Memref.whole cc0_scratch0 : Memref sig .tc .vmem S1024x1024 .bf16).slice (Rect.unit (s := S1024x1024) ![128 * pl d, 0] S128x1024.size (inbChunk d)) (fun _ => rfl)

/-- Where transfer `s` of device `c` reads. -/
def srcM : (s : Tr) → Dev nD → Memref sig .tc .vmem (shp s) .bf16
  | (false, .inl j), c => chunkM (peer (.inl j) c)
  | (false, .inr j), _ => slot3 (Memref.whole cc0_scratch2) j
  | (true, .inr _), _ => Memref.whole cc0_scratch4
  | (true, .inl _), _ => Memref.whole cc0_scratch6

/-- Where transfer `s` lands on its destination. -/
def dstM : (s : Tr) → Memref sig .tc .vmem (shp s) .bf16
  | (false, .inl j) => slot7 (Memref.whole cc0_scratch1) j
  | (false, .inr j) => slot3 (Memref.whole cc0_scratch3) j
  | (true, .inr j) => slot3 (Memref.whole cc0_scratch5) j
  | (true, .inl j) => slot7 (Memref.whole cc0_scratch7) j

/-- The share of its source that a transfer holds: all of it in the reduction, where every transfer has a source of its
    own; one of four or eight equal parts in the gathering, where all transfers of a step read one buffer. -/
def shr : Tr → PosShare TreeShare
  | (false, _) => fullShare
  | (true, .inr j) => ShareLeaves.leaf 2 fullShare ⟨j.val, by show _ < 4; omega⟩
  | (true, .inl j) => ShareLeaves.leaf 3 fullShare ⟨j.val, by show _ < 8; omega⟩

/-- The amount a transfer counts on its two semaphores. -/
def amt (s : Tr) : ℕ := (dstM s).view.dmaCredit

theorem amt_pos (s : Tr) : 0 < amt s := by
  rcases s with ⟨_ | _, j | j⟩
  · exact View.dmaCredit_pos _ (show 0 < S128x1024.numel by decide)
  · exact View.dmaCredit_pos _ (show 0 < S32x1024.numel by decide)
  · exact View.dmaCredit_pos _ (show 0 < S128x1024.numel by decide)
  · exact View.dmaCredit_pos _ (show 0 < S32x1024.numel by decide)

/-- Departure counts the same amount. -/
theorem amt_src (s : Tr) (c : Dev nD) : (srcM s c).view.dmaCredit = amt s := by
  rcases s with ⟨_ | _, j | j⟩ <;> rfl

/-- A buffer part of device `c` with unknown contents. -/
abbrev some' (c : Dev nD) {sh : Shape} (m : Memref sig .tc .vmem sh .bf16) : sProp 𝕄 :=
  iprop(∃ v, owns (c : Thread nD τ) m fullShare v)

variable (X W : Dev nD → FVec F S1024x1024 .bf16)

/-- What departure hands back: the source. -/
abbrev Rdy (c : Dev nD) (s : Tr) : sProp 𝕄 := owns (c : Thread nD τ) (srcM s c) (shr s) (msg X W s c)
/-- What arrival hands over: the landing slot with the message. -/
abbrev Arr (c : Dev nD) (s : Tr) : sProp 𝕄 := owns (c : Thread nD τ) (dstM s) fullShare (msg X W s (sender s c))
/-- A landing slot before the arrival, and that its arrival semaphore is in use: a device that may fill the slot may also
    count on that semaphore. -/
abbrev Slot (c : Dev nD) (s : Tr) : sProp 𝕄 := iprop(some' (F := F) c (dstM s) ∗ reached ER (recvCell c s) 0)

/-! ## The schedule -/

/-- The amount of one duty of a cell. -/
def camt : CK → ℕ
  | none => 1
  | some (_, s) => amt s

theorem camt_pos (k : CK) : 0 < camt k := by
  rcases k with _ | ⟨_, s⟩
  · exact Nat.one_pos
  · exact amt_pos s

/-- What each cell hands over: the barrier, from each neighbour, the two slots there that this device will fill. -/
def pay (c : Dev nD) : CK → Pe → sProp 𝕄
  | none, y => iprop(Slot (peer y c) (false, y) ∗ Slot (peer y c) (true, y))
  | some (false, s), _ => Rdy X W c s
  | some (true, s), _ => Arr X W c s

instance pay_storable (c : Dev nD) (k : CK) (y : Pe) : BI.Storable (upEmb : UEmb _ 𝕄) (pay X W c k y) := by
  rcases k with _ | ⟨_ | _, s⟩ <;> (unfold pay; infer_instance)

/-- The duties of a cell: the barrier has one from each neighbour, a transfer semaphore one. -/
def cdut : CK → Finset Pe
  | none => Finset.univ
  | some _ => {.inl 0}

/-- One round on every cell of the protocol. -/
def Rd : Rounds.Schedule (GSem nD τ sig) Pe 𝕄 where
  duties g r := if r = 0 then Function.extend kcell (fun ck => cdut ck.2) (fun _ => ∅) g else ∅
  unitless _ := False
  amount g _ _ := Function.extend kcell (fun ck => camt ck.2) (fun _ => 1) g
  payload g _ y := Function.extend kcell (fun ck => pay X W ck.1 ck.2 y) (fun _ => iprop(emp)) g
  amount_pos g _ _ _ := by
    by_cases h : ∃ ck, kcell ck = g
    · obtain ⟨ck, rfl⟩ := h; rw [kcell_inj.extend_apply]; exact camt_pos _
    · rw [Function.extend_apply' _ _ _ h]; exact Nat.one_pos

instance Rd_storable (g : GSem nD τ sig) (r : ℕ) (y : Pe) : BI.Storable (upEmb : UEmb _ 𝕄) ((Rd X W).payload g r y) := by
  show BI.Storable upEmb (Function.extend kcell (fun ck => pay X W ck.1 ck.2 y) (fun _ => iprop(emp)) g)
  by_cases h : ∃ ck, kcell ck = g
  · obtain ⟨ck, rfl⟩ := h; rw [kcell_inj.extend_apply]; infer_instance
  · rw [Function.extend_apply' _ _ _ h]; infer_instance

section Tables
variable (c : Dev nD) (k : CK)

theorem duties_eq : (Rd X W).duties (kcell (c, k)) 0 = cdut k := by
  show (if (0 : ℕ) = 0 then Function.extend kcell (fun ck => cdut ck.2) (fun _ => ∅) (kcell (c, k)) else ∅) = _
  rw [if_pos rfl, kcell_inj.extend_apply]
theorem duties_later (g : GSem nD τ sig) : ∀ r, 1 ≤ r → (Rd X W).duties g r = ∅ := fun r hr => if_neg (by omega)
theorem amount_eq (y : Pe) : (Rd X W).amount (kcell (c, k)) 0 y = camt k :=
  kcell_inj.extend_apply (fun ck => camt ck.2) (fun _ => 1) (c, k)
theorem payload_eq (y : Pe) : (Rd X W).payload (kcell (c, k)) 0 y = pay X W c k y :=
  kcell_inj.extend_apply (fun ck => pay X W ck.1 ck.2 y) (fun _ => iprop(emp)) (c, k)

theorem mem_duties_bar (y : Pe) : y ∈ (Rd X W).duties (barCell c) 0 := by rw [duties_eq]; exact Finset.mem_univ _
theorem mem_duties_x (x : Bool × Tr) : (Sum.inl 0 : Pe) ∈ (Rd X W).duties (kcell (c, some x)) 0 := by
  rw [duties_eq]; exact Finset.mem_singleton_self _

theorem expect_bar : (Rd X W).expect (barCell c) 0 = 10 := by
  unfold Schedule.expect Schedule.amountOf
  rw [duties_eq, Finset.sum_congr rfl fun d _ => amount_eq X W c none d]
  rfl
theorem expect_x (x : Bool × Tr) : (Rd X W).expect (kcell (c, some x)) 0 = amt x.2 := by
  unfold Schedule.expect Schedule.amountOf
  rw [duties_eq]; unfold cdut; rw [Finset.sum_singleton, amount_eq]; rfl

/-- Everything the barrier's round hands over. -/
theorem rest_bar : bigSep ((Rd X W).duties (barCell c) 0 \ ∅) (fun d => (Rd X W).payload (barCell c) 0 d) = bigSepL dirs fun y => pay X W c none y := by
  rw [Finset.sdiff_empty, duties_eq]; unfold cdut
  rw [bigSep_univ_eq_bigSepL dirs (by ext y; simp [mem_dirs]) dirs_nodup]
  simp only [payload_eq]
/-- Everything a transfer semaphore's round hands over. -/
theorem rest_x (x : Bool × Tr) : bigSep ((Rd X W).duties (kcell (c, some x)) 0 \ ∅) (fun d => (Rd X W).payload (kcell (c, some x)) 0 d) = pay X W c (some x) (.inl 0) := by
  rw [Finset.sdiff_empty, duties_eq]; unfold cdut; rw [bigSep_singleton, payload_eq]

/-- The same tables with the cells written out. -/
theorem rest_bar' : bigSep ((Rd X W).duties ((c : Thread nD τ), .reg barS) 0 \ ∅) (fun d => (Rd X W).payload ((c : Thread nD τ), .reg barS) 0 d)
    = bigSepL dirs fun y => pay X W c none y := rest_bar X W c
theorem rest_x' (x : Bool × Tr) : bigSep ((Rd X W).duties ((c : Thread nD τ), .dma (xsem x)) 0 \ ∅)
    (fun d => (Rd X W).payload ((c : Thread nD τ), .dma (xsem x)) 0 d) = pay X W c (some x) (.inl 0) := rest_x X W c x
theorem payload_bar' (y : Pe) : (Rd X W).payload ((c : Thread nD τ), .reg barS) 0 y = pay X W c none y := payload_eq X W c none y

end Tables

/-! ## What a device owes -/

/-- The cell a payment goes to: a signal to a neighbour's barrier, or the arrival of a transfer. -/
def pcell (c : Dev nD) : Pe ⊕ Tr → GSem nD τ sig
  | .inl y => barCell (peer y c)
  | .inr s => recvCell (peer s.2 c) s
/-- The amount of a payment. -/
def pamt : Pe ⊕ Tr → ℕ
  | .inl _ => 1
  | .inr s => amt s
/-- The debt of device `c` when the payments of the list are still to be made. -/
def owe (c : Dev nD) : List (Pe ⊕ Tr) → CellTallies nD τ sig Unit
  | [] => 0
  | p :: l => owe c l + tallyAt (pcell c p) () (pamt p)

/-- All payments, in the order they are made. -/
def pays : List (Pe ⊕ Tr) := dirs.map .inl ++ order.map .inr

/-- The level of a cell: the barrier below the four steps' arrivals. -/
def clv : CK → ℕ
  | none => 1
  | some (false, _) => 0
  | some (true, (false, .inl _)) => 2
  | some (true, (false, .inr _)) => 3
  | some (true, (true, .inr _)) => 4
  | some (true, (true, .inl _)) => 5

/-- The kind of cell a payment goes to. -/
def pck : Pe ⊕ Tr → CK
  | .inl _ => none
  | .inr s => some (true, s)

theorem pcell_eq (c : Dev nD) (p : Pe ⊕ Tr) : ∃ d, pcell c p = kcell (d, pck p) := by
  rcases p with y | s
  · exact ⟨peer y c, rfl⟩
  · exact ⟨peer s.2 c, rfl⟩

def L (g : GSem nD τ sig) : Finset Unit := if g.1.2 = .tc then {()} else ∅
def lv (g : GSem nD τ sig) (_ : Unit) : ℕ := Function.extend kcell (fun ck => clv ck.2) (fun _ => 0) g

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CK) (u : Unit) : lv (kcell (c, k)) u = clv k := kcell_inj.extend_apply _ _ _

/-- A debt on a cell comes from a payment still to be made there. -/
theorem owe_pos {c : Dev nD} {l : List (Pe ⊕ Tr)} {g : GSem nD τ sig} {u : Unit} (h : 0 < owe c l g u) : ∃ p ∈ l, g = pcell c p := by
  induction l with
  | nil => exact absurd h (Nat.lt_irrefl 0)
  | cons p l ih =>
    unfold owe at h
    rw [Pi.add_apply, Finsupp.add_apply, tallyAt_apply] at h
    by_cases hp : g = pcell c p
    · exact ⟨p, List.mem_cons_self, hp⟩
    · rw [if_neg (fun h' => hp h'.1), add_zero] at h
      obtain ⟨p', hp', e⟩ := ih h
      exact ⟨p', List.mem_cons_of_mem _ hp', e⟩

theorem mayWait_gen (c : Dev nD) (sm : SemLoc sig) (b : ℕ) (l : List (Pe ⊕ Tr)) (hb : lv ((c : Thread nD τ), sm) () ≤ b)
    (h : ∀ p ∈ l, b < clv (pck p)) : (levAts L lv : sProp 𝕄) ⊢ MayWait (c : Thread nD τ) sm () (owe c l) :=
  MayOwe.of_cut (L := L) (lev := lv) b (fun p hp => by rw [Finset.mem_singleton.mp hp, L_tc]; exact Finset.mem_singleton_self _)
    (fun g u hg => by
      obtain ⟨p, hp, rfl⟩ := owe_pos hg
      obtain ⟨d, e⟩ := pcell_eq c p
      rw [e, L_tc]; exact Finset.mem_singleton_self _)
    (fun p hp => by rw [Finset.mem_singleton.mp hp]; exact hb)
    (fun g u hg => by
      obtain ⟨p, hp, rfl⟩ := owe_pos hg
      obtain ⟨d, e⟩ := pcell_eq c p
      rw [e, lv_k]; exact h p hp)

/-- A device may wait on a cell of its own while it owes payments of higher level only. -/
theorem mayWait_k (c : Dev nD) (k : CK) (l : List (Pe ⊕ Tr)) (h : ∀ p ∈ l, clv k < clv (pck p)) :
    (levAts L lv : sProp 𝕄) ⊢ MayWait (c : Thread nD τ) (csem k) () (owe c l) :=
  mayWait_gen c (csem k) (clv k) l (lv_k c k ()).le h

/-- The staging semaphores are below every payment. -/
theorem mayWait_stage (c : Dev nD) (q : DmaSem sig) (hq : ∀ x, xsem x ≠ q) (l : List (Pe ⊕ Tr)) :
    (levAts L lv : sProp 𝕄) ⊢ MayWait (c : Thread nD τ) (.dma q) () (owe c l) :=
  mayWait_gen c (.dma q) 0 l (by
    refine (Function.extend_apply' (f := kcell) _ _ _ ?_).le
    rintro ⟨⟨d, _ | x⟩, h⟩
    · exact absurd (congrArg Prod.snd h) (by simp [csem])
    · exact hq x (SemLoc.dma.inj (congrArg Prod.snd h))) fun p _ => by
    rcases p with y | ⟨_ | _, j | j⟩ <;> simp [pck, clv]

end AllReduce
-- ==== Proof.Steps.lean ====
/-
  The steps of the kernel's communication, one lemma per kind: a signal to a neighbour, the wait at the barrier, the start of
  a transfer, the wait for an arrival and the wait for a departure, each taking a device from one stage of the protocol to the
  next.
-/
module

public import proofs.«01_k».proof.Proof.Protocol

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def 𝒱₀ : Variants := Variants.none

variable (X W : Dev nD → FVec F S1024x1024 .bf16)

/-! ## The persistent records -/

/-- Every cell's invariant, under the names `K`, and that every barrier cell is at its round. -/
def Rec (K : Dev nD × CK → ℕ) : sProp 𝕄 :=
  iprop((bigSep Finset.univ fun ck : Dev nD × CK => cellInv ER (Rd X W) (K ck) (kcell ck))
    ∗ bigSep Finset.univ fun c : Dev nD => reached ER (barCell c) 0)

instance Rec_persistent (K : Dev nD × CK → ℕ) : BI.Persistent (Rec X W K) := by unfold Rec; infer_instance

theorem inv_at (K : Dev nD × CK → ℕ) (ck : Dev nD × CK) : Rec X W K ⊢ cellInv ER (Rd X W) (K ck) (kcell ck) := sep_elim_left.trans (bigSep_elim (Finset.mem_univ ck))
theorem reached_at (K : Dev nD × CK → ℕ) (c : Dev nD) : Rec X W K ⊢ reached ER (barCell c) 0 := sep_elim_right.trans (bigSep_elim (Finset.mem_univ c))

/-! ## The stages of a device -/

/-- What the start of transfer `s` spends. -/
def Snd (c : Dev nD) (s : Tr) : sProp 𝕄 :=
  iprop(dutyTok ER (sendCell c s) 0 (.inl 0) ∗ dutyTok ER (recvCell (peer s.2 c) s) 0 (.inl 0) ∗ Slot (peer s.2 c) s ∗ atPos ER (sendCell c s) 0 ∅ 0
    ∗ reached ER (sendCell c s) 0)
/-- What the wait for the departure of transfer `s` spends. -/
def Dpt (c : Dev nD) (s : Tr) : sProp 𝕄 :=
  iprop(atPos ER (sendCell c s) 0 ∅ 0 ∗ cred (tallyAt (sendCell c s) () (amt s)))
/-- What the wait for arrival `s` spends. -/
def Rcv (c : Dev nD) (s : Tr) : sProp 𝕄 :=
  iprop(atPos ER (recvCell c s) 0 ∅ 0 ∗ cred (tallyAt (recvCell c s) () (amt s)))
/-- What is left after arrival `s`. -/
def Dn (c : Dev nD) (s : Tr) : sProp 𝕄 := iprop(semVal (recvCell c s) 0 ∗ Arr X W c s)
/-- What is left after departure `s`. -/
def Gone (c : Dev nD) (s : Tr) : sProp 𝕄 := iprop(semVal (sendCell c s) 0 ∗ Rdy X W c s)

/-- A device that owes the payments of `l`. -/
def Owes (c : Dev nD) (l : List (Pe ⊕ Tr)) : sProp 𝕄 := iprop(∃ Wt, owes (c : Thread nD τ) (owe c l) Wt)

/-- A device that has started `n` transfers and waited for `r` arrivals. -/
def St (c : Dev nD) (n r : ℕ) : sProp 𝕄 :=
  iprop(Owes c ((order.drop n).map .inr) ∗ bigSepL (order.drop n) (Snd c) ∗ bigSepL (order.take n) (Dpt c)
    ∗ bigSepL (order.drop r) (Rcv c) ∗ bigSepL (order.take r) (Dn X W c))

/-- A device that has started every transfer, waited for every arrival and for `d` departures. -/
def Ed (c : Dev nD) (d : ℕ) : sProp 𝕄 :=
  iprop(Owes c [] ∗ bigSepL (order.drop d) (Dpt c) ∗ bigSepL (order.take d) (Gone X W c) ∗ bigSepL order (Dn X W c))

theorem St_Ed (c : Dev nD) : St X W c 20 20 ⊢ Ed X W c 0 := by
  unfold St Ed
  show iprop(Owes c [] ∗ bigSepL [] (Snd c) ∗ bigSepL order (Dpt c) ∗ bigSepL [] (Rcv c) ∗ bigSepL order (Dn X W c))
    ⊢ iprop(Owes c [] ∗ bigSepL order (Dpt c) ∗ bigSepL [] (Gone X W c) ∗ bigSepL order (Dn X W c))
  iintro ⟨HO, -, HD, -, HN⟩
  isplitl [HO]; · iexact HO
  isplitl [HD]; · iexact HD
  isplitr [HN]; · iempintro
  iexact HN

/-- Reading after writing the whole of a view. -/
theorem read_write_univ {κ : Kind} {sp : Space} {s : Shape} {e : EltTy} (v : View sig κ sp s e) (f : v.ty.Contents (Elt F)) (w : s.Idx → Elt F e) :
    v.read (Elt F) (v.write (Elt F) f w Finset.univ) = w :=
  funext fun x => View.read_write_of_mem f w (Finset.mem_univ x)

/-! ## Starting a transfer -/

theorem step_send (K : Dev nD × CK → ℕ) (c : Dev nD) (s : Tr) (m r : ℕ)
    (hd : order.drop m = s :: order.drop (m + 1)) (ht : order.take (m + 1) = order.take m ++ [s])
    (n : Dev nD) (hn : n = peer s.2 c) {src dst : Memref sig .tc .vmem (shp s) .bf16} (hS : src = srcM s c) (hT : dst = dstM s)
    {sS rS : DmaSem sig} (h1 : sS = xsem (false, s)) (h2 : rS = xsem (true, s))
    {hsc : dst.view.ref.isScScratch = false} {hsrc : src.view.WordExact} {hdst : dst.view.WordExact}
    {hsem : DmaTarget.Typed .vmem (.dma rS) (.remote (Dev.tc n : Thread nD τ) dst (.dma sS) hsc)}
    {α : Type} {k : PUnit → Prog (TpuEff nD τ sig (Elt F) Λ₀ .tc) α} {Q : α → sProp 𝕄} :
    iprop(Rec X W K ∗ St X W c m r ∗ Rdy X W c s)
      ⊢ iprop((St X W c (m + 1) r -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma rS) hsrc hdst hsem) k) Q) := by
  subst hn hS hT h1 h2
  unfold St Owes
  rw [hd, ht, List.map_cons, bigSepL_cons', bigSepL_append]
  unfold Snd Slot some' Rdy owns
  iintro ⟨#HR, ⟨⟨%Wt, HO⟩, ⟨⟨Ht1, Ht2, ⟨⟨%v, %fd, %hfd, Hdst⟩, #Hr2⟩, Hat, #Hr1⟩, HS⟩, HD, HV, HN⟩, ⟨%fs, %hfs, Hsrc⟩⟩ Hk
  iapply (Rounds.wp_send_pointsTo 𝒱₀ ER (Rd X W) (c : Thread nD τ) none (κ₁ := K (c, some (false, s))) (κ₂ := K (peer s.2 c, some (true, s)))
    (r₁ := 0) (r₂ := 0) (d₁ := .inl 0) (d₂ := .inl 0) (fd := fd)
    (mem_duties_x X W c (false, s)) (mem_duties_x X W (peer s.2 c) (true, s))
    () () (amt s) rfl (amount_eq X W c (some (false, s)) (.inl 0)) (amount_eq X W (peer s.2 c) (some (true, s)) (.inl 0))
    (owe c ((order.drop (m + 1)).map .inr)) rfl (W := Wt)
    (by
      refine BI.Entails.trans ?_ (Entails.of_eq (payload_eq X W c (some (false, s)) (.inl 0)).symm)
      show _ ⊢ Rdy X W c s
      unfold Rdy
      rw [← hfs]; exact owns_intro (c : Thread nD τ) (srcM s c) (shr s) fs)
    (by
      refine BI.Entails.trans ?_ (Entails.of_eq (payload_eq X W (peer s.2 c) (some (true, s)) (.inl 0)).symm)
      show _ ⊢ Arr X W (peer s.2 c) s
      unfold Arr sender
      rw [opp_peer, hfs]
      refine (owns_intro (peer s.2 c : Thread nD τ) (dstM s) fullShare _).trans (Entails.of_eq ?_)
      rw [read_write_univ])) $$ [HO Ht1 Ht2 Hdst Hsrc]
  · isplitr; · iapply (inv_at X W K (c, some (false, s))); iexact HR
    isplitr; · iapply (inv_at X W K (peer s.2 c, some (true, s))); iexact HR
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitl [HO]; · iexists Wt; iexact HO
  isplitl [HS]; · iexact HS
  isplitl [HD Hat Hc]
  · isplitl [HD]; · iexact HD
    unfold Dpt
    rw [bigSepL_singleton]
    isplitl [Hat]; · iexact Hat
    iexact Hc
  isplitl [HV]; · iexact HV
  iexact HN

/-! ## Waiting for an arrival -/

theorem step_recv (K : Dev nD × CK → ℕ) (c : Dev nD) (s : Tr) (m r : ℕ)
    (hd : order.drop r = s :: order.drop (r + 1)) (ht : order.take (r + 1) = order.take r ++ [s])
    (hl : ∀ p ∈ (order.drop m).map (Sum.inr : Tr → Pe ⊕ Tr), clv (some (true, s)) < clv (pck p))
    {src dst : Memref sig .tc .vmem (shp s) .bf16} (hT : dst = dstM s) {rS : DmaSem sig} (h2 : rS = xsem (true, s))
    {hsrc : src.view.WordExact} {hdst : dst.view.WordExact}
    {α : Type} {k : PUnit → Prog (TpuEff nD τ sig (Elt F) Λ₀ .tc) α} {Q : α → sProp 𝕄} :
    iprop(Rec X W K ∗ levAts L lv ∗ St X W c m r)
      ⊢ iprop((St X W c m (r + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rS src dst hsrc hdst) k) Q) := by
  subst hT h2
  unfold St Owes
  rw [hd, ht, bigSepL_cons', bigSepL_append]
  unfold Rcv
  iintro ⟨#HR, #Hlev, ⟨%Wt, HO⟩, HS, HD, ⟨⟨Hat, Hc⟩, HV⟩, HN⟩ Hk
  iapply (Rounds.wp_wait_rest_token 𝒱₀ ER (Rd X W) (c : Thread nD τ) none (κ := K (c, some (true, s)))
      (wpE_waitDma2_eq 𝒱₀ (c : Thread nD τ) none Set.univ) (Set.mem_univ _) () (O := owe c ((order.drop m).map .inr)) (W := Wt)
      (R := 0) (m := 0) (T := ∅)
      ((Nat.zero_add _).trans (expect_x X W c (true, s)).symm)) $$ [Hc HO Hat]
  · isplitr; · iapply (inv_at X W K (c, some (true, s))); iexact HR
    isplitl [Hc]; · iexact Hc
    isplitl [HO]; · iexact HO
    isplitr; · iapply (mayWait_k (F := F) c (some (true, s)) _ hl); iexact Hlev
    iexact Hat
  iintro ⟨HO, Hat, -, Hpay⟩
  ihave Hp := (Entails.of_eq (rest_x' X W c (true, s))) $$ Hpay
  imod (Rounds.cell_close ER (Rd X W) (Set.mem_univ (K (c, some (true, s)))) (fun h => h) (R := 0 + 1) (duties_later X W (recvCell c s))) $$ [Hat] with Hz
  · isplitr; · iapply (inv_at X W K (c, some (true, s))); iexact HR
    iexact Hat
  iapply Hk
  isplitl [HO]; · iexists _; iexact HO
  isplitl [HS]; · iexact HS
  isplitl [HD]; · iexact HD
  isplitl [HV]; · iexact HV
  isplitl [HN]; · iexact HN
  unfold Dn
  rw [bigSepL_singleton]
  isplitl [Hz]; · iexact Hz
  unfold pay
  iexact Hp

/-! ## Waiting for a departure -/

theorem step_dep (K : Dev nD × CK → ℕ) (c : Dev nD) (s : Tr) (m : ℕ)
    (hd : order.drop m = s :: order.drop (m + 1)) (ht : order.take (m + 1) = order.take m ++ [s])
    {src dst : Memref sig .tc .vmem (shp s) .bf16} (hT : dst.view.dmaCredit = amt s) {sS : DmaSem sig} (h2 : sS = xsem (false, s))
    {hsrc : src.view.WordExact} {hdst : dst.view.WordExact}
    {α : Type} {k : PUnit → Prog (TpuEff nD τ sig (Elt F) Λ₀ .tc) α} {Q : α → sProp 𝕄} :
    iprop(Rec X W K ∗ Ed X W c m)
      ⊢ iprop((Ed X W c (m + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst h2
  unfold Ed Owes
  rw [hd, ht, bigSepL_cons', bigSepL_append]
  unfold Dpt
  rw [← hT]
  iintro ⟨#HR, ⟨%Wt, HO⟩, ⟨⟨Hat, Hc⟩, HV⟩, HN, HA⟩ Hk
  iapply (Rounds.wp_wait_rest_token 𝒱₀ ER (Rd X W) (c : Thread nD τ) none (κ := K (c, some (false, s)))
      (wpE_waitDma2_eq 𝒱₀ (c : Thread nD τ) none Set.univ) (Set.mem_univ _) () (O := owe c []) (W := Wt)
      (R := 0) (m := 0) (T := ∅)
      ((Nat.zero_add _).trans (hT.trans (expect_x X W c (false, s)).symm))) $$ [Hc HO Hat]
  · isplitr; · iapply (inv_at X W K (c, some (false, s))); iexact HR
    isplitl [Hc]; · iexact Hc
    isplitl [HO]; · iexact HO
    isplitr; · unfold owe; rw [MayWait_zero]; iempintro
    iexact Hat
  iintro ⟨HO, Hat, -, Hpay⟩
  ihave Hp := (Entails.of_eq (rest_x' X W c (false, s))) $$ Hpay
  imod (Rounds.cell_close ER (Rd X W) (Set.mem_univ (K (c, some (false, s)))) (fun h => h) (R := 0 + 1) (duties_later X W (sendCell c s))) $$ [Hat] with Hz
  · isplitr; · iapply (inv_at X W K (c, some (false, s))); iexact HR
    iexact Hat
  iapply Hk
  isplitl [HO]; · iexists _; iexact HO
  isplitl [HV]; · iexact HV
  isplitr [HA]
  · isplitl [HN]; · iexact HN
    unfold Gone
    rw [bigSepL_singleton]
    isplitl [Hz]; · iexact Hz
    unfold pay
    iexact Hp
  iexact HA

/-! ## The barrier -/

/-- What a signal to neighbour `y` spends: the token of the duty there, and the two slots here that the neighbour fills. -/
def Sig (c : Dev nD) (y : Pe) : sProp 𝕄 :=
  iprop(dutyTok ER (barCell (peer y c)) 0 (opp y) ∗ Slot c (false, opp y) ∗ Slot c (true, opp y))

/-- A device that has sent `i` signals. -/
def Bar (c : Dev nD) (i : ℕ) : sProp 𝕄 :=
  iprop(Owes c ((dirs.drop i).map .inl ++ order.map .inr) ∗ bigSepL (dirs.drop i) (Sig c))

theorem step_signal (K : Dev nD × CK → ℕ) (c : Dev nD) (y : Pe) (i : ℕ) (hd : dirs.drop i = y :: dirs.drop (i + 1))
    (n : Dev nD) (hn : n = peer y c) {sem : Sem sig} (hs : sem = barS) {w : ℕ} (hw : w = 1)
    {α : Type} {k : PUnit → Prog (TpuEff nD τ sig (Elt F) Λ₀ .tc) α} {Q : α → sProp 𝕄} :
    iprop(Rec X W K ∗ Bar c i)
      ⊢ iprop((Bar c (i + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sem w) k) Q) := by
  subst hn hs hw
  unfold Bar Owes
  rw [hd, List.map_cons, List.cons_append, bigSepL_cons']
  unfold Sig
  iintro ⟨#HR, ⟨%Wt, HO⟩, ⟨Ht, H0, H1⟩, HS⟩ Hk
  iapply (Rounds.wp_signal 𝒱₀ ER (Rd X W) (c : Thread nD τ) none (dst := (peer y c : Thread nD τ)) (κ := K (peer y c, none))
      (d := opp y) (mem_duties_bar X W (peer y c) (opp y)) (amount_eq X W (peer y c) none (opp y)) ()
      (owe c ((dirs.drop (i + 1)).map .inl ++ order.map .inr)) rfl (W := Wt)) $$ [HO Ht H0 H1]
  · isplitr; · iapply (inv_at X W K (peer y c, none)); iexact HR
    isplitl [HO]; · iexact HO
    isplitl [Ht]; · iexact Ht
    isplitl [H0 H1]
    · iapply (Entails.of_eq (payload_bar' X W (peer y c) (opp y)).symm)
      rw [show pay X W (peer y c) none (opp y)
        = iprop(Slot (peer (opp y) (peer y c)) (false, opp y) ∗ Slot (peer (opp y) (peer y c)) (true, opp y)) from rfl, opp_peer]
      isplitl [H0] <;> iassumption
    iapply (reached_at X W K (peer y c)); iexact HR
  iintro HO
  iapply Hk
  isplitl [HO]; · iexists Wt; iexact HO
  iexact HS

theorem step_bar (K : Dev nD × CK → ℕ) (c : Dev nD) {sem : Sem sig} (hs : sem = barS) {w : ℕ} (hw : w = 10)
    {α : Type} {k : PUnit → Prog (TpuEff nD τ sig (Elt F) Λ₀ .tc) α} {Q : α → sProp 𝕄} :
    iprop(Rec X W K ∗ levAts L lv ∗ Bar c 10 ∗ atPos ER (barCell c) 0 ∅ 0 ∗ cred (tallyAt (barCell c) () 10))
      ⊢ iprop((Owes c (order.map .inr) ∗ semVal (barCell c) 0 ∗ (bigSepL dirs fun y => pay X W c none y)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem w) k) Q) := by
  subst hs hw
  unfold Bar Owes
  iintro ⟨#HR, #Hlev, ⟨⟨%Wt, HO⟩, -⟩, Hat, Hc⟩ Hk
  iapply (Rounds.wp_wait_rest_token 𝒱₀ ER (Rd X W) (c : Thread nD τ) none (κ := K (c, none))
      (wpE_semWait_eq 𝒱₀ (c : Thread nD τ) none Set.univ) (Set.mem_univ _) () (O := owe c (order.map .inr)) (W := Wt)
      (R := 0) (m := 0) (T := ∅)
      ((Nat.zero_add _).trans (expect_bar X W c).symm)) $$ [Hc HO Hat]
  · isplitr; · iapply (inv_at X W K (c, none)); iexact HR
    isplitl [Hc]; · iexact Hc
    isplitl [HO]; · iexact HO
    isplitr; · iapply (mayWait_k (F := F) c none _ (by simp [order, pck, clv])); iexact Hlev
    iexact Hat
  iintro ⟨HO, Hat, -, Hpay⟩
  ihave Hp := (Entails.of_eq (rest_bar' X W c)) $$ Hpay
  imod (Rounds.cell_close ER (Rd X W) (Set.mem_univ (K (c, none))) (fun h => h) (R := 0 + 1) (duties_later X W (barCell c))) $$ [Hat] with Hz
  · isplitr; · iapply (inv_at X W K (c, none)); iexact HR
    iexact Hat
  iapply Hk
  isplitl [HO]; · iexists _; iexact HO
  isplitl [Hz]; · iexact Hz
  iexact Hp

end AllReduce
-- ==== Proof.Mem.lean ====
/-
  The steps of the kernel's memory accesses, stated on what the buffers hold: loads and stores of rows of a whole matrix, of a
  chunk of a scratch matrix, of a landing slot and of a whole scratch buffer.
-/
module

public import proofs.«01_k».proof.Proof.Steps
public import Idealize.ShloMosaic.Lib.Pipeline.ValueKit.Geometry

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Lists of resources -/

/-- One of a list of resources, with the way back. -/
theorem bigSepL_access {ι : Type} [DecidableEq ι] (l : List ι) (Q : ι → sProp 𝕄) (s : ι) (h : s ∈ l) :
    bigSepL l Q ⊢ iprop(Q s ∗ (Q s -∗ bigSepL l Q)) := by
  obtain ⟨l₁, l₂, rfl⟩ := List.append_of_mem h
  rw [bigSepL_append, bigSepL_cons']
  iintro ⟨H1, Hs, H2⟩
  isplitl [Hs]
  · iexact Hs
  · iintro Hs
    isplitl [H1]
    · iexact H1
    · isplitl [Hs]
      · iexact Hs
      · iexact H2

/-- Running a program of device `c` to the end leaves `Q` of its result. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program at its end. -/
theorem done (c : Dev nD) {α : Type} (x : α) (Q : α → sProp 𝕄) : Q x ⊢ Wp (F := F) c (.ret x) Q := by
  unfold Wp
  rw [wp_ret]
  iintro H
  imodintro
  iexact H

section Mem
variable (c : Dev nD) {sh : Shape} {e : EltTy} {M : Memref sig .tc .vmem sh e}

/-! ## Through a rectangle of a memref that is held -/

/-- The contents a load through a rectangle reads. -/
def cut (r : Rect sh) (Y : sh.Idx → Elt F e) : r.shape.Idx → Elt F e := fun x => Y (r.emb x)

/-- A load of a rectangle of a memref. -/
theorem load_in {α : Type} {q : PosShare TreeShare} {Y : sh.Idx → Elt F e} {r : Rect sh} {hl : M.view.LoadsAt r.toLoadRect}
    {k : (r.shape.Idx → Elt F e) → Prog (TpuEff nD τ sig (Elt F) Λ₀ .tc) α} {Q : α → sProp 𝕄} :
    owns (c : Thread nD τ) M q Y ⊢ iprop((owns (c : Thread nD τ) M q Y -∗ Wp c (k (cut r Y)) Q) -∗ Wp c (.op (.load M r.toLoadRect hl) k) Q) := by
  unfold owns
  iintro ⟨%f, %hf, H⟩ Hk
  iapply (wp_load 𝒱₀ (c : Thread nD τ) none Set.univ (m := M) (r := r.toLoadRect) (M.view.setOn_subset_set _)) $$ H
  iintro H
  rw [show cut r Y = M.view.readAt (Elt F) r.toLoadRect f from by subst hf; rfl]
  iapply Hk
  iexists f
  isplitr
  · ipureintro; exact hf
  · iexact H

/-- What a rectangle holds after a store to it, and the rest as before. -/
def paste (r : Rect sh) (w : r.shape.Idx → Elt F e) (Y : sh.Idx → Elt F e) : sh.Idx → Elt F e :=
  fun i => if h : ∃ x, r.emb x = i then w h.choose else Y i

theorem paste_emb (r : Rect sh) (w : r.shape.Idx → Elt F e) (Y : sh.Idx → Elt F e) (x : r.shape.Idx) : paste r w Y (r.emb x) = w x := by
  have h : ∃ x', r.emb x' = r.emb x := ⟨x, rfl⟩
  unfold paste
  rw [dif_pos h]
  exact congrArg w (r.emb.injective h.choose_spec)

theorem paste_out (r : Rect sh) (w : r.shape.Idx → Elt F e) (Y : sh.Idx → Elt F e) (i : sh.Idx) (h : ∀ x, r.emb x ≠ i) : paste r w Y i = Y i :=
  dif_neg fun ⟨x, hx⟩ => h x hx

/-- A store to a rectangle of a memref. -/
theorem store_in {α : Type} {Y : sh.Idx → Elt F e} {r : Rect sh} {w : r.shape.Idx → Elt F e} {hx : (M.access r).Stores Finset.univ}
    {hm : (Finset.univ : Finset r.shape.Idx) = Finset.univ ∨ ∀ a, r.stride a = 1} {k : PUnit → Prog (TpuEff nD τ sig (Elt F) Λ₀ .tc) α} {Q : α → sProp 𝕄} :
    owns (c : Thread nD τ) M fullShare Y
      ⊢ iprop((owns (c : Thread nD τ) M fullShare (paste r w Y) -∗ Wp c (k ⟨⟩) Q) -∗ Wp c (.op (.store M r w Finset.univ hx hm) k) Q) := by
  unfold owns
  iintro ⟨%f, %hf, H⟩ Hk
  iapply (wp_store 𝒱₀ (c : Thread nD τ) none Set.univ (m := M) (r := r) (Mk := Finset.univ) (S := M.view.set)
    (((M.access r).setOn_subset_set _).trans (M.view.set_slice_subset r))) $$ H
  iintro H
  iapply Hk
  iexists _
  isplitr
  swap
  · iexact H
  · ipureintro
    funext i
    by_cases h : ∃ x, r.emb x = i
    · obtain ⟨x, rfl⟩ := h
      rw [paste_emb]
      exact View.read_slice_write_emb r f w (Finset.mem_univ x)
    · rw [paste_out r w Y i fun x hx => h ⟨x, hx⟩, ← hf]
      refine View.read_slice_write_of_not_mem r f w Finset.univ ?_
      intro hm
      obtain ⟨x, -, hx⟩ := Finset.mem_map.mp hm
      exact h ⟨x, hx⟩

/-! ## Through a slice that is held -/

section Slice
variable {off off' size : Fin sh.rank → ℕ} {inb : ∀ a, off a + size a ≤ sh.size a} {inb' : ∀ a, off' a + size a ≤ sh.size a}
  {hr : ∀ a, (Rect.unit off' size inb').stride a = 1}

/-- A load of exactly a slice that is held. -/
theorem load_slice {α : Type} {q : PosShare TreeShare} (ho : off = off') {v : (Rect.unit off' size inb').shape.Idx → Elt F e}
    {hl : M.view.LoadsAt (Rect.unit off size inb).toLoadRect}
    {k : ((Rect.unit off size inb).shape.Idx → Elt F e) → Prog (TpuEff nD τ sig (Elt F) Λ₀ .tc) α} {Q : α → sProp 𝕄} :
    owns (c : Thread nD τ) (M.slice (Rect.unit off' size inb') hr) q v
      ⊢ iprop((owns (c : Thread nD τ) (M.slice (Rect.unit off' size inb') hr) q v -∗ Wp c (k v) Q)
        -∗ Wp c (.op (.load M (Rect.unit off size inb).toLoadRect hl) k) Q) := by
  subst ho
  unfold owns
  iintro ⟨%f, %hf, H⟩ Hk
  subst hf
  iapply (wp_load_rect 𝒱₀ (c : Thread nD τ) none Set.univ (m := M) (r := Rect.unit off size inb) (S := (M.access (Rect.unit off size inb)).set)
    (Finset.Subset.refl _)) $$ H
  iintro H
  iapply Hk
  iexists f
  isplitr
  · ipureintro; rfl
  · iexact H

/-- A store to exactly a slice that is held. -/
theorem store_slice {α : Type} (ho : off = off') {v : (Rect.unit off' size inb').shape.Idx → Elt F e} {w : (Rect.unit off size inb).shape.Idx → Elt F e}
    {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Q : α → sProp 𝕄} :
    owns (c : Thread nD τ) (M.slice (Rect.unit off' size inb') hr) fullShare v
      ⊢ iprop((owns (c : Thread nD τ) (M.slice (Rect.unit off' size inb') hr) fullShare w -∗ Wp c (k ⟨⟩) Q)
        -∗ Wp c (.op (.store M (Rect.unit off size inb) w Finset.univ hx hm) k) Q) := by
  subst ho
  unfold owns
  iintro ⟨%f, %hf, H⟩ Hk
  iapply (wp_store 𝒱₀ (c : Thread nD τ) none Set.univ (m := M) (r := Rect.unit off size inb) (Mk := Finset.univ)
    (S := (M.access (Rect.unit off size inb)).set) (View.setOn_subset_set _ _)) $$ H
  iintro H
  iapply Hk
  iexists _
  isplitr
  swap
  · iexact H
  · ipureintro
    exact read_write_univ (M.access (Rect.unit off size inb)) f w

end Slice

/-! ## Through a slot that is held -/

section Sq
variable {r : Rect sh} {hr : ∀ a, r.stride a = 1} {sh' : Shape} {hq : r.shape.Squeezes sh'}

/-- A load of a slot of a buffer of slots: the slot's contents, with the leading axis of extent one. -/
theorem load_sq {α : Type} {q : PosShare TreeShare} (h1 : sh'.ShapeCasts r.shape) (h2 : r.shape.ShapeCasts sh') {v : sh'.Idx → Elt F e}
    {hl : M.view.LoadsAt r.toLoadRect} {k : (r.shape.Idx → Elt F e) → Prog (TpuEff nD τ sig (Elt F) Λ₀ .tc) α} {Q : α → sProp 𝕄} :
    owns (c : Thread nD τ) ((M.slice r hr).squeeze sh' hq) q v
      ⊢ iprop((owns (c : Thread nD τ) ((M.slice r hr).squeeze sh' hq) q v -∗ Wp c (k (shapeCast r.shape v h1)) Q)
        -∗ Wp c (.op (.load M r.toLoadRect hl) k) Q) := by
  unfold owns
  iintro ⟨%f, %hf, H⟩ Hk
  rw [show shapeCast r.shape v h1 = M.view.readAt (Elt F) r.toLoadRect f from by
    subst hf; rw [Memref.read_squeeze_slice M r hr hq h2 f]; exact shapeCast_shapeCast _ h2 h1]
  iapply (wp_load 𝒱₀ (c : Thread nD τ) none Set.univ (m := M) (r := r.toLoadRect) (S := ((M.slice r hr).squeeze sh' hq).view.set)
    (subset_of_eq ((View.set_slice (v := M.view) r).symm.trans (View.set_reshape (v := M.view.slice r) hq.numel_eq).symm))) $$ H
  iintro H
  iapply Hk
  iexists f
  isplitr
  · ipureintro; exact hf
  · iexact H

/-- A store to a slot of a buffer of slots. -/
theorem store_sq {α : Type} (h2 : r.shape.ShapeCasts sh') {v : sh'.Idx → Elt F e} {w : r.shape.Idx → Elt F e}
    {hx : (M.access r).Stores Finset.univ}
    {hm : (Finset.univ : Finset r.shape.Idx) = Finset.univ ∨ ∀ a, r.stride a = 1} {k : PUnit → Prog (TpuEff nD τ sig (Elt F) Λ₀ .tc) α} {Q : α → sProp 𝕄} :
    owns (c : Thread nD τ) ((M.slice r hr).squeeze sh' hq) fullShare v
      ⊢ iprop((owns (c : Thread nD τ) ((M.slice r hr).squeeze sh' hq) fullShare (shapeCast sh' w h2) -∗ Wp c (k ⟨⟩) Q)
        -∗ Wp c (.op (.store M r w Finset.univ hx hm) k) Q) := by
  unfold owns
  iintro ⟨%f, %hf, H⟩ Hk
  iapply (wp_store 𝒱₀ (c : Thread nD τ) none Set.univ (m := M) (r := r) (Mk := Finset.univ) (S := ((M.slice r hr).squeeze sh' hq).view.set)
    ((View.setOn_subset_set (v := M.access r) _).trans (subset_of_eq (View.set_reshape (v := M.view.slice r) hq.numel_eq).symm))) $$ H
  iintro H
  iapply Hk
  iexists _
  isplitr
  swap
  · iexact H
  · ipureintro
    rw [Memref.read_squeeze_slice M r hr hq h2]
    exact congrArg (fun u => shapeCast sh' u h2) (read_write_univ (M.access r) f w)

end Sq

/-! ## Rows of a matrix -/

section Rows
variable {N : ℕ} [NeZero N] {M' : Memref sig .tc .vmem (⟨2, ![N, 1024]⟩ : Shape) e}

theorem cut_rows (n r : ℕ) {off : Fin 2 → ℕ} (ho : off = ![r, 0]) (inb : ∀ a, off a + (⟨2, ![n, 1024]⟩ : Shape).size a ≤ (⟨2, ![N, 1024]⟩ : Shape).size a)
    (Y : (⟨2, ![N, 1024]⟩ : Shape).Idx → Elt F e) :
    cut (Rect.unit (s := ⟨2, ![N, 1024]⟩) off (⟨2, ![n, 1024]⟩ : Shape).size inb) Y = rowsAt n r Y := by
  subst ho
  have hN : r + n ≤ N := inb 0
  funext x
  have hx := idx2_lt0 x
  unfold cut rowsAt
  refine congrArg Y (funext fun a => Fin.ext ?_)
  rw [ValueKit.rect_emb_unit_val]
  match a with
  | 0 => exact (Nat.mod_eq_of_lt (show r + (x 0).val < N by omega)).symm
  | 1 => exact Nat.zero_add _

theorem paste_rows (n r : ℕ) {off : Fin 2 → ℕ} (ho : off = ![r, 0]) (inb : ∀ a, off a + (⟨2, ![n, 1024]⟩ : Shape).size a ≤ (⟨2, ![N, 1024]⟩ : Shape).size a)
    (w : (⟨2, ![n, 1024]⟩ : Shape).Idx → Elt F e) (Y : (⟨2, ![N, 1024]⟩ : Shape).Idx → Elt F e) :
    paste (Rect.unit (s := ⟨2, ![N, 1024]⟩) off (⟨2, ![n, 1024]⟩ : Shape).size inb) w Y = putRows n r w Y := by
  subst ho
  funext i
  by_cases h : ∃ x, (Rect.unit (s := ⟨2, ![N, 1024]⟩) ![r, 0] (⟨2, ![n, 1024]⟩ : Shape).size inb).emb x = i
  · obtain ⟨x, rfl⟩ := h
    rw [paste_emb]
    refine (putRows_in w Y _ x ?_ ?_).symm
    · rw [ValueKit.rect_emb_unit_val]; rfl
    · rw [ValueKit.rect_emb_unit_val]; exact Nat.zero_add _
  · rw [paste_out _ w Y i fun x hx => h ⟨x, hx⟩]
    refine (putRows_out w Y i ?_).symm
    by_contra hc
    have hlo : r ≤ (i 0).val := by omega
    have hhi : (i 0).val < r + n := by omega
    refine h ⟨ix2 ⟨(i 0).val - r, by omega⟩ (i 1), funext fun a => Fin.ext ?_⟩
    rw [ValueKit.rect_emb_unit_val]
    match a with
    | 0 => show r + ((i 0).val - r) = (i 0).val; omega
    | 1 => exact Nat.zero_add _

/-- A load of `n` rows of a matrix. -/
theorem load_rows {α : Type} (n r : ℕ) {q : PosShare TreeShare} {Y : (⟨2, ![N, 1024]⟩ : Shape).Idx → Elt F e} {off : Fin 2 → ℕ} (ho : off = ![r, 0])
    {inb : ∀ a, off a + (⟨2, ![n, 1024]⟩ : Shape).size a ≤ (⟨2, ![N, 1024]⟩ : Shape).size a}
    {hl : M'.view.LoadsAt (Rect.unit (s := ⟨2, ![N, 1024]⟩) off (⟨2, ![n, 1024]⟩ : Shape).size inb).toLoadRect}
    {k : ((⟨2, ![n, 1024]⟩ : Shape).Idx → Elt F e) → Prog (TpuEff nD τ sig (Elt F) Λ₀ .tc) α} {Q : α → sProp 𝕄} :
    owns (c : Thread nD τ) M' q Y ⊢ iprop((owns (c : Thread nD τ) M' q Y -∗ Wp c (k (rowsAt n r Y)) Q)
      -∗ Wp c (.op (.load M' (Rect.unit (s := ⟨2, ![N, 1024]⟩) off (⟨2, ![n, 1024]⟩ : Shape).size inb).toLoadRect hl) k) Q) := by
  rw [← cut_rows n r ho inb Y]
  exact load_in c

/-- A store of `n` rows of a matrix. -/
theorem store_rows {α : Type} (n r : ℕ) {Y : (⟨2, ![N, 1024]⟩ : Shape).Idx → Elt F e} {off : Fin 2 → ℕ} (ho : off = ![r, 0])
    {inb : ∀ a, off a + (⟨2, ![n, 1024]⟩ : Shape).size a ≤ (⟨2, ![N, 1024]⟩ : Shape).size a} {w : (⟨2, ![n, 1024]⟩ : Shape).Idx → Elt F e}
    {hx : (M'.access (Rect.unit (s := ⟨2, ![N, 1024]⟩) off (⟨2, ![n, 1024]⟩ : Shape).size inb)).Stores Finset.univ}
    {hm : (Finset.univ : Finset (⟨2, ![n, 1024]⟩ : Shape).Idx) = Finset.univ
      ∨ ∀ a, (Rect.unit (s := ⟨2, ![N, 1024]⟩) off (⟨2, ![n, 1024]⟩ : Shape).size inb).stride a = 1}
    {k : PUnit → Prog (TpuEff nD τ sig (Elt F) Λ₀ .tc) α} {Q : α → sProp 𝕄} :
    owns (c : Thread nD τ) M' fullShare Y ⊢ iprop((owns (c : Thread nD τ) M' fullShare (putRows n r w Y) -∗ Wp c (k ⟨⟩) Q)
      -∗ Wp c (.op (.store M' (Rect.unit (s := ⟨2, ![N, 1024]⟩) off (⟨2, ![n, 1024]⟩ : Shape).size inb) w Finset.univ hx hm) k) Q) := by
  rw [← paste_rows n r ho inb w Y]
  exact store_in c

/-- All rows are the matrix. -/
theorem rowsAt_all {α : Type} (X : (⟨2, ![N, 1024]⟩ : Shape).Idx → α) : rowsAt N 0 X = X := by
  funext x
  refine congrArg X (Eq.trans ?_ (eq_ix2 x).symm)
  congr 1
  refine Fin.ext ?_
  show (0 + (x 0).val) % N = (x 0).val
  rw [Nat.zero_add]; exact Nat.mod_eq_of_lt (x 0).isLt

/-- Replacing all rows leaves nothing of the matrix. -/
theorem putRows_all {α : Type} (w X : (⟨2, ![N, 1024]⟩ : Shape).Idx → α) : putRows N 0 w X = w :=
  funext fun i => putRows_in w X i i (Nat.zero_add _).symm rfl

/-- A load of the whole matrix. -/
theorem load_all {α : Type} {q : PosShare TreeShare} {Y : (⟨2, ![N, 1024]⟩ : Shape).Idx → Elt F e}
    {inb : ∀ a, (![0, 0] : Fin 2 → ℕ) a + (⟨2, ![N, 1024]⟩ : Shape).size a ≤ (⟨2, ![N, 1024]⟩ : Shape).size a}
    {hl : M'.view.LoadsAt (Rect.unit (s := ⟨2, ![N, 1024]⟩) ![0, 0] (⟨2, ![N, 1024]⟩ : Shape).size inb).toLoadRect}
    {k : ((⟨2, ![N, 1024]⟩ : Shape).Idx → Elt F e) → Prog (TpuEff nD τ sig (Elt F) Λ₀ .tc) α} {Q : α → sProp 𝕄} :
    owns (c : Thread nD τ) M' q Y ⊢ iprop((owns (c : Thread nD τ) M' q Y -∗ Wp c (k Y) Q)
      -∗ Wp c (.op (.load M' (Rect.unit (s := ⟨2, ![N, 1024]⟩) ![0, 0] (⟨2, ![N, 1024]⟩ : Shape).size inb).toLoadRect hl) k) Q) := by
  have h := load_rows (F := F) c (M' := M') (Q := Q) N 0 (q := q) (Y := Y) rfl (inb := inb) (hl := hl) (k := k)
  rwa [rowsAt_all] at h

/-- A store of the whole matrix. -/
theorem store_all {α : Type} {Y : (⟨2, ![N, 1024]⟩ : Shape).Idx → Elt F e}
    {inb : ∀ a, (![0, 0] : Fin 2 → ℕ) a + (⟨2, ![N, 1024]⟩ : Shape).size a ≤ (⟨2, ![N, 1024]⟩ : Shape).size a} {w : (⟨2, ![N, 1024]⟩ : Shape).Idx → Elt F e}
    {hx : (M'.access (Rect.unit (s := ⟨2, ![N, 1024]⟩) ![0, 0] (⟨2, ![N, 1024]⟩ : Shape).size inb)).Stores Finset.univ}
    {hm : (Finset.univ : Finset (⟨2, ![N, 1024]⟩ : Shape).Idx) = Finset.univ
      ∨ ∀ a, (Rect.unit (s := ⟨2, ![N, 1024]⟩) ![0, 0] (⟨2, ![N, 1024]⟩ : Shape).size inb).stride a = 1}
    {k : PUnit → Prog (TpuEff nD τ sig (Elt F) Λ₀ .tc) α} {Q : α → sProp 𝕄} :
    owns (c : Thread nD τ) M' fullShare Y ⊢ iprop((owns (c : Thread nD τ) M' fullShare w -∗ Wp c (k ⟨⟩) Q)
      -∗ Wp c (.op (.store M' (Rect.unit (s := ⟨2, ![N, 1024]⟩) ![0, 0] (⟨2, ![N, 1024]⟩ : Shape).size inb) w Finset.univ hx hm) k) Q) := by
  have h := store_rows (F := F) c (M' := M') (Q := Q) N 0 (Y := Y) rfl (inb := inb) (w := w) (hx := hx) (hm := hm) (k := k)
  rwa [putRows_all] at h

end Rows
end Mem

end AllReduce
-- ==== Proof.PartsA.lean ====
/-
  The kernel's parts in the first half: the signals and the wait at the barrier, the seven chunks of the partial product sent
  within the plane, and the device's own chunk.
-/
module

public import proofs.«01_k».proof.Proof.Mem

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The kernel's buffers -/

abbrev mX : Memref sig .tc .vmem S1024x1024 .bf16 := Memref.whole cc0_stg0_0
abbrev mW : Memref sig .tc .vmem S1024x1024 .bf16 := Memref.whole cc0_stg1_0
abbrev mO : Memref sig .tc .vmem S1024x1024 .f32 := Memref.whole cc0_stg2_0
abbrev m3 : Memref sig .tc .vmem S1024x1024 .bf16 := Memref.whole cc0_scratch0
abbrev m4 : Memref sig .tc .vmem S7x128x1024 .bf16 := Memref.whole cc0_scratch1
abbrev m5 : Memref sig .tc .vmem S3x32x1024 .bf16 := Memref.whole cc0_scratch2
abbrev m6 : Memref sig .tc .vmem S3x32x1024 .bf16 := Memref.whole cc0_scratch3
abbrev m7 : Memref sig .tc .vmem S32x1024 .bf16 := Memref.whole cc0_scratch4
abbrev m8 : Memref sig .tc .vmem S3x32x1024 .bf16 := Memref.whole cc0_scratch5
abbrev m9 : Memref sig .tc .vmem S128x1024 .bf16 := Memref.whole cc0_scratch6
abbrev m10 : Memref sig .tc .vmem S7x128x1024 .bf16 := Memref.whole cc0_scratch7

/-- A part of the kernel at the kernel's own buffers and semaphores. -/
abbrev at' {β : Type 1} (f : (arg0 : Memref sig .tc .vmem S1024x1024 .bf16) → arg0.IsWhole → (arg1 : Memref sig .tc .vmem S1024x1024 .bf16) → arg1.IsWhole
    → (arg2 : Memref sig .tc .vmem S1024x1024 .f32) → arg2.IsWhole → (arg3 : Memref sig .tc .vmem S1024x1024 .bf16) → arg3.IsWhole
    → (arg4 : Memref sig .tc .vmem S7x128x1024 .bf16) → arg4.IsWhole → (arg5 : Memref sig .tc .vmem S3x32x1024 .bf16) → arg5.IsWhole
    → (arg6 : Memref sig .tc .vmem S3x32x1024 .bf16) → arg6.IsWhole → (arg7 : Memref sig .tc .vmem S32x1024 .bf16) → arg7.IsWhole
    → (arg8 : Memref sig .tc .vmem S3x32x1024 .bf16) → arg8.IsWhole → (arg9 : Memref sig .tc .vmem S128x1024 .bf16) → arg9.IsWhole
    → (arg10 : Memref sig .tc .vmem S7x128x1024 .bf16) → arg10.IsWhole → DmaSems sig S20 → DmaSems sig S20 → β) : β :=
  f mX (Memref.isWhole_whole _) mW (Memref.isWhole_whole _) mO (Memref.isWhole_whole _) m3 (Memref.isWhole_whole _) m4 (Memref.isWhole_whole _)
    m5 (Memref.isWhole_whole _) m6 (Memref.isWhole_whole _) m7 (Memref.isWhole_whole _) m8 (Memref.isWhole_whole _) m9 (Memref.isWhole_whole _)
    m10 (Memref.isWhole_whole _) cc0_scratch8 cc0_scratch9

/-! ## The values the kernel computes -/

section Payloads

abbrev wide {s : Shape} (v : FVec F s .bf16) : FVec F s .f32 := extf .f32 v bitsLt_bf16_f32
abbrev narrow {s : Shape} (v : FVec F s .f32) : FVec F s .bf16 := truncf .bf16 v bitsLt_bf16_f32

theorem pay1_eq (a : FVec F S128x1024 .bf16) : k0_pay1 a = a := by simp only [k0_pay1, shapeCast_self]
theorem pay2_eq (a : FVec F S1024x1024 .bf16) : k0_pay2 a = a := by simp only [k0_pay2, shapeCast_self]
theorem pay8_eq (a : FVec F S128x1024 .bf16) : k0_pay8 a = a := by simp only [k0_pay8, shapeCast_self]
theorem pay9_eq (a : FVec F S1024x1024 .bf16) : k0_pay9 a = a := by simp only [k0_pay9, shapeCast_self]
theorem pay3_eq (a : FVec F S128x1024 .bf16) (w : FVec F S1024x1024 .bf16) : k0_pay3 a w = narrow (prod a w) := by simp only [k0_pay3, shapeCast_self, prod]
theorem pay4_eq (a : FVec F S128x1024 .bf16) (w : FVec F S1024x1024 .bf16) : k0_pay4 a w = narrow (prod a w) := by simp only [k0_pay4, shapeCast_self, prod]
theorem pay5_eq (a : FVec F S128x1024 .bf16) (w : FVec F S1024x1024 .bf16) : k0_pay5 a w = narrow (prod a w) := by simp only [k0_pay5, shapeCast_self, prod]
theorem pay6_eq (a : FVec F S128x1024 .bf16) (w : FVec F S1024x1024 .bf16) : k0_pay6 a w = narrow (prod a w) := by simp only [k0_pay6, shapeCast_self, prod]
theorem pay7_eq (a : FVec F S128x1024 .bf16) (w : FVec F S1024x1024 .bf16) : k0_pay7 a w = narrow (prod a w) := by simp only [k0_pay7, shapeCast_self, prod]
theorem pay10_eq (a : FVec F S128x1024 .bf16) (w : FVec F S1024x1024 .bf16) : k0_pay10 a w = narrow (prod a w) := by simp only [k0_pay10, shapeCast_self, prod]
theorem pay11_eq (a : FVec F S128x1024 .bf16) (w : FVec F S1024x1024 .bf16) : k0_pay11 a w = narrow (prod a w) := by simp only [k0_pay11, shapeCast_self, prod]
theorem pay12_eq (a : FVec F S128x1024 .bf16) (w : FVec F S1024x1024 .bf16) : k0_pay12 a w = prod a w := by simp only [k0_pay12, shapeCast_self, prod]

end Payloads

section Parts
variable (X W : Dev nD → FVec F S1024x1024 .bf16) (K : Dev nD × CK → ℕ) (c : Dev nD)

/-- `step_send` with its resources one by one. -/
theorem send (s : Tr) (m r : ℕ)
    (hd : order.drop m = s :: order.drop (m + 1)) (ht : order.take (m + 1) = order.take m ++ [s])
    (n : Dev nD) (hn : n = peer s.2 c) {src dst : Memref sig .tc .vmem (shp s) .bf16} (hS : src = srcM s c) (hT : dst = dstM s)
    {sS rS : DmaSem sig} (h1 : sS = xsem (false, s)) (h2 : rS = xsem (true, s))
    {hsc : dst.view.ref.isScScratch = false} {hsrc : src.view.WordExact} {hdst : dst.view.WordExact}
    {hsem : DmaTarget.Typed .vmem (.dma rS) (.remote (Dev.tc n : Thread nD τ) dst (.dma sS) hsc)}
    {α : Type} {k : PUnit → Prog (TpuEff nD τ sig (Elt F) Λ₀ .tc) α} {Q : α → sProp 𝕄} :
    Rec X W K ⊢ iprop(St X W c m r -∗ Rdy X W c s -∗ (St X W c (m + 1) r -∗ Wp c (k ⟨⟩) Q)
      -∗ Wp c (.op (.enqueueDma src (.remote (Dev.tc n : Thread nD τ) dst (.dma sS) hsc) (.dma rS) hsrc hdst hsem) k) Q) := by
  iintro #HR HS HA
  iapply (step_send X W K c s m r hd ht n hn hS hT h1 h2)
  isplitr; · iexact HR
  isplitl [HS]; · iexact HS
  iexact HA

/-- `step_recv` with its resources one by one. -/
theorem recv (s : Tr) (m r : ℕ)
    (hd : order.drop r = s :: order.drop (r + 1)) (ht : order.take (r + 1) = order.take r ++ [s])
    (hl : ∀ p ∈ (order.drop m).map Sum.inr, clv (some (true, s)) < clv (pck p))
    {src dst : Memref sig .tc .vmem (shp s) .bf16} (hT : dst = dstM s) {rS : DmaSem sig} (h2 : rS = xsem (true, s))
    {hsrc : src.view.WordExact} {hdst : dst.view.WordExact}
    {α : Type} {k : PUnit → Prog (TpuEff nD τ sig (Elt F) Λ₀ .tc) α} {Q : α → sProp 𝕄} :
    Rec X W K ⊢ iprop(levAts L lv -∗ St X W c m r -∗ (St X W c m (r + 1) -∗ Wp c (k ⟨⟩) Q)
      -∗ Wp c (.op (.waitDma2 rS src dst hsrc hdst) k) Q) := by
  iintro #HR #HL HS
  iapply (step_recv X W K c s m r hd ht hl hT h2)
  isplitr; · iexact HR
  isplitr; · iexact HL
  iexact HS

/-- `step_signal` with its resources one by one. -/
theorem signal (y : Pe) (i : ℕ) (hd : dirs.drop i = y :: dirs.drop (i + 1)) (n : Dev nD) (hn : n = peer y c)
    {sem : Sem sig} (hs : sem = barS) {w : ℕ} (hw : w = 1)
    {α : Type} {k : PUnit → Prog (TpuEff nD τ sig (Elt F) Λ₀ .tc) α} {Q : α → sProp 𝕄} :
    Rec X W K ⊢ iprop(Bar c i -∗ (Bar c (i + 1) -∗ Wp c (k ⟨⟩) Q) -∗ Wp c (.op (.semSignal n sem w) k) Q) := by
  iintro #HR HB
  iapply (step_signal X W K c y i hd n hn hs hw)
  isplitr; · iexact HR
  iexact HB

abbrev Ctx : sProp 𝕄 := owns (c : Thread nD τ) mX fullShare (X c)
abbrev Wo : sProp 𝕄 := owns (c : Thread nD τ) mW fullShare (W c)
abbrev Out (Y : FVec F S1024x1024 .f32) : sProp 𝕄 := owns (c : Thread nD τ) mO fullShare Y

theorem srcA (j : Fin 7) {off : Fin 2 → ℕ} (ho : off = ![128 * pl (peer (.inl j) c), 0]) (inb : ∀ a, off a + S128x1024.size a ≤ S1024x1024.size a) :
    m3.slice (Rect.unit (s := S1024x1024) off S128x1024.size inb) (fun _ => rfl) = srcM (false, .inl j) c := by
  subst ho; rfl

/-! ## The parts -/

theorem part1 {Kt : _ → sProp 𝕄} :
    iprop(∀ a b d e f g, Kt ⟨c, a, b, d, e, f, g⟩) ⊢ Wp c (at' k0_part1) Kt := by
  rw [k0_part1_eq_skeleton]
  unfold at' k0_part1_skel
  simp only [Prog.lift, Prog.bind_op, Prog.bind_ret, Prog.pure_eq_ret, wp_deviceId]
  iintro Hk
  iapply done
  iapply Hk

theorem part2 (v19 v20 v24 v28 v32 : BitVec 32) {Kt : _ → sProp 𝕄} :
    Rec X W K ⊢ iprop(Bar c 0 -∗ (∀ a b d e f g, Bar c 2 -∗ Kt ⟨a, b, d, e, f, g, SemArray.scalar (sig.barrier 0 rfl)⟩)
      -∗ Wp c (at' k0_part2 c v19 v20 v24 v28 v32) Kt) := by
  rw [k0_part2_eq_skeleton]
  unfold at' k0_part2_skel
  simp only [semSignalWord, semWaitWord, Prog.lift, Prog.bind_op, Prog.bind_ret, Prog.pure_eq_ret]
  iintro #HR HB Hk
  iapply (signal X W K c (.inl 0) 0 rfl _ (dev1_eq c) rfl rfl) $$ HR HB
  iintro HB
  iapply (signal X W K c (.inl 1) 1 rfl _ (dev2_eq c) rfl rfl) $$ HR HB
  iintro HB
  iapply done
  iapply Hk $$ HB
/-- What a device holds to start its transfers with, apart from the slots that the barrier hands over. -/
def Tok (c : Dev nD) (s : Tr) : sProp 𝕄 :=
  iprop(dutyTok ER (sendCell c s) 0 (.inl 0) ∗ dutyTok ER (recvCell (peer s.2 c) s) 0 (.inl 0) ∗ atPos ER (sendCell c s) 0 ∅ 0
    ∗ reached ER (sendCell c s) 0)

/-- A list over the neighbours of pairs is a list over the transfers. -/
theorem dirs_order (Φ : Tr → sProp 𝕄) : (bigSepL dirs fun y => iprop(Φ (false, y) ∗ Φ (true, y))) ⊢ bigSepL order Φ := by
  rw [← bigSep_univ_eq_bigSepL order (by ext y; simp [mem_order]) order_nodup, bigSep_univ_prod,
    ← bigSep_univ_eq_bigSepL dirs (by ext y; simp [mem_dirs]) dirs_nodup, bigSep_sep',
    bigSep_univ_eq_bigSepL [false, true] (by decide) (by decide), bigSepL_cons', bigSepL_singleton]

/-- A token and a slot start a transfer. -/
theorem tok_snd (c : Dev nD) (s : Tr) : iprop(Tok c s ∗ Slot (peer s.2 c) s) ⊢ Snd (F := F) c s := by
  unfold Tok Snd
  iintro ⟨⟨H1, H2, H3⟩, H4⟩
  isplitl [H1]; · iexact H1
  isplitl [H2]; · iexact H2
  isplitl [H4]; · iexact H4
  iexact H3

/-- Tokens and slots together start the transfers. -/
theorem to_snd (c : Dev nD) : iprop(bigSepL order (Tok c) ∗ bigSepL dirs fun y => pay X W c none y) ⊢ bigSepL order (Snd (F := F) c) := by
  have h : (bigSepL dirs fun y => pay X W c none y) ⊢ bigSepL order fun s => Slot (peer s.2 c) s := dirs_order fun s => Slot (peer s.2 c) s
  refine (sep_mono_right h).trans ?_
  simp only [← bigSep_univ_eq_bigSepL order (by ext y; simp [mem_order]) order_nodup]
  rw [← bigSep_sep']
  exact bigSep_mono fun s _ => tok_snd c s

theorem part3 (v20 v36 v40 v44 v48 v52 v56 v60 : BitVec 32) {Kt : _ → sProp 𝕄} :
    Rec X W K ⊢ iprop(levAts L lv -∗ Ctx X c -∗ Wo W c -∗ Bar c 2 -∗ atPos ER (barCell c) 0 ∅ 0 -∗ cred (tallyAt (barCell c) () 10)
      -∗ bigSepL order (Tok c) -∗ bigSepL order (Rcv c)
      -∗ (∀ a, Ctx X c -∗ Wo W c -∗ St X W c 0 0 -∗ semVal (barCell c) 0 -∗ Kt ⟨a, rowsAt 128 (128 * pl (peer (.inl 0) c)) (X c), W c⟩)
      -∗ Wp c (at' k0_part3 c v20 v36 v40 v44 v48 v52 v56 v60 (SemArray.scalar (sig.barrier 0 rfl))) Kt) := by
  rw [k0_part3_eq_skeleton]
  unfold at' k0_part3_skel
  simp only [semSignalWord, semWaitWord, Prog.lift, Prog.bind_op, Prog.bind_ret, Prog.pure_eq_ret, pay1_eq, pay2_eq]
  iintro #HR #HL Hx Hw HB Hat Hc Ht HV Hk
  iapply (signal X W K c (.inl 2) 2 rfl _ (dev3_eq c) rfl rfl) $$ HR HB
  iintro HB
  iapply (signal X W K c (.inl 3) 3 rfl _ (dev4_eq c) rfl rfl) $$ HR HB
  iintro HB
  iapply (signal X W K c (.inl 4) 4 rfl _ (dev5_eq c) rfl rfl) $$ HR HB
  iintro HB
  iapply (signal X W K c (.inl 5) 5 rfl _ (dev6_eq c) rfl rfl) $$ HR HB
  iintro HB
  iapply (signal X W K c (.inl 6) 6 rfl _ (dev7_eq c) rfl rfl) $$ HR HB
  iintro HB
  iapply (signal X W K c (.inr 0) 7 rfl _ (dev8_eq c) rfl rfl) $$ HR HB
  iintro HB
  iapply (signal X W K c (.inr 1) 8 rfl _ (dev9_eq c) rfl rfl) $$ HR HB
  iintro HB
  iapply (signal X W K c (.inr 2) 9 rfl _ (dev10_eq c) rfl rfl) $$ HR HB
  iintro HB
  iapply (step_bar X W K c rfl rfl) $$ [HB Hat Hc]
  · isplitr; · iexact HR
    isplitr; · iexact HL
    isplitl [HB]; · iexact HB
    isplitl [Hat]; · iexact Hat
    iexact Hc
  iintro ⟨HO, Hz, Hp⟩
  iapply (load_rows c 128 _ (off1_eq c 0)) $$ Hx
  iintro Hx
  iapply (load_all c) $$ Hw
  iintro Hw
  iapply done
  iapply Hk $$ Hx Hw [HO Ht HV Hp] Hz
  unfold St
  isplitl [HO]; · iexact HO
  isplitl [Ht Hp]
  · iapply (to_snd X W c)
    isplitl [Ht]; · iexact Ht
    iexact Hp
  isplitr [HV]; · iempintro
  isplitl [HV]; · iexact HV
  iempintro

theorem part4 (v19 v20 v83 : BitVec 32) {Kt : _ → sProp 𝕄} :
    Rec X W K ⊢ iprop(Ctx X c -∗ Wo W c -∗ St X W c 0 0 -∗ some' c (chunkM (peer (.inl 0) c)) -∗ some' c (chunkM (peer (.inl 1) c))
      -∗ (∀ a b d, Ctx X c -∗ Wo W c -∗ St X W c 1 0 -∗ Rdy X W c (false, .inl 1) -∗ Kt ⟨a, b, d⟩)
      -∗ Wp c (at' k0_part4 c v19 v20 v83 (rowsAt 128 (128 * pl (peer (.inl 0) c)) (X c)) (W c)) Kt) := by
  rw [k0_part4_eq_skeleton]
  unfold at' k0_part4_skel
  simp only [Prog.lift, Prog.bind_op, Prog.bind_ret, Prog.pure_eq_ret, pay3_eq, pay4_eq]
  iintro #HR Hx Hw HS ⟨%u0, A0⟩ ⟨%u1, A1⟩ Hk
  iapply (load_slice c (off1_eq c 0)) $$ A0
  iintro A0
  iapply (store_slice c (off1_eq c 0)) $$ A0
  iintro A0
  iapply (send X W K c (false, .inl 0) 0 0 rfl rfl _ (dev11_eq c) (srcA c 0 (off2_eq c 0) _) rfl rfl rfl) $$ HR HS [A0]
  · iexact A0
  iintro HS
  iapply (load_rows c 128 _ (off1_eq c 1)) $$ Hx
  iintro Hx
  iapply (load_all c) $$ Hw
  iintro Hw
  iapply (load_slice c (off1_eq c 1)) $$ A1
  iintro A1
  iapply (store_slice c (off1_eq c 1)) $$ A1
  iintro A1
  iapply done
  iapply Hk $$ Hx Hw HS [A1]
  iexact A1

theorem part5 (v19 v20 v110 c128 : BitVec 32) {Kt : _ → sProp 𝕄} :
    Rec X W K ⊢ iprop(Ctx X c -∗ Wo W c -∗ St X W c 1 0 -∗ Rdy X W c (false, .inl 1) -∗ some' c (chunkM (peer (.inl 2) c))
      -∗ (∀ a b, Ctx X c -∗ Wo W c -∗ St X W c 2 0 -∗ Rdy X W c (false, .inl 2) -∗ Kt ⟨a, b⟩)
      -∗ Wp c (at' k0_part5 c v19 v20 v110 c128) Kt) := by
  rw [k0_part5_eq_skeleton]
  unfold at' k0_part5_skel
  simp only [Prog.lift, Prog.bind_op, Prog.bind_ret, Prog.pure_eq_ret, pay5_eq]
  iintro #HR Hx Hw HS A1 ⟨%u2, A2⟩ Hk
  iapply (send X W K c (false, .inl 1) 1 0 rfl rfl _ (dev12_eq c) (srcA c 1 (off2_eq c 1) _) rfl rfl rfl) $$ HR HS [A1]
  · iexact A1
  iintro HS
  iapply (load_rows c 128 _ (off1_eq c 2)) $$ Hx
  iintro Hx
  iapply (load_all c) $$ Hw
  iintro Hw
  iapply (load_slice c (off1_eq c 2)) $$ A2
  iintro A2
  iapply (store_slice c (off1_eq c 2)) $$ A2
  iintro A2
  iapply done
  iapply Hk $$ Hx Hw HS [A2]
  iexact A2

theorem part6 (v19 v20 : BitVec 32) {Kt : _ → sProp 𝕄} :
    Rec X W K ⊢ iprop(Ctx X c -∗ Wo W c -∗ St X W c 2 0 -∗ Rdy X W c (false, .inl 2) -∗ some' c (chunkM (peer (.inl 3) c))
      -∗ (∀ a b, Ctx X c -∗ Wo W c -∗ St X W c 4 0 -∗ Kt ⟨a, b⟩)
      -∗ Wp c (at' k0_part6 c v19 v20) Kt) := by
  rw [k0_part6_eq_skeleton]
  unfold at' k0_part6_skel
  simp only [Prog.lift, Prog.bind_op, Prog.bind_ret, Prog.pure_eq_ret, pay6_eq]
  iintro #HR Hx Hw HS A2 ⟨%u3, A3⟩ Hk
  iapply (send X W K c (false, .inl 2) 2 0 rfl rfl _ (dev13_eq c) (srcA c 2 (off2_eq c 2) _) rfl rfl rfl) $$ HR HS [A2]
  · iexact A2
  iintro HS
  iapply (load_rows c 128 _ (off1_eq c 3)) $$ Hx
  iintro Hx
  iapply (load_all c) $$ Hw
  iintro Hw
  iapply (load_slice c (off1_eq c 3)) $$ A3
  iintro A3
  iapply (store_slice c (off1_eq c 3)) $$ A3
  iintro A3
  iapply (send X W K c (false, .inl 3) 3 0 rfl rfl _ (dev14_eq c) (srcA c 3 (off2_eq c 3) _) rfl rfl rfl) $$ HR HS [A3]
  · iexact A3
  iintro HS
  iapply done
  iapply Hk $$ Hx Hw HS

theorem part7 (v19 v20 v190 : BitVec 32) {Kt : _ → sProp 𝕄} :
    Rec X W K ⊢ iprop(Ctx X c -∗ Wo W c -∗ St X W c 4 0 -∗ some' c (chunkM (peer (.inl 4) c))
      -∗ (∀ a b, Ctx X c -∗ Wo W c -∗ St X W c 5 0 -∗ Kt ⟨a, b, rowsAt 128 (128 * pl (peer (.inl 5) c)) (X c), W c⟩)
      -∗ Wp c (at' k0_part7 c v19 v20 v190) Kt) := by
  rw [k0_part7_eq_skeleton]
  unfold at' k0_part7_skel
  simp only [Prog.lift, Prog.bind_op, Prog.bind_ret, Prog.pure_eq_ret, pay7_eq, pay8_eq, pay9_eq]
  iintro #HR Hx Hw HS ⟨%u4, A4⟩ Hk
  iapply (load_rows c 128 _ (off1_eq c 4)) $$ Hx
  iintro Hx
  iapply (load_all c) $$ Hw
  iintro Hw
  iapply (load_slice c (off1_eq c 4)) $$ A4
  iintro A4
  iapply (store_slice c (off1_eq c 4)) $$ A4
  iintro A4
  iapply (send X W K c (false, .inl 4) 4 0 rfl rfl _ (dev15_eq c) (srcA c 4 (off2_eq c 4) _) rfl rfl rfl) $$ HR HS [A4]
  · iexact A4
  iintro HS
  iapply (load_rows c 128 _ (off1_eq c 5)) $$ Hx
  iintro Hx
  iapply (load_all c) $$ Hw
  iintro Hw
  iapply done
  iapply Hk $$ Hx Hw HS

theorem part8 (v19 v20 v218 : BitVec 32) {Kt : _ → sProp 𝕄} :
    Rec X W K ⊢ iprop(Ctx X c -∗ Wo W c -∗ St X W c 5 0 -∗ some' c (chunkM (peer (.inl 5) c)) -∗ some' c (chunkM (peer (.inl 6) c))
      -∗ (∀ a b d, Ctx X c -∗ Wo W c -∗ St X W c 6 0 -∗ Rdy X W c (false, .inl 6) -∗ Kt ⟨a, b, d⟩)
      -∗ Wp c (at' k0_part8 c v19 v20 v218 (rowsAt 128 (128 * pl (peer (.inl 5) c)) (X c)) (W c)) Kt) := by
  rw [k0_part8_eq_skeleton]
  unfold at' k0_part8_skel
  simp only [Prog.lift, Prog.bind_op, Prog.bind_ret, Prog.pure_eq_ret, pay10_eq, pay11_eq]
  iintro #HR Hx Hw HS ⟨%u5, A5⟩ ⟨%u6, A6⟩ Hk
  iapply (load_slice c (off1_eq c 5)) $$ A5
  iintro A5
  iapply (store_slice c (off1_eq c 5)) $$ A5
  iintro A5
  iapply (send X W K c (false, .inl 5) 5 0 rfl rfl _ (dev16_eq c) (srcA c 5 (off2_eq c 5) _) rfl rfl rfl) $$ HR HS [A5]
  · iexact A5
  iintro HS
  iapply (load_rows c 128 _ (off1_eq c 6)) $$ Hx
  iintro Hx
  iapply (load_all c) $$ Hw
  iintro Hw
  iapply (load_slice c (off1_eq c 6)) $$ A6
  iintro A6
  iapply (store_slice c (off1_eq c 6)) $$ A6
  iintro A6
  iapply done
  iapply Hk $$ Hx Hw HS [A6]
  iexact A6

theorem part9 (v19 v20 v99 v126 v245 c128 : BitVec 32) {Kt : _ → sProp 𝕄} :
    Rec X W K ⊢ iprop(levAts L lv -∗ Ctx X c -∗ Wo W c -∗ St X W c 6 0 -∗ Rdy X W c (false, .inl 6)
      -∗ (∀ a b, Ctx X c -∗ Wo W c -∗ St X W c 7 1 -∗ Kt ⟨a, b, prod (rowsAt 128 (128 * pl c) (X c)) (W c)⟩)
      -∗ Wp c (at' k0_part9 c v19 v20 v99 v126 v245 c128) Kt) := by
  rw [k0_part9_eq_skeleton]
  unfold at' k0_part9_skel
  simp only [Prog.lift, Prog.bind_op, Prog.bind_ret, Prog.pure_eq_ret, pay12_eq]
  iintro #HR #HL Hx Hw HS A6 Hk
  iapply (send X W K c (false, .inl 6) 6 0 rfl rfl _ (dev17_eq c) (srcA c 6 (off2_eq c 6) _) rfl rfl rfl) $$ HR HS [A6]
  · iexact A6
  iintro HS
  iapply (load_rows c 128 _ (off3_eq c)) $$ Hx
  iintro Hx
  iapply (load_all c) $$ Hw
  iintro Hw
  iapply (recv X W K c (false, .inl 0) 7 0 rfl rfl (by decide) rfl rfl) $$ HR HL HS
  iintro HS
  iapply done
  iapply Hk $$ Hx Hw HS

end Parts
end AllReduce
-- ==== Proof.PartsB.lean ====
/-
  The kernel's parts in the middle: the arrivals within the plane and their sum, the exchange along the column, and the
  finished block with its way along the column.
-/
module

public import proofs.«01_k».proof.Proof.PartsA

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The values the kernel computes -/

theorem cast7 : S128x1024.ShapeCasts S1x128x1024 := shapeCasts_S1x128x1024_S128x1024.symm
theorem cast3 : S32x1024.ShapeCasts S1x32x1024 := shapeCasts_S32x1024_S1x32x1024
theorem uncast7 : S1x128x1024.ShapeCasts S128x1024 := shapeCasts_S1x128x1024_S128x1024
theorem uncast3 : S1x32x1024.ShapeCasts S32x1024 := cast3.symm

/-- A chunk as the contents of a slot. -/
abbrev up7 (v : FVec F S128x1024 .bf16) : FVec F S1x128x1024 .bf16 := shapeCast S1x128x1024 v cast7
/-- A block as the contents of a slot. -/
abbrev up3 (v : FVec F S32x1024 .bf16) : FVec F S1x32x1024 .bf16 := shapeCast S1x32x1024 v cast3

theorem pay13_eq (a b d e f : FVec F S128x1024 .bf16) : k0_pay13 (up7 a) (up7 b) (up7 d) (up7 e) (up7 f)
    = addf (addf (addf (addf (wide a) (wide b)) (wide d)) (wide e)) (wide f) := by simp only [k0_pay13, up7, shapeCast_shapeCast]
theorem pay14_eq (u v : FVec F S128x1024 .f32) (a b : FVec F S128x1024 .bf16) : k0_pay14 u v (up7 a) (up7 b)
    = addf u (addf (addf v (wide a)) (wide b)) := by simp only [k0_pay14, up7, shapeCast_shapeCast]
theorem pay15_eq (v : FVec F S32x1024 .f32) : shapeCast S32x1024 (k0_pay15 v) uncast3 = narrow v := by
  simp only [k0_pay15, shapeCast_self, shapeCast_shapeCast]
theorem pay16_eq (v : FVec F S32x1024 .f32) : shapeCast S32x1024 (k0_pay16 v) uncast3 = narrow v := by
  simp only [k0_pay16, shapeCast_self, shapeCast_shapeCast]
theorem pay17_eq (v : FVec F S32x1024 .f32) : k0_pay17 v = narrow v := by simp only [k0_pay17, shapeCast_self]
theorem pay18_eq (v : FVec F S32x1024 .bf16) : shapeCast S32x1024 (k0_pay18 v) uncast3 = v := by
  simp only [k0_pay18, shapeCast_shapeCast]
theorem pay19_eq (a b d : FVec F S32x1024 .bf16) (o : FVec F S32x1024 .f32) : k0_pay19 (up3 a) (up3 b) (up3 d) o
    = addf o (addf (addf (wide a) (wide b)) (wide d)) := by simp only [k0_pay19, up3, shapeCast_self, shapeCast_shapeCast]
theorem pay20_eq (v : FVec F S32x1024 .f32) : k0_pay20 v = narrow v := by simp only [k0_pay20, shapeCast_self]
theorem pay21_eq (a : FVec F S32x1024 .bf16) : k0_pay21 (up3 a) = wide a := by simp only [k0_pay21, up3, shapeCast_shapeCast]
theorem pay22_eq (a : FVec F S32x1024 .bf16) : k0_pay22 (up3 a) = wide a := by simp only [k0_pay22, up3, shapeCast_shapeCast]
theorem pay23_eq (a : FVec F S32x1024 .bf16) : k0_pay23 (up3 a) = wide a := by simp only [k0_pay23, up3, shapeCast_shapeCast]

section Parts
variable (X W : Dev nD → FVec F S1024x1024 .bf16) (K : Dev nD × CK → ℕ) (c : Dev nD)

/-! ## What arrived -/

/-- A load of a slot that a message arrived in. -/
theorem load_got (s : Tr) (n r : ℕ) (hs : (order.take r)[(num s).val]? = some s) {sh : Shape} {M : Memref sig .tc .vmem sh .bf16} {R : Rect sh}
    {hr : ∀ a, R.stride a = 1} {hq : R.shape.Squeezes (shp s)} (hD : (M.slice R hr).squeeze (shp s) hq = dstM s)
    (h1 : (shp s).ShapeCasts R.shape) {hl : M.view.LoadsAt R.toLoadRect}
    {α : Type} {k : (R.shape.Idx → Elt F .bf16) → Prog (TpuEff nD τ sig (Elt F) Λ₀ .tc) α} {Q : α → sProp 𝕄} :
    St X W c n r ⊢ iprop((St X W c n r -∗ Wp c (k (shapeCast R.shape (msg X W s (sender s c)) h1)) Q)
      -∗ Wp c (.op (.load M R.toLoadRect hl) k) Q) := by
  have h := bigSepL_access (order.take r) (Dn X W c) s (List.mem_of_getElem? hs)
  iintro HS Hk
  unfold St
  icases HS with ⟨HO, HS, HD, HV, HN⟩
  ihave HN := h $$ HN
  icases HN with ⟨Hs, HN⟩
  unfold Dn Arr
  rw [← hD]
  icases Hs with ⟨Hz, Hs⟩
  iapply (load_sq c h1 h1.symm) $$ Hs
  iintro Hs
  iapply Hk
  isplitl [HO]; · iexact HO
  isplitl [HS]; · iexact HS
  isplitl [HD]; · iexact HD
  isplitl [HV]; · iexact HV
  iapply HN
  isplitl [Hz]; · iexact Hz
  iexact Hs

/-- A load of a chunk that arrived in the reduction, -/
theorem load_a (j : Fin 7) (n r : ℕ) (hs : (order.take r)[(num (false, .inl j)).val]? = some (false, .inl j))
    {hl : m4.view.LoadsAt (Rect.unit (s := S7x128x1024) ![j.val, 0, 0] S1x128x1024.size (inb7 j)).toLoadRect}
    {α : Type} {k : (S1x128x1024.Idx → Elt F .bf16) → Prog (TpuEff nD τ sig (Elt F) Λ₀ .tc) α} {Q : α → sProp 𝕄} :
    St X W c n r ⊢ iprop((St X W c n r -∗ Wp c (k (up7 (msgA X W j (sender (false, .inl j) c)))) Q)
      -∗ Wp c (.op (.load m4 (Rect.unit (s := S7x128x1024) ![j.val, 0, 0] S1x128x1024.size (inb7 j)).toLoadRect hl) k) Q) :=
  load_got X W c (false, .inl j) n r hs (hq := squeezes_S1x128x1024_S128x1024) rfl cast7
/-- of a block, -/
theorem load_b (j : Fin 3) (n r : ℕ) (hs : (order.take r)[(num (false, .inr j)).val]? = some (false, .inr j))
    {hl : m6.view.LoadsAt (Rect.unit (s := S3x32x1024) ![j.val, 0, 0] S1x32x1024.size (inb3 j)).toLoadRect}
    {α : Type} {k : (S1x32x1024.Idx → Elt F .bf16) → Prog (TpuEff nD τ sig (Elt F) Λ₀ .tc) α} {Q : α → sProp 𝕄} :
    St X W c n r ⊢ iprop((St X W c n r -∗ Wp c (k (up3 (msgB X W j (sender (false, .inr j) c)))) Q)
      -∗ Wp c (.op (.load m6 (Rect.unit (s := S3x32x1024) ![j.val, 0, 0] S1x32x1024.size (inb3 j)).toLoadRect hl) k) Q) :=
  load_got X W c (false, .inr j) n r hs (hq := squeezes_S1x32x1024_S32x1024) rfl cast3
/-- of a finished block, -/
theorem load_c (j : Fin 3) (n r : ℕ) (hs : (order.take r)[(num (true, .inr j)).val]? = some (true, .inr j))
    {hl : m8.view.LoadsAt (Rect.unit (s := S3x32x1024) ![j.val, 0, 0] S1x32x1024.size (inb3 j)).toLoadRect}
    {α : Type} {k : (S1x32x1024.Idx → Elt F .bf16) → Prog (TpuEff nD τ sig (Elt F) Λ₀ .tc) α} {Q : α → sProp 𝕄} :
    St X W c n r ⊢ iprop((St X W c n r -∗ Wp c (k (up3 (zag X W (sender (true, .inr j) c)))) Q)
      -∗ Wp c (.op (.load m8 (Rect.unit (s := S3x32x1024) ![j.val, 0, 0] S1x32x1024.size (inb3 j)).toLoadRect hl) k) Q) :=
  load_got X W c (true, .inr j) n r hs (hq := squeezes_S1x32x1024_S32x1024) rfl cast3
/-- of a finished chunk. -/
theorem load_d (j : Fin 7) (n r : ℕ) (hs : (order.take r)[(num (true, .inl j)).val]? = some (true, .inl j))
    {hl : m10.view.LoadsAt (Rect.unit (s := S7x128x1024) ![j.val, 0, 0] S1x128x1024.size (inb7 j)).toLoadRect}
    {α : Type} {k : (S1x128x1024.Idx → Elt F .bf16) → Prog (TpuEff nD τ sig (Elt F) Λ₀ .tc) α} {Q : α → sProp 𝕄} :
    St X W c n r ⊢ iprop((St X W c n r -∗ Wp c (k (up7 (pag X W (sender (true, .inl j) c)))) Q)
      -∗ Wp c (.op (.load m10 (Rect.unit (s := S7x128x1024) ![j.val, 0, 0] S1x128x1024.size (inb7 j)).toLoadRect hl) k) Q) :=
  load_got X W c (true, .inl j) n r hs (hq := squeezes_S1x128x1024_S128x1024) rfl cast7

/-! ## The result buffer -/

/-- The result buffer after the chunk summed over the plane is written. -/
abbrev outA (X₀ : FVec F S1024x1024 .f32) : FVec F S1024x1024 .f32 := putRows 128 (128 * pl c) (acc1 X W c) X₀

/-- A block of that chunk. -/
theorem outA_block (X₀ : FVec F S1024x1024 .f32) (z : ℕ) (hz : z < 4) :
    rowsAt 32 (128 * pl c + 32 * z) (outA X W c X₀) = rowsAt 32 (32 * z) (acc1 X W c) :=
  rowsAt_putRows_in (by have := pl_lt c; omega) (by omega) _ _

/-- The sum of the first five arrivals is what the kernel computes from them. -/
theorem five_eq : k0_pay13 (up7 (msgA X W 0 (sender (false, .inl 0) c))) (up7 (msgA X W 1 (sender (false, .inl 1) c)))
    (up7 (msgA X W 2 (sender (false, .inl 2) c))) (up7 (msgA X W 3 (sender (false, .inl 3) c))) (up7 (msgA X W 4 (sender (false, .inl 4) c)))
    = five X W c := pay13_eq _ _ _ _ _
/-- The chunk summed over the plane is what the kernel computes from the arrivals. -/
theorem acc1_eq : k0_pay14 (prod (rowsAt 128 (128 * pl c) (X c)) (W c)) (five X W c) (up7 (msgA X W 5 (sender (false, .inl 5) c)))
    (up7 (msgA X W 6 (sender (false, .inl 6) c))) = acc1 X W c := pay14_eq _ _ _ _
/-- So is the block summed over all devices. -/
theorem zsum_eq (X₀ : FVec F S1024x1024 .f32) : k0_pay19 (up3 (msgB X W 0 (sender (false, .inr 0) c))) (up3 (msgB X W 1 (sender (false, .inr 1) c)))
    (up3 (msgB X W 2 (sender (false, .inr 2) c))) (rowsAt 32 (128 * pl c + 32 * zc c) (outA X W c X₀)) = zsum X W c := by
  rw [pay19_eq, outA_block X W c X₀ _ (zc_lt c)]; rfl

/-! ## One buffer for several transfers -/

/-- A whole buffer in equal shares. -/
theorem owns_leaves (b : Ref sig .tc) (f : Buf (Elt F) ((c : Thread nD τ).loc b)) (n : ℕ) :
    (owns (c : Thread nD τ) (Memref.whole b) fullShare f : sProp 𝕄)
      = bigSep Finset.univ fun i : Fin (2 ^ n) => owns (c : Thread nD τ) (Memref.whole b) (ShareLeaves.leaf n fullShare i) f := by
  simp only [owns_whole]
  exact ShareLeaves.pointsTo_leaves _ _ n _

/-- The finished block in four shares, three for the transfers and one that stays. -/
theorem split_zag (v : FVec F S32x1024 .bf16) : (owns (c : Thread nD τ) m7 fullShare v : sProp 𝕄)
    = iprop(owns (c : Thread nD τ) m7 (shr (true, .inr 0)) v ∗ owns (c : Thread nD τ) m7 (shr (true, .inr 1)) v
      ∗ owns (c : Thread nD τ) m7 (shr (true, .inr 2)) v ∗ owns (c : Thread nD τ) m7 (ShareLeaves.leaf 2 fullShare 3) v) := by
  refine (owns_leaves c cc0_scratch4 v 2).trans ?_
  rw [bigSep_univ_eq_bigSepL [(0 : Fin 4), 1, 2, 3] (by decide) (by decide)]
  simp only [bigSepL_cons', bigSepL_nil]
  rw [show ∀ P : sProp 𝕄, iprop(P ∗ BI.emp) = P from fun P => equiv_iff.mp BI.sep_emp]
  rfl

/-- The finished chunk in eight shares, seven for the transfers and one that stays. -/
theorem split_pag (v : FVec F S128x1024 .bf16) : (owns (c : Thread nD τ) m9 fullShare v : sProp 𝕄)
    = iprop(owns (c : Thread nD τ) m9 (shr (true, .inl 0)) v ∗ owns (c : Thread nD τ) m9 (shr (true, .inl 1)) v
      ∗ owns (c : Thread nD τ) m9 (shr (true, .inl 2)) v ∗ owns (c : Thread nD τ) m9 (shr (true, .inl 3)) v
      ∗ owns (c : Thread nD τ) m9 (shr (true, .inl 4)) v ∗ owns (c : Thread nD τ) m9 (shr (true, .inl 5)) v
      ∗ owns (c : Thread nD τ) m9 (shr (true, .inl 6)) v ∗ owns (c : Thread nD τ) m9 (ShareLeaves.leaf 3 fullShare 7) v) := by
  refine (owns_leaves c cc0_scratch6 v 3).trans ?_
  rw [bigSep_univ_eq_bigSepL [(0 : Fin 8), 1, 2, 3, 4, 5, 6, 7] (by decide) (by decide)]
  simp only [bigSepL_cons', bigSepL_nil]
  rw [show ∀ P : sProp 𝕄, iprop(P ∗ BI.emp) = P from fun P => equiv_iff.mp BI.sep_emp]
  rfl

theorem cut_zag (v : FVec F S32x1024 .bf16) : (owns (c : Thread nD τ) m7 fullShare v : sProp 𝕄)
    ⊢ iprop(owns (c : Thread nD τ) m7 (shr (true, .inr 0)) v ∗ owns (c : Thread nD τ) m7 (shr (true, .inr 1)) v
      ∗ owns (c : Thread nD τ) m7 (shr (true, .inr 2)) v ∗ owns (c : Thread nD τ) m7 (ShareLeaves.leaf 2 fullShare 3) v) := by
  rw [split_zag]
theorem cut_pag (v : FVec F S128x1024 .bf16) : (owns (c : Thread nD τ) m9 fullShare v : sProp 𝕄)
    ⊢ iprop(owns (c : Thread nD τ) m9 (shr (true, .inl 0)) v ∗ owns (c : Thread nD τ) m9 (shr (true, .inl 1)) v
      ∗ owns (c : Thread nD τ) m9 (shr (true, .inl 2)) v ∗ owns (c : Thread nD τ) m9 (shr (true, .inl 3)) v
      ∗ owns (c : Thread nD τ) m9 (shr (true, .inl 4)) v ∗ owns (c : Thread nD τ) m9 (shr (true, .inl 5)) v
      ∗ owns (c : Thread nD τ) m9 (shr (true, .inl 6)) v ∗ owns (c : Thread nD τ) m9 (ShareLeaves.leaf 3 fullShare 7) v) := by
  rw [split_pag]

/-- The block sent in the exchange along the column is a block of the summed chunk. -/
theorem msgB_eq (j : Fin 3) : narrow (rowsAt 32 (32 * zc (peer (.inr j) c)) (acc1 X W c)) = msgB X W j c := rfl

/-! ## The parts -/

theorem part10 (v153 v180 v207 v234 : BitVec 32) {Kt : _ → sProp 𝕄} :
    Rec X W K ⊢ iprop(levAts L lv -∗ St X W c 7 1
      -∗ (∀ a b, St X W c 7 5 -∗ Kt ⟨a, b⟩)
      -∗ Wp c (at' k0_part10 c v153 v180 v207 v234) Kt) := by
  rw [k0_part10_eq_skeleton]
  unfold at' k0_part10_skel
  simp only [Prog.lift, Prog.bind_op, Prog.bind_ret, Prog.pure_eq_ret]
  iintro #HR #HL HS Hk
  iapply (recv X W K c (false, .inl 1) 7 1 rfl rfl (by decide) rfl rfl) $$ HR HL HS
  iintro HS
  iapply (recv X W K c (false, .inl 2) 7 2 rfl rfl (by decide) rfl rfl) $$ HR HL HS
  iintro HS
  iapply (recv X W K c (false, .inl 3) 7 3 rfl rfl (by decide) rfl rfl) $$ HR HL HS
  iintro HS
  iapply (recv X W K c (false, .inl 4) 7 4 rfl rfl (by decide) rfl rfl) $$ HR HL HS
  iintro HS
  iapply done
  iapply Hk $$ HS

theorem part11 (v261 v313 c0 : BitVec 32) {Kt : _ → sProp 𝕄} :
    Rec X W K ⊢ iprop(levAts L lv -∗ St X W c 7 5
      -∗ (St X W c 7 7 -∗ Kt (five X W c))
      -∗ Wp c (at' k0_part11 c v261 v313 c0) Kt) := by
  rw [k0_part11_eq_skeleton]
  unfold at' k0_part11_skel
  simp only [Prog.lift, Prog.bind_op, Prog.bind_ret, Prog.pure_eq_ret]
  iintro #HR #HL HS Hk
  iapply (recv X W K c (false, .inl 5) 7 5 rfl rfl (by decide) rfl rfl) $$ HR HL HS
  iintro HS
  iapply (recv X W K c (false, .inl 6) 7 6 rfl rfl (by decide) rfl rfl) $$ HR HL HS
  iintro HS
  iapply (load_a X W c 0 7 7 rfl) $$ HS
  iintro HS
  iapply (load_a X W c 1 7 7 rfl) $$ HS
  iintro HS
  iapply (load_a X W c 2 7 7 rfl) $$ HS
  iintro HS
  iapply (load_a X W c 3 7 7 rfl) $$ HS
  iintro HS
  iapply (load_a X W c 4 7 7 rfl) $$ HS
  iintro HS
  rw [five_eq]
  iapply done
  iapply Hk $$ HS

theorem part12 (v19 v20 v271 : BitVec 32) (X₀ : FVec F S1024x1024 .f32) {Kt : _ → sProp 𝕄} :
    Rec X W K ⊢ iprop(Out c X₀ -∗ St X W c 7 7 -∗ some' c (slot3 m5 0)
      -∗ (∀ a, Out c (outA X W c X₀) -∗ St X W c 7 7 -∗ Rdy X W c (false, .inr 0) -∗ Kt a)
      -∗ Wp c (at' k0_part12 c v19 v20 v271 (prod (rowsAt 128 (128 * pl c) (X c)) (W c)) (five X W c)) Kt) := by
  rw [k0_part12_eq_skeleton]
  unfold at' k0_part12_skel
  simp only [Prog.lift, Prog.bind_op, Prog.bind_ret, Prog.pure_eq_ret]
  iintro #HR Ho HS ⟨%u0, B0⟩ Hk
  iapply (load_a X W c 5 7 7 rfl) $$ HS
  iintro HS
  iapply (load_a X W c 6 7 7 rfl) $$ HS
  iintro HS
  iapply (load_rows c 128 _ (off3_eq c)) $$ Ho
  iintro Ho
  iapply (store_rows c 128 _ (off3_eq c)) $$ Ho
  iintro Ho
  rw [acc1_eq]
  iapply (load_rows c 32 _ (off4_eq c 0)) $$ Ho
  iintro Ho
  iapply (load_sq c cast3 uncast3) $$ B0
  iintro B0
  iapply (store_sq c uncast3) $$ B0
  iintro B0
  rw [outA_block X W c X₀ _ (zc_lt _), pay15_eq]
  iapply done
  iapply Hk $$ Ho HS [B0]
  iexact B0

theorem part13 (v19 v20 v271 : BitVec 32) (X₀ : FVec F S1024x1024 .f32) {Kt : _ → sProp 𝕄} :
    Rec X W K ⊢ iprop(Out c (outA X W c X₀) -∗ St X W c 7 7 -∗ Rdy X W c (false, .inr 0) -∗ some' c (slot3 m5 1)
      -∗ (∀ a b, Out c (outA X W c X₀) -∗ St X W c 9 7 -∗ Kt ⟨a, b, msgB X W 2 c⟩)
      -∗ Wp c (at' k0_part13 c v19 v20 v271) Kt) := by
  rw [k0_part13_eq_skeleton]
  unfold at' k0_part13_skel
  simp only [Prog.lift, Prog.bind_op, Prog.bind_ret, Prog.pure_eq_ret]
  iintro #HR Ho HS B0 ⟨%u1, B1⟩ Hk
  iapply (send X W K c (false, .inr 0) 7 7 rfl rfl _ (dev18_eq c) rfl rfl rfl rfl) $$ HR HS [B0]
  · iexact B0
  iintro HS
  iapply (load_rows c 32 _ (off4_eq c 1)) $$ Ho
  iintro Ho
  iapply (load_sq c cast3 uncast3) $$ B1
  iintro B1
  iapply (store_sq c uncast3) $$ B1
  iintro B1
  rw [outA_block X W c X₀ _ (zc_lt _), pay16_eq]
  iapply (send X W K c (false, .inr 1) 8 7 rfl rfl _ (dev19_eq c) rfl rfl rfl rfl) $$ HR HS [B1]
  · iexact B1
  iintro HS
  iapply (load_rows c 32 _ (off4_eq c 2)) $$ Ho
  iintro Ho
  rw [outA_block X W c X₀ _ (zc_lt _), pay17_eq, msgB_eq]
  iapply done
  iapply Hk $$ Ho HS

theorem part14 (v19 v20 v271 v369 v392 v404 : BitVec 32) {Kt : _ → sProp 𝕄} :
    Rec X W K ⊢ iprop(levAts L lv -∗ St X W c 9 7 -∗ some' c (slot3 m5 2)
      -∗ (∀ a b, St X W c 10 8 -∗ Kt ⟨a, b⟩)
      -∗ Wp c (at' k0_part14 c v19 v20 v271 v369 v392 v404 (msgB X W 2 c)) Kt) := by
  rw [k0_part14_eq_skeleton]
  unfold at' k0_part14_skel
  simp only [Prog.lift, Prog.bind_op, Prog.bind_ret, Prog.pure_eq_ret]
  iintro #HR #HL HS ⟨%u2, B2⟩ Hk
  iapply (load_sq c cast3 uncast3) $$ B2
  iintro B2
  iapply (store_sq c uncast3) $$ B2
  iintro B2
  rw [pay18_eq]
  iapply (send X W K c (false, .inr 2) 9 7 rfl rfl _ (dev20_eq c) rfl rfl rfl rfl) $$ HR HS [B2]
  · iexact B2
  iintro HS
  iapply (recv X W K c (false, .inr 0) 10 7 rfl rfl (by decide) rfl rfl) $$ HR HL HS
  iintro HS
  iapply done
  iapply Hk $$ HS

theorem part15 (v415 v427 : BitVec 32) (X₀ : FVec F S1024x1024 .f32) {Kt : _ → sProp 𝕄} :
    Rec X W K ⊢ iprop(levAts L lv -∗ Out c (outA X W c X₀) -∗ St X W c 10 8
      -∗ (Out c (outB X W c X₀) -∗ St X W c 10 10 -∗ Kt (zsum X W c))
      -∗ Wp c (at' k0_part15 c v415 v427) Kt) := by
  rw [k0_part15_eq_skeleton]
  unfold at' k0_part15_skel
  simp only [Prog.lift, Prog.bind_op, Prog.bind_ret, Prog.pure_eq_ret]
  iintro #HR #HL Ho HS Hk
  iapply (recv X W K c (false, .inr 1) 10 8 rfl rfl (by decide) rfl rfl) $$ HR HL HS
  iintro HS
  iapply (recv X W K c (false, .inr 2) 10 9 rfl rfl (by decide) rfl rfl) $$ HR HL HS
  iintro HS
  iapply (load_b X W c 0 10 10 rfl) $$ HS
  iintro HS
  iapply (load_b X W c 1 10 10 rfl) $$ HS
  iintro HS
  iapply (load_b X W c 2 10 10 rfl) $$ HS
  iintro HS
  iapply (load_rows c 32 _ (off5_eq c)) $$ Ho
  iintro Ho
  iapply (load_rows c 32 _ (off5_eq c)) $$ Ho
  iintro Ho
  iapply (store_rows c 32 _ (off5_eq c)) $$ Ho
  iintro Ho
  rw [zsum_eq]
  iapply (load_rows c 32 _ (off5_eq c)) $$ Ho
  iintro Ho
  rw [rowsAt_putRows _ (by have := pl_lt c; have := zc_lt c; omega)]
  iapply done
  iapply Hk $$ [Ho] HS
  iexact Ho

theorem part16 (v19 v20 : BitVec 32) {Kt : _ → sProp 𝕄} :
    Rec X W K ⊢ iprop(St X W c 10 10 -∗ some' c m7
      -∗ (∀ a b d, St X W c 12 10 -∗ Rdy X W c (true, .inr 2) -∗ owns (c : Thread nD τ) m7 (ShareLeaves.leaf 2 fullShare 3) (zag X W c) -∗ Kt ⟨a, b, d⟩)
      -∗ Wp c (at' k0_part16 c v19 v20 (zsum X W c)) Kt) := by
  rw [k0_part16_eq_skeleton]
  unfold at' k0_part16_skel
  simp only [Prog.lift, Prog.bind_op, Prog.bind_ret, Prog.pure_eq_ret, pay20_eq]
  iintro #HR HS ⟨%u, C⟩ Hk
  iapply (load_all c) $$ C
  iintro C
  iapply (store_all c) $$ C
  iintro C
  ihave C := (cut_zag c _) $$ C
  icases C with ⟨C0, C1, C2, C3⟩
  iapply (send X W K c (true, .inr 0) 10 10 rfl rfl _ (dev21_eq c) rfl rfl rfl rfl) $$ HR HS [C0]
  · iexact C0
  iintro HS
  iapply (send X W K c (true, .inr 1) 11 10 rfl rfl _ (dev22_eq c) rfl rfl rfl rfl) $$ HR HS [C1]
  · iexact C1
  iintro HS
  iapply done
  iapply Hk $$ HS [C2] [C3]
  · iexact C2
  · iexact C3

theorem part17 (v19 v20 v271 v479 v491 v502 : BitVec 32) (X₀ : FVec F S1024x1024 .f32) {Kt : _ → sProp 𝕄} :
    Rec X W K ⊢ iprop(levAts L lv -∗ Out c (outB X W c X₀) -∗ St X W c 12 10 -∗ Rdy X W c (true, .inr 2)
      -∗ (∀ a, Out c (putC X W c 0 (outB X W c X₀)) -∗ St X W c 13 11 -∗ Kt a)
      -∗ Wp c (at' k0_part17 c v19 v20 v271 v479 v491 v502) Kt) := by
  rw [k0_part17_eq_skeleton]
  unfold at' k0_part17_skel
  simp only [Prog.lift, Prog.bind_op, Prog.bind_ret, Prog.pure_eq_ret]
  iintro #HR #HL Ho HS C2 Hk
  iapply (send X W K c (true, .inr 2) 12 10 rfl rfl _ (dev23_eq c) rfl rfl rfl rfl) $$ HR HS [C2]
  · iexact C2
  iintro HS
  iapply (recv X W K c (true, .inr 0) 13 10 rfl rfl (by decide) rfl rfl) $$ HR HL HS
  iintro HS
  iapply (load_c X W c 0 13 11 rfl) $$ HS
  iintro HS
  iapply (load_rows c 32 _ (off6_eq c 0)) $$ Ho
  iintro Ho
  iapply (store_rows c 32 _ (off6_eq c 0)) $$ Ho
  iintro Ho
  rw [pay21_eq]
  iapply done
  iapply Hk $$ [Ho] HS
  iexact Ho

theorem part18 (v19 v271 v503 : BitVec 32) (X₀ : FVec F S1024x1024 .f32) {Kt : _ → sProp 𝕄} :
    Rec X W K ⊢ iprop(levAts L lv -∗ Out c (putC X W c 0 (outB X W c X₀)) -∗ St X W c 13 11
      -∗ (Out c (putC X W c 1 (putC X W c 0 (outB X W c X₀))) -∗ St X W c 13 13 -∗ Kt (wide (zag X W (sender (true, .inr 2) c))))
      -∗ Wp c (at' k0_part18 c v19 v271 v503) Kt) := by
  rw [k0_part18_eq_skeleton]
  unfold at' k0_part18_skel
  simp only [Prog.lift, Prog.bind_op, Prog.bind_ret, Prog.pure_eq_ret]
  iintro #HR #HL Ho HS Hk
  iapply (recv X W K c (true, .inr 1) 13 11 rfl rfl (by decide) rfl rfl) $$ HR HL HS
  iintro HS
  iapply (load_c X W c 1 13 12 rfl) $$ HS
  iintro HS
  iapply (load_rows c 32 _ (off6_eq c 1)) $$ Ho
  iintro Ho
  iapply (store_rows c 32 _ (off6_eq c 1)) $$ Ho
  iintro Ho
  rw [pay22_eq]
  iapply (recv X W K c (true, .inr 2) 13 12 rfl rfl (by decide) rfl rfl) $$ HR HL HS
  iintro HS
  iapply (load_c X W c 2 13 13 rfl) $$ HS
  iintro HS
  rw [pay23_eq]
  iapply done
  iapply Hk $$ [Ho] HS
  iexact Ho

end Parts
end AllReduce
-- ==== Proof.PartsC.lean ====
/-
  The kernel's last parts: the way of the finished chunk within the plane, the arrivals, the end of the transfers.
-/
module

public import proofs.«01_k».proof.Proof.PartsB

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Parts
variable (X W : Dev nD → FVec F S1024x1024 .bf16) (K : Dev nD × CK → ℕ) (c : Dev nD)

theorem pay24_eq (v : FVec F S128x1024 .f32) : k0_pay24 v = narrow v := by simp only [k0_pay24, shapeCast_self]
theorem pay25_eq (a : FVec F S128x1024 .bf16) : k0_pay25 (up7 a) = wide a := by simp only [k0_pay25, up7, shapeCast_shapeCast]
theorem pay26_eq (a : FVec F S128x1024 .bf16) : k0_pay26 (up7 a) = wide a := by simp only [k0_pay26, up7, shapeCast_shapeCast]
theorem pay27_eq (a : FVec F S128x1024 .bf16) : k0_pay27 (up7 a) = wide a := by simp only [k0_pay27, up7, shapeCast_shapeCast]
theorem pay28_eq (a : FVec F S128x1024 .bf16) : k0_pay28 (up7 a) = wide a := by simp only [k0_pay28, up7, shapeCast_shapeCast]
theorem pay29_eq (a : FVec F S128x1024 .bf16) : k0_pay29 (up7 a) = wide a := by simp only [k0_pay29, up7, shapeCast_shapeCast]
theorem pay30_eq (a : FVec F S128x1024 .bf16) : k0_pay30 (up7 a) = wide a := by simp only [k0_pay30, up7, shapeCast_shapeCast]
theorem pay31_eq (a : FVec F S128x1024 .bf16) : k0_pay31 (up7 a) = wide a := by simp only [k0_pay31, up7, shapeCast_shapeCast]

/-- The result buffer after one more chunk of the plane. -/
theorem outD_next (X₀ : FVec F S1024x1024 .f32) (n : ℕ) (r : Fin 7) (h : Fin.ofNat 7 n = r) :
    putRows 128 (128 * pl (peer (opp (.inl r)) c)) (wide (pag X W (sender (true, .inl r) c))) (outD X W c X₀ n) = outD X W c X₀ (n + 1) := by
  subst h; rfl

/-- The result buffer after the last block of the column. -/
theorem outD_start (X₀ : FVec F S1024x1024 .f32) :
    putRows 32 (128 * pl c + 32 * zc (peer (opp (.inr 2)) c)) (wide (zag X W (sender (true, .inr 2) c)))
      (putC X W c 1 (putC X W c 0 (outB X W c X₀))) = outD X W c X₀ 0 := rfl

/-- Its own chunk is then the finished chunk. -/
theorem rowsAt_outD (X₀ : FVec F S1024x1024 .f32) : rowsAt 128 (128 * pl c) (outD X W c X₀ 0) = own X W c := rowsAt_outC X W c X₀

/-- A slot is as large as the transfer into it. -/
theorem credit (s : Tr) (dst : Memref sig .tc .vmem (shp s) .bf16) : dst.view.dmaCredit = amt s := by
  rcases s with ⟨_ | _, _ | _⟩ <;> rfl

/-- `step_dep` with its resources one by one. -/
theorem depart (s : Tr) (m : ℕ) (hd : order.drop m = s :: order.drop (m + 1)) (ht : order.take (m + 1) = order.take m ++ [s])
    {src dst : Memref sig .tc .vmem (shp s) .bf16} {sS : DmaSem sig} (h2 : sS = xsem (false, s))
    {hsrc : src.view.WordExact} {hdst : dst.view.WordExact}
    {α : Type} {k : PUnit → Prog (TpuEff nD τ sig (Elt F) Λ₀ .tc) α} {Q : α → sProp 𝕄} :
    Rec X W K ⊢ iprop(Ed X W c m -∗ (Ed X W c (m + 1) -∗ Wp c (k ⟨⟩) Q) -∗ Wp c (.op (.waitDma2 sS src dst hsrc hdst) k) Q) := by
  iintro #HR HS
  iapply (step_dep X W K c s m hd ht (credit s dst) h2)
  isplitr; · iexact HR
  iexact HS

theorem part19 (v19 v20 v271 : BitVec 32) (X₀ : FVec F S1024x1024 .f32) {Kt : _ → sProp 𝕄} :
    Rec X W K ⊢ iprop(Out c (putC X W c 1 (putC X W c 0 (outB X W c X₀))) -∗ St X W c 13 13 -∗ some' c m9
      -∗ (∀ a b d, Out c (outD X W c X₀ 0) -∗ St X W c 15 13 -∗ Rdy X W c (true, .inl 2) -∗ Rdy X W c (true, .inl 3) -∗ Rdy X W c (true, .inl 4) -∗ Rdy X W c (true, .inl 5) -∗ Rdy X W c (true, .inl 6) -∗ owns (c : Thread nD τ) m9 (ShareLeaves.leaf 3 fullShare 7) (pag X W c) -∗ Kt ⟨a, b, d⟩)
      -∗ Wp c (at' k0_part19 c v19 v20 v271 (wide (zag X W (sender (true, .inr 2) c)))) Kt) := by
  rw [k0_part19_eq_skeleton]
  unfold at' k0_part19_skel
  simp only [Prog.lift, Prog.bind_op, Prog.bind_ret, Prog.pure_eq_ret, pay24_eq]
  iintro #HR Ho HS ⟨%u, D⟩ Hk
  iapply (load_rows c 32 _ (off6_eq c 2)) $$ Ho
  iintro Ho
  iapply (store_rows c 32 _ (off6_eq c 2)) $$ Ho
  iintro Ho
  rw [outD_start]
  iapply (load_rows c 128 _ (off3_eq c)) $$ Ho
  iintro Ho
  rw [rowsAt_outD]
  iapply (load_all c) $$ D
  iintro D
  iapply (store_all c) $$ D
  iintro D
  ihave D := (cut_pag c _) $$ D
  icases D with ⟨D0, D1, D2, D3, D4, D5, D6, D7⟩
  iapply (send X W K c (true, .inl 0) 13 13 rfl rfl _ (dev24_eq c) rfl rfl rfl rfl) $$ HR HS [D0]
  · iexact D0
  iintro HS
  iapply (send X W K c (true, .inl 1) 14 13 rfl rfl _ (dev25_eq c) rfl rfl rfl rfl) $$ HR HS [D1]
  · iexact D1
  iintro HS
  iapply done
  iapply Hk $$ Ho HS [D2] [D3] [D4] [D5] [D6] [D7]
  · iexact D2
  · iexact D3
  · iexact D4
  · iexact D5
  · iexact D6
  · iexact D7

theorem part20 (v19 v20 c8 : BitVec 32) {Kt : _ → sProp 𝕄} :
    Rec X W K ⊢ iprop(St X W c 15 13 -∗ Rdy X W c (true, .inl 2) -∗ Rdy X W c (true, .inl 3)
      -∗ (∀ a b d, St X W c 17 13 -∗ Kt ⟨a, b, d⟩)
      -∗ Wp c (at' k0_part20 c v19 v20 c8) Kt) := by
  rw [k0_part20_eq_skeleton]
  unfold at' k0_part20_skel
  simp only [Prog.lift, Prog.bind_op, Prog.bind_ret, Prog.pure_eq_ret]
  iintro #HR HS D2 D3 Hk
  iapply (send X W K c (true, .inl 2) 15 13 rfl rfl _ (dev26_eq c) rfl rfl rfl rfl) $$ HR HS [D2]
  · iexact D2
  iintro HS
  iapply (send X W K c (true, .inl 3) 16 13 rfl rfl _ (dev27_eq c) rfl rfl rfl rfl) $$ HR HS [D3]
  · iexact D3
  iintro HS
  iapply done
  iapply Hk $$ HS

theorem part21 (v19 v20 v573 : BitVec 32) {Kt : _ → sProp 𝕄} :
    Rec X W K ⊢ iprop(St X W c 17 13 -∗ Rdy X W c (true, .inl 4) -∗ Rdy X W c (true, .inl 5) -∗ Rdy X W c (true, .inl 6)
      -∗ (∀ a b d e, St X W c 20 13 -∗ Kt ⟨a, b, d, e⟩)
      -∗ Wp c (at' k0_part21 c v19 v20 v573) Kt) := by
  rw [k0_part21_eq_skeleton]
  unfold at' k0_part21_skel
  simp only [Prog.lift, Prog.bind_op, Prog.bind_ret, Prog.pure_eq_ret]
  iintro #HR HS D4 D5 D6 Hk
  iapply (send X W K c (true, .inl 4) 17 13 rfl rfl _ (dev28_eq c) rfl rfl rfl rfl) $$ HR HS [D4]
  · iexact D4
  iintro HS
  iapply (send X W K c (true, .inl 5) 18 13 rfl rfl _ (dev29_eq c) rfl rfl rfl rfl) $$ HR HS [D5]
  · iexact D5
  iintro HS
  iapply (send X W K c (true, .inl 6) 19 13 rfl rfl _ (dev30_eq c) rfl rfl rfl rfl) $$ HR HS [D6]
  · iexact D6
  iintro HS
  iapply done
  iapply Hk $$ HS

theorem part22 (v20 v585 v654 c0 : BitVec 32) (X₀ : FVec F S1024x1024 .f32) {Kt : _ → sProp 𝕄} :
    Rec X W K ⊢ iprop(levAts L lv -∗ Out c (outD X W c X₀ 0) -∗ St X W c 20 13
      -∗ (Out c (outD X W c X₀ 1) -∗ St X W c 20 15 -∗ Kt (wide (pag X W (sender (true, .inl 1) c))))
      -∗ Wp c (at' k0_part22 c v20 v585 v654 c0) Kt) := by
  rw [k0_part22_eq_skeleton]
  unfold at' k0_part22_skel
  simp only [Prog.lift, Prog.bind_op, Prog.bind_ret, Prog.pure_eq_ret]
  iintro #HR #HL Ho HS Hk
  iapply (recv X W K c (true, .inl 0) 20 13 rfl rfl (by decide) rfl rfl) $$ HR HL HS
  iintro HS
  iapply (load_d X W c 0 20 14 rfl) $$ HS
  iintro HS
  iapply (load_rows c 128 _ (off7_eq c 0)) $$ Ho
  iintro Ho
  iapply (store_rows c 128 _ (off7_eq c 0)) $$ Ho
  iintro Ho
  rw [pay25_eq, outD_next X W c X₀ 0 0 rfl]
  iapply (recv X W K c (true, .inl 1) 20 14 rfl rfl (by decide) rfl rfl) $$ HR HL HS
  iintro HS
  iapply (load_d X W c 1 20 15 rfl) $$ HS
  iintro HS
  rw [pay26_eq]
  iapply done
  iapply Hk $$ Ho HS

theorem part23 (v20 v597 v609 : BitVec 32) (X₀ : FVec F S1024x1024 .f32) {Kt : _ → sProp 𝕄} :
    Rec X W K ⊢ iprop(levAts L lv -∗ Out c (outD X W c X₀ 1) -∗ St X W c 20 15
      -∗ (∀ a, Out c (outD X W c X₀ 3) -∗ St X W c 20 17 -∗ Kt a)
      -∗ Wp c (at' k0_part23 c v20 v597 v609 (wide (pag X W (sender (true, .inl 1) c)))) Kt) := by
  rw [k0_part23_eq_skeleton]
  unfold at' k0_part23_skel
  simp only [Prog.lift, Prog.bind_op, Prog.bind_ret, Prog.pure_eq_ret]
  iintro #HR #HL Ho HS Hk
  iapply (load_rows c 128 _ (off7_eq c 1)) $$ Ho
  iintro Ho
  iapply (store_rows c 128 _ (off7_eq c 1)) $$ Ho
  iintro Ho
  rw [outD_next X W c X₀ 1 1 rfl]
  iapply (recv X W K c (true, .inl 2) 20 15 rfl rfl (by decide) rfl rfl) $$ HR HL HS
  iintro HS
  iapply (load_d X W c 2 20 16 rfl) $$ HS
  iintro HS
  iapply (load_rows c 128 _ (off7_eq c 2)) $$ Ho
  iintro Ho
  iapply (store_rows c 128 _ (off7_eq c 2)) $$ Ho
  iintro Ho
  rw [pay27_eq, outD_next X W c X₀ 2 2 rfl]
  iapply (recv X W K c (true, .inl 3) 20 16 rfl rfl (by decide) rfl rfl) $$ HR HL HS
  iintro HS
  iapply done
  iapply Hk $$ Ho HS

theorem part24 (v20 v621 v633 v711 : BitVec 32) (X₀ : FVec F S1024x1024 .f32) {Kt : _ → sProp 𝕄} :
    Rec X W K ⊢ iprop(levAts L lv -∗ Out c (outD X W c X₀ 3) -∗ St X W c 20 17
      -∗ (∀ a, Out c (outD X W c X₀ 5) -∗ St X W c 20 19 -∗ Kt a)
      -∗ Wp c (at' k0_part24 c v20 v621 v633 v711) Kt) := by
  rw [k0_part24_eq_skeleton]
  unfold at' k0_part24_skel
  simp only [Prog.lift, Prog.bind_op, Prog.bind_ret, Prog.pure_eq_ret]
  iintro #HR #HL Ho HS Hk
  iapply (load_d X W c 3 20 17 rfl) $$ HS
  iintro HS
  iapply (load_rows c 128 _ (off7_eq c 3)) $$ Ho
  iintro Ho
  iapply (store_rows c 128 _ (off7_eq c 3)) $$ Ho
  iintro Ho
  rw [pay28_eq, outD_next X W c X₀ 3 3 rfl]
  iapply (recv X W K c (true, .inl 4) 20 17 rfl rfl (by decide) rfl rfl) $$ HR HL HS
  iintro HS
  iapply (load_d X W c 4 20 18 rfl) $$ HS
  iintro HS
  iapply (load_rows c 128 _ (off7_eq c 4)) $$ Ho
  iintro Ho
  iapply (store_rows c 128 _ (off7_eq c 4)) $$ Ho
  iintro Ho
  rw [pay29_eq, outD_next X W c X₀ 4 4 rfl]
  iapply (recv X W K c (true, .inl 5) 20 18 rfl rfl (by decide) rfl rfl) $$ HR HL HS
  iintro HS
  iapply done
  iapply Hk $$ Ho HS

theorem part25 (v20 v645 v740 : BitVec 32) (X₀ : FVec F S1024x1024 .f32) {Kt : _ → sProp 𝕄} :
    Rec X W K ⊢ iprop(levAts L lv -∗ Out c (outD X W c X₀ 5) -∗ St X W c 20 19
      -∗ (Out c (outD X W c X₀ 7) -∗ St X W c 20 20 -∗ Kt ⟨⟩)
      -∗ Wp c (at' k0_part25 c v20 v645 v740) Kt) := by
  rw [k0_part25_eq_skeleton]
  unfold at' k0_part25_skel
  simp only [Prog.lift, Prog.bind_op, Prog.bind_ret, Prog.pure_eq_ret]
  iintro #HR #HL Ho HS Hk
  iapply (load_d X W c 5 20 19 rfl) $$ HS
  iintro HS
  iapply (load_rows c 128 _ (off7_eq c 5)) $$ Ho
  iintro Ho
  iapply (store_rows c 128 _ (off7_eq c 5)) $$ Ho
  iintro Ho
  rw [pay30_eq, outD_next X W c X₀ 5 5 rfl]
  iapply (recv X W K c (true, .inl 6) 20 19 rfl rfl (by decide) rfl rfl) $$ HR HL HS
  iintro HS
  iapply (load_d X W c 6 20 20 rfl) $$ HS
  iintro HS
  iapply (load_rows c 128 _ (off7_eq c 6)) $$ Ho
  iintro Ho
  iapply (store_rows c 128 _ (off7_eq c 6)) $$ Ho
  iintro Ho
  rw [pay31_eq, outD_next X W c X₀ 6 6 rfl]
  iapply done
  iapply Hk $$ Ho HS

theorem part26 {Kt : _ → sProp 𝕄} :
    Rec X W K ⊢ iprop(Ed X W c 0
      -∗ (Ed X W c 5 -∗ Kt ⟨⟩)
      -∗ Wp c (at' k0_part26 c) Kt) := by
  rw [k0_part26_eq_skeleton]
  unfold at' k0_part26_skel
  simp only [Prog.lift, Prog.bind_op, Prog.bind_ret, Prog.pure_eq_ret]
  iintro #HR HS Hk
  iapply (depart X W K c (false, .inl 0) 0 rfl rfl rfl) $$ HR HS
  iintro HS
  iapply (depart X W K c (false, .inl 1) 1 rfl rfl rfl) $$ HR HS
  iintro HS
  iapply (depart X W K c (false, .inl 2) 2 rfl rfl rfl) $$ HR HS
  iintro HS
  iapply (depart X W K c (false, .inl 3) 3 rfl rfl rfl) $$ HR HS
  iintro HS
  iapply (depart X W K c (false, .inl 4) 4 rfl rfl rfl) $$ HR HS
  iintro HS
  iapply done
  iapply Hk $$ HS

theorem part27 {Kt : _ → sProp 𝕄} :
    Rec X W K ⊢ iprop(Ed X W c 5
      -∗ (Ed X W c 9 -∗ Kt ⟨⟩)
      -∗ Wp c (at' k0_part27 c) Kt) := by
  rw [k0_part27_eq_skeleton]
  unfold at' k0_part27_skel
  simp only [Prog.lift, Prog.bind_op, Prog.bind_ret, Prog.pure_eq_ret]
  iintro #HR HS Hk
  iapply (depart X W K c (false, .inl 5) 5 rfl rfl rfl) $$ HR HS
  iintro HS
  iapply (depart X W K c (false, .inl 6) 6 rfl rfl rfl) $$ HR HS
  iintro HS
  iapply (depart X W K c (false, .inr 0) 7 rfl rfl rfl) $$ HR HS
  iintro HS
  iapply (depart X W K c (false, .inr 1) 8 rfl rfl rfl) $$ HR HS
  iintro HS
  iapply done
  iapply Hk $$ HS

theorem part28 {Kt : _ → sProp 𝕄} :
    Rec X W K ⊢ iprop(Ed X W c 9
      -∗ (Ed X W c 14 -∗ Kt ⟨⟩)
      -∗ Wp c (at' k0_part28) Kt) := by
  rw [k0_part28_eq_skeleton]
  unfold at' k0_part28_skel
  simp only [Prog.lift, Prog.bind_op, Prog.bind_ret, Prog.pure_eq_ret]
  iintro #HR HS Hk
  iapply (depart X W K c (false, .inr 2) 9 rfl rfl rfl) $$ HR HS
  iintro HS
  iapply (depart X W K c (true, .inr 0) 10 rfl rfl rfl) $$ HR HS
  iintro HS
  iapply (depart X W K c (true, .inr 1) 11 rfl rfl rfl) $$ HR HS
  iintro HS
  iapply (depart X W K c (true, .inr 2) 12 rfl rfl rfl) $$ HR HS
  iintro HS
  iapply (depart X W K c (true, .inl 0) 13 rfl rfl rfl) $$ HR HS
  iintro HS
  iapply done
  iapply Hk $$ HS

theorem part29 {Kt : _ → sProp 𝕄} :
    Rec X W K ⊢ iprop(Ed X W c 14
      -∗ (Ed X W c 19 -∗ Kt ⟨⟩)
      -∗ Wp c (at' k0_part29) Kt) := by
  rw [k0_part29_eq_skeleton]
  unfold at' k0_part29_skel
  simp only [Prog.lift, Prog.bind_op, Prog.bind_ret, Prog.pure_eq_ret]
  iintro #HR HS Hk
  iapply (depart X W K c (true, .inl 1) 14 rfl rfl rfl) $$ HR HS
  iintro HS
  iapply (depart X W K c (true, .inl 2) 15 rfl rfl rfl) $$ HR HS
  iintro HS
  iapply (depart X W K c (true, .inl 3) 16 rfl rfl rfl) $$ HR HS
  iintro HS
  iapply (depart X W K c (true, .inl 4) 17 rfl rfl rfl) $$ HR HS
  iintro HS
  iapply (depart X W K c (true, .inl 5) 18 rfl rfl rfl) $$ HR HS
  iintro HS
  iapply done
  iapply Hk $$ HS

end Parts
end AllReduce
-- ==== Proof.Body.lean ====
/-
  The whole kernel on one device: its parts one after the other.
-/
module

public import proofs.«01_k».proof.Proof.PartsC

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Body
variable (X W : Dev nD → FVec F S1024x1024 .bf16) (K : Dev nD × CK → ℕ) (c : Dev nD)

/-- A program that goes on with another one. -/
theorem next {α β : Type} {p : Prog (TpuEff nD τ sig (Elt F) Λ₀ .tc) α} {k : α → Prog (TpuEff nD τ sig (Elt F) Λ₀ .tc) β} {Q : β → sProp 𝕄} :
    Wp c p (fun a => Wp c (k a) Q) ⊢ Wp c (p >>= k) Q :=
  Entails.of_eq (wp_bind _ _ _ p k Q).symm

/-- What a device starts the kernel with, besides the persistent records. -/
def Start (X₀ : FVec F S1024x1024 .f32) : sProp 𝕄 :=
  iprop((Bar c 0 ∗ atPos ER (barCell c) 0 ∅ 0 ∗ cred (tallyAt (barCell c) () 10) ∗ bigSepL order (Tok c) ∗ bigSepL order (Rcv c))
    ∗ (Ctx X c ∗ Wo W c ∗ Out c X₀)
    ∗ (bigSepL [(0 : Fin 7), 1, 2, 3, 4, 5, 6] fun j => some' c (chunkM (peer (.inl j) c)))
    ∗ (bigSepL [(0 : Fin 3), 1, 2] fun j => some' c (slot3 m5 j)) ∗ some' c m7 ∗ some' c m9)

/-- What it ends with. -/
def Final : sProp 𝕄 :=
  iprop((Ctx X c ∗ Wo W c ∗ Out c (outAt X W c)) ∗ Ed X W c 20 ∗ semVal (barCell c) 0
    ∗ owns (c : Thread nD τ) m7 (ShareLeaves.leaf 2 fullShare 3) (zag X W c) ∗ owns (c : Thread nD τ) m9 (ShareLeaves.leaf 3 fullShare 7) (pag X W c))

/-- The kernel on one device, from its start to its end, with the result in its buffer. -/
theorem body (X₀ : FVec F S1024x1024 .f32) {Kt : PUnit → sProp 𝕄} :
    Rec X W K ⊢ iprop(levAts L lv -∗ Start X W c X₀ -∗ (Final X W c -∗ Kt ⟨⟩) -∗ Wp c (at' cc0__ar_body) Kt) := by
  rw [cc0__ar_body_eq_skeleton]
  unfold at' cc0__ar_body_skel Start
  simp only [bigSepL_cons', bigSepL_nil]
  iintro #HR #HL ⟨⟨HB, Hat, Hcr, HT, HV⟩, ⟨Hx, Hw, Ho⟩, ⟨A0, A1, A2, A3, A4, A5, A6, -⟩, ⟨B0, B1, B2, -⟩, C, D⟩ Hk
  iapply (next c)
  iapply (part1 c)
  iintro %a1 %a2 %a3 %a4 %a5 %a6
  iapply (next c)
  iapply (part2 X W K c _ _ _ _ _) $$ HR HB
  iintro %b1 %b2 %b3 %b4 %b5 %b6 HB
  iapply (next c)
  iapply (part3 X W K c _ _ _ _ _ _ _ _) $$ HR HL Hx Hw HB Hat Hcr HT HV
  iintro %c1 Hx Hw HS Hz
  iapply (next c)
  iapply (part4 X W K c _ _ _) $$ HR Hx Hw HS A0 A1
  iintro %d1 %d2 %d3 Hx Hw HS A1
  iapply (next c)
  iapply (part5 X W K c _ _ _ _) $$ HR Hx Hw HS A1 A2
  iintro %e1 %e2 Hx Hw HS A2
  iapply (next c)
  iapply (part6 X W K c _ _) $$ HR Hx Hw HS A2 A3
  iintro %f1 %f2 Hx Hw HS
  iapply (next c)
  iapply (part7 X W K c _ _ _) $$ HR Hx Hw HS A4
  iintro %g1 %g2 Hx Hw HS
  iapply (next c)
  iapply (part8 X W K c _ _ _) $$ HR Hx Hw HS A5 A6
  iintro %h1 %h2 %h3 Hx Hw HS A6
  iapply (next c)
  iapply (part9 X W K c _ _ _ _ _ _) $$ HR HL Hx Hw HS A6
  iintro %i1 %i2 Hx Hw HS
  iapply (next c)
  iapply (part10 X W K c _ _ _ _) $$ HR HL HS
  iintro %j1 %j2 HS
  iapply (next c)
  iapply (part11 X W K c _ _ _) $$ HR HL HS
  iintro HS
  iapply (next c)
  iapply (part12 X W K c _ _ _ _) $$ HR Ho HS B0
  iintro %k1 Ho HS B0
  iapply (next c)
  iapply (part13 X W K c _ _ _ _) $$ HR Ho HS B0 B1
  iintro %l1 %l2 Ho HS
  iapply (next c)
  iapply (part14 X W K c _ _ _ _ _ _) $$ HR HL HS B2
  iintro %m1 %m2 HS
  iapply (next c)
  iapply (part15 X W K c _ _ _) $$ HR HL Ho HS
  iintro Ho HS
  iapply (next c)
  iapply (part16 X W K c _ _) $$ HR HS C
  iintro %n1 %n2 %n3 HS C2 C3
  iapply (next c)
  iapply (part17 X W K c _ _ _ _ _ _ _) $$ HR HL Ho HS C2
  iintro %o1 Ho HS
  iapply (next c)
  iapply (part18 X W K c _ _ _ _) $$ HR HL Ho HS
  iintro Ho HS
  iapply (next c)
  iapply (part19 X W K c _ _ _ _) $$ HR Ho HS D
  iintro %p1 %p2 %p3 Ho HS D2 D3 D4 D5 D6 D7
  iapply (next c)
  iapply (part20 X W K c _ _ _) $$ HR HS D2 D3
  iintro %q1 %q2 %q3 HS
  iapply (next c)
  iapply (part21 X W K c _ _ _) $$ HR HS D4 D5 D6
  iintro %r1 %r2 %r3 %r4 HS
  iapply (next c)
  iapply (part22 X W K c _ _ _ _ _) $$ HR HL Ho HS
  iintro Ho HS
  iapply (next c)
  iapply (part23 X W K c _ _ _ _) $$ HR HL Ho HS
  iintro %s1 Ho HS
  iapply (next c)
  iapply (part24 X W K c _ _ _ _ _) $$ HR HL Ho HS
  iintro %t1 Ho HS
  iapply (next c)
  iapply (part25 X W K c _ _ _ _) $$ HR HL Ho HS
  iintro Ho HS
  ihave HS := (St_Ed X W c) $$ HS
  iapply (next c)
  iapply (part26 X W K c) $$ HR HS
  iintro HS
  iapply (next c)
  iapply (part27 X W K c) $$ HR HS
  iintro HS
  iapply (next c)
  iapply (part28 X W K c) $$ HR HS
  iintro HS
  iapply (next c)
  iapply (part29 X W K c) $$ HR HS
  iintro HS
  simp only [Prog.lift, Prog.bind_op, Prog.bind_ret, Prog.pure_eq_ret]
  iapply (depart X W K c (true, .inl 6) 19 rfl rfl rfl) $$ HR HS
  iintro HS
  iapply done
  rw [outD_seven]
  iapply Hk
  unfold Final
  isplitl [Hx Hw Ho]
  · isplitl [Hx]; · iexact Hx
    isplitl [Hw]; · iexact Hw
    iexact Ho
  isplitl [HS]; · iexact HS
  isplitl [Hz]; · iexact Hz
  isplitl [C3]; · iexact C3
  iexact D7

end Body
end AllReduce
-- ==== Proof.Memory.lean ====
/-
  The kernel's buffers cut into the slots of the transfers, and put together again.
-/
module

public import Idealize.ShloMosaic.Lib.Ring
public import proofs.«01_k».proof.Proof.Body

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

open Idealize.ShloMosaic.Ring

section Memory
variable (c : Dev nD)

/-- A buffer part with unknown contents, as elements of its buffer. -/
abbrev raw {sp : Space} {sh : Shape} {e : EltTy} (m : Memref sig .tc sp sh e) : sProp 𝕄 :=
  iprop(∃ f : Buf (Elt F) (m.view.loc (c : Thread nD τ)), m.view.loc (c : Thread nD τ) ↦[m.view.set]{fullShare} f)

theorem some_raw {sh : Shape} (m : Memref sig .tc .vmem sh .bf16) : (some' c m : sProp 𝕄) = raw c m := by
  have h1 : (some' c m : sProp 𝕄) ⊢ raw c m := by
    unfold some' owns
    iintro ⟨%v, %f, %h, H⟩
    iexists f
    iexact H
  have h2 : (raw c m : sProp 𝕄) ⊢ some' c m := by
    iintro ⟨%f, H⟩
    iexists _
    iapply (owns_intro (c : Thread nD τ) m fullShare f)
    iexact H
  exact equiv_iff.mp ⟨h1, h2⟩

theorem raw_squeeze {sh sh' : Shape} (m : Memref sig .tc .vmem sh .bf16) (h : sh.Squeezes sh') : (raw c (m.squeeze sh' h) : sProp 𝕄) = raw c m := by
  have : (m.squeeze sh' h).view.set = m.view.set := View.set_reshape _ _
  show iprop(∃ f : Buf (Elt F) (m.view.loc (c : Thread nD τ)), m.view.loc (c : Thread nD τ) ↦[(m.squeeze sh' h).view.set]{fullShare} f) = _
  rw [this]

section Family
variable {sh : Shape} {B : Type} [Fintype B] [DecidableEq B] (m : Memref sig .tc .vmem sh .bf16) (R : B → Rect sh) (hr : ∀ b a, (R b).stride a = 1)
  (hd : ∀ b b', b ≠ b' → Disjoint (R b).set (R b').set) (hc : Finset.univ.biUnion (fun b => (R b).set) = Finset.univ)

include hd in
theorem fam_disj (b b' : B) (h : b ≠ b') : Disjoint (m.view.slice (R b)).set (m.view.slice (R b')).set := by
  rw [View.set_slice, View.set_slice]; exact (Finset.disjoint_map _).mpr (hd b b' h)
include hc in
theorem fam_cover : Finset.univ.biUnion (fun b => (m.view.slice (R b)).set) = m.view.set := by
  have h : ∀ b, (m.view.slice (R b)).set = (R b).set.map m.view.emb := fun b => View.set_slice _ _
  ext i
  rw [Finset.mem_biUnion]
  constructor
  · rintro ⟨b, -, hb⟩; exact View.set_slice_subset _ _ hb
  · intro hi
    obtain ⟨x, -, rfl⟩ := Finset.mem_map.mp hi
    have : x ∈ Finset.univ.biUnion (fun b => (R b).set) := by rw [hc]; exact Finset.mem_univ x
    obtain ⟨b, -, hb⟩ := Finset.mem_biUnion.mp this
    exact ⟨b, Finset.mem_univ b, by rw [h]; exact Finset.mem_map_of_mem _ hb⟩

include hd hc in
/-- A buffer in pieces, -/
theorem fam_split : (raw c m : sProp 𝕄) ⊢ bigSep Finset.univ fun b => raw c (m.slice (R b) (hr b)) := by
  have h (f : Buf (Elt F) (m.view.loc (c : Thread nD τ))) :
      (bigSep Finset.univ fun b => m.view.loc (c : Thread nD τ) ↦[(m.view.slice (R b)).set]{fullShare} f : sProp 𝕄)
        ⊢ bigSep Finset.univ fun b => raw c (m.slice (R b) (hr b)) :=
    bigSep_mono fun b _ => (show (m.view.loc (c : Thread nD τ) ↦[(m.view.slice (R b)).set]{fullShare} f : sProp 𝕄)
      ⊢ raw c (m.slice (R b) (hr b)) from by iintro H; iexists f; iexact H)
  iintro ⟨%f, H⟩
  ihave H := (Entails.of_eq (pointsTo_sub_blocks (ℓ := m.view.loc (c : Thread nD τ)) (fun b => (m.view.slice (R b)).set) (fam_disj m R hd) m.view.set (fam_cover m R hc) f)) $$ H
  iapply (h f)
  iexact H
include hd hc in
/-- and the pieces together. -/
theorem fam_join : (bigSep Finset.univ fun b => raw c (m.slice (R b) (hr b)) : sProp 𝕄) ⊢ raw c m :=
  pointsTo_sub_blocks_join_exists (ℓ := m.view.loc (c : Thread nD τ)) (fun b => (m.view.slice (R b)).set) (fam_disj m R hd) m.view.set (fam_cover m R hc) default
end Family

/-- The rectangle of slot `j` of a buffer of seven chunks, -/
abbrev rect7 (j : Fin 7) : Rect S7x128x1024 := Rect.unit ![j.val, 0, 0] S1x128x1024.size (inb7 j)
/-- of three blocks, -/
abbrev rect3 (j : Fin 3) : Rect S3x32x1024 := Rect.unit ![j.val, 0, 0] S1x32x1024.size (inb3 j)
theorem inb8 (e : Fin 8) : ∀ a, (![128 * e.val, 0] : Fin 2 → ℕ) a + S128x1024.size a ≤ S1024x1024.size a := by
  revert e; decide +kernel
/-- of chunk `e` of a square buffer. -/
abbrev rect8 (e : Fin 8) : Rect S1024x1024 := Rect.unit ![128 * e.val, 0] S128x1024.size (inb8 e)

theorem rect7_disj (b b' : Fin 7) (h : b ≠ b') : Disjoint (rect7 b).set (rect7 b').set :=
  lead_disjoint (s := S7x128x1024) (0 : Fin 3) 1 (fun j : Fin 7 => ![j.val, 0, 0]) S1x128x1024.size inb7 (fun b => (Nat.one_mul _).symm) rfl b b' h
theorem rect7_cover : Finset.univ.biUnion (fun b => (rect7 b).set) = Finset.univ :=
  lead_cover (s := S7x128x1024) (0 : Fin 3) 1 (fun j : Fin 7 => ![j.val, 0, 0]) S1x128x1024.size inb7 (fun b => (Nat.one_mul _).symm)
    (by intro b a; revert b; fin_cases a <;> decide) rfl (by decide) rfl
theorem rect3_disj (b b' : Fin 3) (h : b ≠ b') : Disjoint (rect3 b).set (rect3 b').set :=
  lead_disjoint (s := S3x32x1024) (0 : Fin 3) 1 (fun j : Fin 3 => ![j.val, 0, 0]) S1x32x1024.size inb3 (fun b => (Nat.one_mul _).symm) rfl b b' h
theorem rect3_cover : Finset.univ.biUnion (fun b => (rect3 b).set) = Finset.univ :=
  lead_cover (s := S3x32x1024) (0 : Fin 3) 1 (fun j : Fin 3 => ![j.val, 0, 0]) S1x32x1024.size inb3 (fun b => (Nat.one_mul _).symm)
    (by intro b a; revert b; fin_cases a <;> decide) rfl (by decide) rfl
theorem rect8_disj (b b' : Fin 8) (h : b ≠ b') : Disjoint (rect8 b).set (rect8 b').set :=
  lead_disjoint (s := S1024x1024) (0 : Fin 2) 128 (fun j : Fin 8 => ![128 * j.val, 0]) S128x1024.size inb8 (fun b => rfl) rfl b b' h
theorem rect8_cover : Finset.univ.biUnion (fun b => (rect8 b).set) = Finset.univ :=
  lead_cover (s := S1024x1024) (0 : Fin 2) 128 (fun j : Fin 8 => ![128 * j.val, 0]) S128x1024.size inb8 (fun b => rfl)
    (by intro b a; revert b; fin_cases a <;> decide) rfl (by decide) rfl

/-- A buffer of seven chunks is its slots, -/
theorem slots7 (M : Memref sig .tc .vmem S7x128x1024 .bf16) :
    (raw c M : sProp 𝕄) = bigSepL [(0 : Fin 7), 1, 2, 3, 4, 5, 6] fun j => some' c (slot7 M j) := by
  rw [← bigSep_univ_eq_bigSepL [(0 : Fin 7), 1, 2, 3, 4, 5, 6] (by decide) (by decide)]
  simp only [some_raw, raw_squeeze]
  exact equiv_iff.mp ⟨fam_split c M rect7 (fun _ _ => rfl) rect7_disj rect7_cover, fam_join c M rect7 (fun _ _ => rfl) rect7_disj rect7_cover⟩
/-- a buffer of three blocks likewise, -/
theorem slots3 (M : Memref sig .tc .vmem S3x32x1024 .bf16) :
    (raw c M : sProp 𝕄) = bigSepL [(0 : Fin 3), 1, 2] fun j => some' c (slot3 M j) := by
  rw [← bigSep_univ_eq_bigSepL [(0 : Fin 3), 1, 2] (by decide) (by decide)]
  simp only [some_raw, raw_squeeze]
  exact equiv_iff.mp ⟨fam_split c M rect3 (fun _ _ => rfl) rect3_disj rect3_cover, fam_join c M rect3 (fun _ _ => rfl) rect3_disj rect3_cover⟩

/-- The chunks of the plane's devices, a device's own first. -/
def chunkNo : List (Fin 8) := ⟨pl c, pl_lt c⟩ :: [(0 : Fin 7), 1, 2, 3, 4, 5, 6].map fun j => ⟨pl (peer (.inl j) c), pl_lt _⟩
theorem chunkNo_all : Finset.univ = (chunkNo c).toFinset := by revert c; decide +kernel
theorem chunkNo_nodup : (chunkNo c).Nodup := by revert c; decide +kernel

/-- and the buffer of the partial products is the chunk that stays and the seven that go. -/
theorem chunks : (raw c m3 : sProp 𝕄)
    = iprop(some' c (chunkM c) ∗ bigSepL [(0 : Fin 7), 1, 2, 3, 4, 5, 6] fun j => some' c (chunkM (peer (.inl j) c))) := by
  have h : (raw c m3 : sProp 𝕄) = bigSep Finset.univ fun e => raw c (m3.slice (rect8 e) (fun _ => rfl)) :=
    equiv_iff.mp ⟨fam_split c m3 rect8 (fun _ _ => rfl) rect8_disj rect8_cover, fam_join c m3 rect8 (fun _ _ => rfl) rect8_disj rect8_cover⟩
  rw [h, bigSep_univ_eq_bigSepL (chunkNo c) (chunkNo_all c) (chunkNo_nodup c)]
  unfold chunkNo
  rw [bigSepL_cons', bigSepL_map]
  simp only [some_raw]

end Memory
end AllReduce
-- ==== Proof.Assemble.lean ====
/-
  What a device is given when the kernel begins, put into the form in which its run was verified, and what the run leaves, put
  back into whole buffers and semaphores at zero.
-/
module

public import proofs.«01_k».proof.Proof.Memory

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

section Lists

/-- The conjunction over the transfers, step by step. -/
theorem order_parts (Φ : Tr → sProp 𝕄) : bigSepL order Φ
    = iprop((bigSepL [(0 : Fin 7), 1, 2, 3, 4, 5, 6] fun j => Φ (false, .inl j)) ∗ (bigSepL [(0 : Fin 3), 1, 2] fun j => Φ (false, .inr j))
      ∗ (bigSepL [(0 : Fin 3), 1, 2] fun j => Φ (true, .inr j)) ∗ bigSepL [(0 : Fin 7), 1, 2, 3, 4, 5, 6] fun j => Φ (true, .inl j)) := by
  have h : order = [(0 : Fin 7), 1, 2, 3, 4, 5, 6].map (fun j => ((false, .inl j) : Tr)) ++ ([(0 : Fin 3), 1, 2].map (fun j => ((false, .inr j) : Tr))
      ++ ([(0 : Fin 3), 1, 2].map (fun j => ((true, .inr j) : Tr)) ++ [(0 : Fin 7), 1, 2, 3, 4, 5, 6].map (fun j => ((true, .inl j) : Tr)))) := rfl
  rw [h]
  simp only [bigSepL_append, bigSepL_map]

theorem over_order (Φ : Tr → sProp 𝕄) : bigSep Finset.univ Φ = bigSepL order Φ :=
  bigSep_univ_eq_bigSepL order (by ext y; simp [mem_order]) order_nodup Φ
theorem over_dirs (Φ : Pe → sProp 𝕄) : bigSep Finset.univ Φ = bigSepL dirs Φ :=
  bigSep_univ_eq_bigSepL dirs (by ext y; simp [mem_dirs]) dirs_nodup Φ
theorem over_bool (Φ : Bool → sProp 𝕄) : bigSep Finset.univ Φ = iprop(Φ false ∗ Φ true) := by
  rw [bigSep_univ_eq_bigSepL [false, true] (by decide) (by decide), bigSepL_cons', bigSepL_singleton]

theorem order_sep (Φ Ψ : Tr → sProp 𝕄) : (bigSepL order fun s => iprop(Φ s ∗ Ψ s)) = iprop(bigSepL order Φ ∗ bigSepL order Ψ) := by
  rw [← over_order, ← over_order, ← over_order, bigSep_sep']
theorem dirs_sep (Φ Ψ : Pe → sProp 𝕄) : (bigSepL dirs fun s => iprop(Φ s ∗ Ψ s)) = iprop(bigSepL dirs Φ ∗ bigSepL dirs Ψ) := by
  rw [← over_dirs, ← over_dirs, ← over_dirs, bigSep_sep']
/-- The conjunction over the transfers, neighbour by neighbour. -/
theorem order_dirs (Φ : Tr → sProp 𝕄) : bigSepL order Φ = bigSepL dirs fun y => iprop(Φ (false, y) ∗ Φ (true, y)) := by
  rw [← over_order, bigSep_univ_prod, over_bool, over_dirs, over_dirs, dirs_sep]
/-- Every neighbour is the opposite of one. -/
theorem dirs_opp (Φ : Pe → sProp 𝕄) : bigSepL dirs Φ = bigSepL dirs fun y => Φ (opp y) := by
  rw [← over_dirs, ← over_dirs, bigSep_univ_equiv oppE Φ]; rfl

end Lists

section Assemble
variable (X W : Dev nD → FVec F S1024x1024 .bf16) (c : Dev nD)

/-- The kernel's buffers, whole, contents unknown. -/
def Scr : sProp 𝕄 := iprop(raw c m3 ∗ raw c m4 ∗ raw c m5 ∗ raw c m6 ∗ raw c m7 ∗ raw c m8 ∗ raw c m9 ∗ raw c m10)
/-- The tokens and positions a device starts with. -/
def Lin : sProp 𝕄 :=
  iprop(atPos ER (barCell c) 0 ∅ 0 ∗ (bigSepL dirs fun y => dutyTok ER (barCell (peer y c)) 0 (opp y)) ∗ bigSepL order (Tok c)
    ∗ (bigSepL order fun s => atPos ER (recvCell c s) 0 ∅ 0) ∗ bigSepL order fun s => reached ER (recvCell c s) 0)
/-- The credit it starts with: one unit from each neighbour on its barrier, and every arrival. -/
def Crd : sProp 𝕄 := iprop(cred (tallyAt (barCell c) () 10) ∗ bigSepL order fun s => cred (tallyAt (recvCell c s) () (amt s)))
/-- Its semaphores at zero. -/
def Sems : sProp 𝕄 :=
  iprop((bigSepL order fun s => semVal (sendCell c s) 0) ∗ (bigSepL order fun s => semVal (recvCell c s) 0) ∗ semVal (barCell c) 0)

/-- The four landing buffers are the landing slots of all transfers. -/
theorem landing : iprop(raw c m4 ∗ raw c m6 ∗ raw c m8 ∗ raw c m10) = bigSepL order fun s => some' (F := F) c (dstM s) := by
  rw [order_parts, slots7, slots3, slots3, slots7]
  rfl

/-- Token and slots for each neighbour make the signals. -/
theorem signals : iprop((bigSepL dirs fun y => dutyTok ER (barCell (peer y c)) 0 (opp y)) ∗ (bigSepL order fun s => some' (F := F) c (dstM s))
      ∗ bigSepL order fun s => reached ER (recvCell c s) 0) ⊢ bigSepL dirs (Sig (F := F) c) := by
  rw [← order_sep, order_dirs, dirs_opp fun y => iprop(Slot (F := F) c (false, y) ∗ Slot c (true, y)), ← dirs_sep]
  exact Entails.of_eq rfl

theorem arrivals : iprop((bigSepL order fun s => atPos ER (recvCell c s) 0 ∅ 0) ∗ bigSepL order fun s => cred (tallyAt (recvCell c s) () (amt s)))
    ⊢ bigSepL order (Rcv (F := F) c) := by
  rw [← order_sep]
  exact Entails.of_eq rfl

/-- The start of the run. -/
theorem start_of (X₀ : FVec F S1024x1024 .f32) :
    iprop(Owes c pays ∗ Lin c ∗ Crd c ∗ (Ctx X c ∗ Wo W c ∗ Out c X₀) ∗ Scr c) ⊢ iprop(Start X W c X₀ ∗ some' c (chunkM c)) := by
  unfold Lin Crd Scr Start Bar
  iintro ⟨HO, ⟨Hb, Hd, HT, Ha, Hq⟩, ⟨Hc, Hr⟩, HW, S3, S4, S5, S6, S7, S8, S9, S10⟩
  ihave HS := (Entails.of_eq (landing (F := F) c)) $$ [S4 S6 S8 S10]
  · isplitl [S4]; · iexact S4
    isplitl [S6]; · iexact S6
    isplitl [S8]; · iexact S8
    iexact S10
  ihave HG := (signals (F := F) c) $$ [Hd HS Hq]
  · isplitl [Hd]; · iexact Hd
    isplitl [HS]; · iexact HS
    iexact Hq
  ihave HR := (arrivals (F := F) c) $$ [Ha Hr]
  · isplitl [Ha]; · iexact Ha
    iexact Hr
  ihave HC := (Entails.of_eq (chunks (F := F) c)) $$ S3
  icases HC with ⟨H0, HC⟩
  ihave H5 := (Entails.of_eq (slots3 (F := F) c m5)) $$ S5
  ihave H7 := (Entails.of_eq (some_raw (F := F) c m7).symm) $$ S7
  ihave H9 := (Entails.of_eq (some_raw (F := F) c m9).symm) $$ S9
  isplitr [H0]
  · isplitl [HO HG Hb Hc HT HR]
    · isplitl [HO HG]
      · isplitl [HO]; · iexact HO
        iexact HG
      isplitl [Hb]; · iexact Hb
      isplitl [Hc]; · iexact Hc
      isplitl [HT]; · iexact HT
      iexact HR
    isplitl [HW]; · iexact HW
    isplitl [HC]; · iexact HC
    isplitl [H5]; · iexact H5
    isplitl [H7]; · iexact H7
    iexact H9
  iexact H0

/-- The sources of all transfers and the parts kept aside are the four source buffers. -/
theorem sources : iprop((bigSepL order (Rdy X W c)) ∗ some' c (chunkM c)
      ∗ owns (c : Thread nD τ) m7 (ShareLeaves.leaf 2 fullShare 3) (zag X W c) ∗ owns (c : Thread nD τ) m9 (ShareLeaves.leaf 3 fullShare 7) (pag X W c))
    ⊢ iprop(raw c m3 ∗ raw c m5 ∗ raw c m7 ∗ raw c m9) := by
  have hA : (bigSepL [(0 : Fin 7), 1, 2, 3, 4, 5, 6] fun j => Rdy X W c (false, .inl j)) ⊢ bigSepL [(0 : Fin 7), 1, 2, 3, 4, 5, 6] fun j => some' c (chunkM (peer (.inl j) c)) :=
    bigSepL_mono fun j _ => by iintro H; iexists _; iexact H
  have hB : (bigSepL [(0 : Fin 3), 1, 2] fun j => Rdy X W c (false, .inr j)) ⊢ bigSepL [(0 : Fin 3), 1, 2] fun j => some' c (slot3 m5 j) :=
    bigSepL_mono fun j _ => by iintro H; iexists _; iexact H
  have hC : iprop((bigSepL [(0 : Fin 3), 1, 2] fun j => Rdy X W c (true, .inr j)) ∗ owns (c : Thread nD τ) m7 (ShareLeaves.leaf 2 fullShare 3) (zag X W c))
      ⊢ raw c m7 := by
    rw [← some_raw]
    simp only [bigSepL_cons', bigSepL_nil]
    iintro ⟨⟨H0, H1, H2, -⟩, H3⟩
    iexists (zag X W c)
    rw [split_zag]
    isplitl [H0]; · iexact H0
    isplitl [H1]; · iexact H1
    isplitl [H2]; · iexact H2
    iexact H3
  have hD : iprop((bigSepL [(0 : Fin 7), 1, 2, 3, 4, 5, 6] fun j => Rdy X W c (true, .inl j)) ∗ owns (c : Thread nD τ) m9 (ShareLeaves.leaf 3 fullShare 7) (pag X W c))
      ⊢ raw c m9 := by
    rw [← some_raw]
    simp only [bigSepL_cons', bigSepL_nil]
    iintro ⟨⟨H0, H1, H2, H3, H4, H5, H6, -⟩, H7⟩
    iexists (pag X W c)
    rw [split_pag]
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  rw [order_parts, chunks, slots3]
  iintro ⟨⟨HA, HB, HC, HD⟩, H0, H7, H9⟩
  isplitl [HA H0]
  · isplitl [H0]; · iexact H0
    iapply hA $$ HA
  isplitl [HB]
  · iapply hB $$ HB
  isplitl [HC H7]
  · iapply hC
    isplitl [HC]; · iexact HC
    iexact H7
  iapply hD
  isplitl [HD]; · iexact HD
  iexact H9

/-- The end of the run. -/
theorem final_of : iprop(Final X W c ∗ some' c (chunkM c)) ⊢ iprop((Ctx X c ∗ Wo W c ∗ Out c (outAt X W c)) ∗ Owes c [] ∗ Scr c ∗ Sems c) := by
  have hG : bigSepL (order.take 20) (Gone X W c) ⊢ iprop((bigSepL order fun s => semVal (sendCell c s) 0) ∗ bigSepL order (Rdy X W c)) := by
    rw [← order_sep]; exact Entails.of_eq rfl
  have hD : bigSepL order (Dn X W c) ⊢ iprop((bigSepL order fun s => semVal (recvCell c s) 0) ∗ bigSepL order (Arr X W c)) := by
    rw [← order_sep]; exact Entails.of_eq rfl
  have hA : bigSepL order (Arr X W c) ⊢ iprop(raw c m4 ∗ raw c m6 ∗ raw c m8 ∗ raw c m10) := by
    rw [landing]
    exact bigSepL_mono fun s _ => by iintro H; iexists _; iexact H
  unfold Final Ed Scr Sems
  iintro ⟨⟨HW, ⟨HO, -, HG, HD⟩, Hz, H7, H9⟩, H0⟩
  ihave HG := hG $$ HG
  icases HG with ⟨Gs, Gr⟩
  ihave HD := hD $$ HD
  icases HD with ⟨Ds, Dr⟩
  ihave HS := (sources X W c) $$ [Gr H0 H7 H9]
  · isplitl [Gr]; · iexact Gr
    isplitl [H0]; · iexact H0
    isplitl [H7]; · iexact H7
    iexact H9
  icases HS with ⟨S3, S5, S7, S9⟩
  ihave HL := hA $$ Dr
  icases HL with ⟨S4, S6, S8, S10⟩
  isplitl [HW]; · iexact HW
  isplitl [HO]; · iexact HO
  isplitr [Gs Ds Hz]
  · isplitl [S3]; · iexact S3
    isplitl [S4]; · iexact S4
    isplitl [S5]; · iexact S5
    isplitl [S6]; · iexact S6
    isplitl [S7]; · iexact S7
    isplitl [S8]; · iexact S8
    isplitl [S9]; · iexact S9
    iexact S10
  isplitl [Gs]; · iexact Gs
  isplitl [Ds]; · iexact Ds
  iexact Hz

end Assemble
end AllReduce
-- ==== Proof.Device.lean ====
/-
  One device's part of the call: the contents of the buffers when the call begins, what the pipeline hands a device and takes
  back, the verified run in between, and the final contents of the call's three arrays.
-/
module

public import Idealize.ShloMosaic.Lib.Pipeline.Launch
public import Idealize.ShloMosaic.Lib.Pipeline.Kit
public import Idealize.ShloMosaic.Lib.Pipeline.CollectiveSegs
public import Idealize.ShloMosaic.Lib.Tactic
public import proofs.«01_k».proof.Proof.Assemble
public import proofs.«01_k».proof.Proof.Gen.KernelIdeal.Launch
public import proofs.«01_k».proof.Proof.Gen.KernelIdeal.Points

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-- The buffers of a device at launch, -/
def V₀ (c : Dev nD) : Valuation τ sig (Elt F) := fun b => m ((c : Dev nD), b)
/-- and when the call begins, after the attention. -/
@[irreducible] def V₁ (c : Dev nD) : Valuation τ sig (Elt F) := StableHlo.after (hostOps0 (F := F) c) (V₀ m c)

/-- The device's columns of the attention's output, as staged, -/
def xs (c : Dev nD) : FVec F S1024x1024 .bf16 := (win0_0.blk t0_0).view.read (Elt F) (V₁ m c (Proc.devRef .tc main_v50))
/-- and its rows of the right factor. -/
def ws (c : Dev nD) : FVec F S1024x1024 .bf16 := (win0_1.blk t0_0).view.read (Elt F) (V₁ m c (Proc.devRef .tc main_arg4))

/-- The buffers of a device when the call has ended. -/
@[irreducible] def V₂ (c : Dev nD) : Valuation τ sig (Elt F) :=
  Function.update (V₁ m c) (Proc.devRef .tc main_v51) (outAt (xs m) (ws m) c : FVec F S1024x1024 .f32)

theorem V₂_out (c : Dev nD) : V₂ m c (Proc.devRef .tc main_v51) = outAt (xs m) (ws m) c := by
  unfold V₂; exact Function.update_self _ _ _
theorem V₂_ne (c : Dev nD) (b : DevRef τ sig) (h : b ≠ Proc.devRef .tc main_v51) : V₂ m c b = V₁ m c b := by
  unfold V₂; exact Function.update_of_ne h _ _

/-! ## The data of the pipeline -/

/-- What a device holds of the protocol when the kernel begins. -/
def start (c : Dev nD) : sProp 𝕄 := iprop((∃ K, Rec (xs m) (ws m) K ∗ Lin c) ∗ Crd c ∗ levAts L lv)
def Φ₀ (c : Dev nD) : sProp 𝕄 := iprop((start m c ∗ Scr c) ∗ ∃ r, prngReg c r)
def Φ₁ (c : Dev nD) : sProp 𝕄 := iprop((Scr c ∗ Sems c) ∗ ∃ r, prngReg c r)

def dats (_ : Fin 1) (c : Dev nD) : Dat τ (Elt F) Unit ℕ UU ℕ cfg0 c where
  A w := V₁ m c (Proc.devRef .tc (Pipeline.arrRef cfg0.spec w))
  after w _ := match w with
    | ⟨0, _⟩ => xs m c
    | ⟨1, _⟩ => ws m c
    | ⟨2, _⟩ => outAt (xs m) (ws m) c
  Φ t := match t with
    | ⟨0, _⟩ => Φ₀ m c
    | ⟨_ + 1, _⟩ => Φ₁ c
  q _ := fullShare
  owed t := match t with
    | ⟨0, _⟩ => owe c pays
    | ⟨_ + 1, _⟩ => 0

/-! ## One device -/

theorem before0 (c : Dev nD) (d) : (dats m 0 c).before (0 : Fin 3) t0_0 d = xs m c := by
  unfold Dat.before; rw [if_pos (fetch0_0 t0_0)]; rfl
theorem before1 (c : Dev nD) (d) : (dats m 0 c).before (1 : Fin 3) t0_0 d = ws m c := by
  unfold Dat.before; rw [if_pos (fetch0_1 t0_0)]; rfl

/-- What the pipeline hands a device, -/
def bodyPre (c : Dev nD) : sProp 𝕄 :=
  iprop(Φ₀ m c ∗ (dats m 0 c).owesAt () t0_0.castSucc
    ∗ (∃ d, owns (c : Thread nD τ) mX fullShare ((dats m 0 c).before (0 : Fin 3) t0_0 d))
    ∗ (∃ d, owns (c : Thread nD τ) mW fullShare ((dats m 0 c).before (1 : Fin 3) t0_0 d))
    ∗ (∃ d, owns (c : Thread nD τ) mO fullShare ((dats m 0 c).before (2 : Fin 3) t0_0 d)))
/-- and what it takes back. -/
def bodyPost (c : Dev nD) : sProp 𝕄 :=
  iprop(Φ₁ c ∗ (dats m 0 c).owesAt () t0_0.succ ∗ Ctx (xs m) c ∗ Wo (ws m) c ∗ Out c (outAt (xs m) (ws m) c))

theorem pre_start (c : Dev nD) : bodyPre m c ⊢ iprop((∃ K, Rec (xs m) (ws m) K) ∗ levAts L lv ∗ (∃ r, prngReg c r)
    ∗ ∃ X₀, Start (xs m) (ws m) c X₀ ∗ some' c (chunkM c)) := by
  unfold bodyPre Φ₀ start
  iintro ⟨⟨⟨⟨⟨%K, HR, Hl⟩, Hc, HL⟩, Hs⟩, Hg⟩, Ho, ⟨%d0, Hx⟩, ⟨%d1, Hw⟩, ⟨%d2, HY⟩⟩
  rw [before0, before1]
  unfold Dat.owesAt Pipeline.owesWithin
  icases Ho with ⟨%Wt, %hW, HO⟩
  rw [show (dats m 0 c).owed t0_0.castSucc = owe c pays from rfl]
  isplitl [HR]; · iexists K; iexact HR
  isplitl [HL]; · iexact HL
  isplitl [Hg]; · iexact Hg
  iexists _
  iapply (start_of (xs m) (ws m) c _)
  isplitl [HO]; · unfold Owes; iexists Wt; iexact HO
  isplitl [Hl]; · iexact Hl
  isplitl [Hc]; · iexact Hc
  isplitr [Hs]
  · isplitl [Hx]; · iexact Hx
    isplitl [Hw]; · iexact Hw
    iexact HY
  iexact Hs

theorem final_post (c : Dev nD) : iprop((Final (xs m) (ws m) c ∗ some' c (chunkM c)) ∗ ∃ r, prngReg c r) ⊢ bodyPost m c := by
  refine (sep_mono_left (final_of (xs m) (ws m) c)).trans ?_
  unfold bodyPost Φ₁ Owes
  iintro ⟨⟨⟨Hx, Hw, HY⟩, ⟨%Wt, HO⟩, Hs, Hz⟩, Hg⟩
  isplitl [Hs Hz Hg]
  · isplitl [Hs Hz]
    · isplitl [Hs] <;> iassumption
    iexact Hg
  isplitl [HO]
  · unfold Dat.owesAt Pipeline.owesWithin
    rw [show (dats m 0 c).owed t0_0.succ = owe c [] from rfl]
    iexists Wt
    isplitr; · ipureintro; exact fun _ _ => Or.inl trivial
    iexact HO
  isplitl [Hx]; · iexact Hx
  isplitl [Hw]; · iexact Hw
  iexact HY

set_option maxRecDepth 20000 in
theorem body_obligation (c : Dev nD) : BodyObligation (dats (F := F) m 0 c) (defs₀ (F := F)) 𝒱₀ () Set.univ := fun t => by
  rw [fin_N0 t, bigSep_W0, bigSep_W0]
  show bodyPre m c ⊢ Wp c (at' cc0__ar_body) (fun _ => bodyPost m c)
  have h := pre_start m c
  iintro H
  ihave H := h $$ H
  icases H with ⟨⟨%K, #HR⟩, HL, Hg, ⟨%X₀, HS, H0⟩⟩
  iapply (body (xs m) (ws m) K c X₀) $$ HR HL HS
  iintro HF
  iapply (final_post m c)
  isplitr [Hg]
  · isplitl [HF]; · iexact HF
    iexact H0
  iexact Hg

/-! ## The final contents of the arrays -/

/-- The one block of the result is the whole array. -/
theorem cover (i : S1024x1024.Idx) : ∃ t : Fin cfg0.N, (cfg0.win 2).flush t = true ∧ i ∈ ((cfg0.win 2).blk t).view.set := by
  refine ⟨t0_0, flush0_2 _, ?_⟩
  show i ∈ ((View.whole main_v51).slice (win0_2.rect t0_0)).set
  rw [View.set_slice_whole, Rect.mem_set_unit]
  have e : ∀ a, win0_2.index t0_0 a * win0_2.size a = 0 ∧ win0_2.xsize (grid0.coords t0_0) a = 1024 := by decide +kernel
  intro a
  show win0_2.index t0_0 a * win0_2.size a ≤ (i a : Nat) ∧ (i a : Nat) < win0_2.index t0_0 a * win0_2.size a + win0_2.xsize (grid0.coords t0_0) a
  rw [(e a).1, (e a).2]
  match a with
  | ⟨0, _⟩ => exact ⟨Nat.zero_le _, (i 0).isLt⟩
  | ⟨1, _⟩ => exact ⟨Nat.zero_le _, (i 1).isLt⟩

/-- An entry of a whole-array block sits at the same place in the array. -/
theorem place_x (i : S1024x1024.Idx) : (win0_0.blk t0_0).view.emb i = i := by
  have e : ∀ a, win0_0.index t0_0 a * win0_0.size a = 0 := by decide +kernel
  funext a; apply Fin.ext
  show win0_0.index t0_0 a * win0_0.size a + 1 * (i a).val = (i a).val
  rw [e a]; omega
theorem place_w (i : S1024x1024.Idx) : (win0_1.blk t0_0).view.emb i = i := by
  have e : ∀ a, win0_1.index t0_0 a * win0_1.size a = 0 := by decide +kernel
  funext a; apply Fin.ext
  show win0_1.index t0_0 a * win0_1.size a + 1 * (i a).val = (i a).val
  rw [e a]; omega
theorem place_out (i : S1024x1024.Idx) : (win0_2.blk t0_0).view.emb i = i := by
  have e : ∀ a, win0_2.index t0_0 a * win0_2.size a = 0 := by decide +kernel
  funext a; apply Fin.ext
  show win0_2.index t0_0 a * win0_2.size a + 1 * (i a).val = (i a).val
  rw [e a]; omega

/-- Every entry of a staged operand is that entry of the operand. -/
theorem xs_eq (c : Dev nD) : xs m c = V₁ m c (Proc.devRef .tc main_v50) :=
  funext fun i => congrArg (V₁ m c (Proc.devRef .tc main_v50)) (place_x i)
theorem ws_eq (c : Dev nD) : ws m c = V₁ m c (Proc.devRef .tc main_arg4) :=
  funext fun i => congrArg (V₁ m c (Proc.devRef .tc main_arg4)) (place_w i)

theorem flushed_eq (c : Dev nD) (t : Fin cfg0.N) :
    (dats m 0 c).flushed 2 t = ((cfg0.win 2).blk t).view.read (Elt F) (outAt (xs m) (ws m) c) := by
  obtain rfl := fin_N0 t
  have ha : (dats m 0 c).after 2 t0_0 = outAt (xs m) (ws m) c := by dsimp only [dats]
  unfold Pipeline.Dat.flushed
  rw [ha]
  exact funext fun i => (congrArg (outAt (xs m) (ws m) c) (place_out i)).symm

/-- The result array ends at the result of the protocol. -/
theorem final_out (c : Dev nD) : (dats m 0 c).arrAt 2 cfg0.N = outAt (xs m) (ws m) c :=
  (dats m 0 c).arrAt_eq_of_cover 2 (outAt (xs m) (ws m) c) (fun t _ => flushed_eq m c t) cover

/-- Each array of the call ends at the contents named. -/
theorem arr_start (c : Dev nD) (w : Fin cfg0.W) : (dats m 0 c).arrAt w 0 = V₁ m c (Proc.devRef .tc (Pipeline.arrRef cfg0.spec w)) := rfl
theorem arr_end (c : Dev nD) (w : Fin cfg0.W) : (dats m 0 c).arrAt w cfg0.N = V₂ m c (Proc.devRef .tc (Pipeline.arrRef cfg0.spec w)) := by
  have h0 : (Proc.devRef .tc (Pipeline.arrRef cfg0.spec 0) : DevRef τ sig) ≠ Proc.devRef .tc main_v51 := by decide
  have h1 : (Proc.devRef .tc (Pipeline.arrRef cfg0.spec 1) : DevRef τ sig) ≠ Proc.devRef .tc main_v51 := by decide
  match w with
  | ⟨0, _⟩ => exact ((dats m 0 c).arrAt_in (0 : Fin 3) rfl _).trans (V₂_ne m c _ h0).symm
  | ⟨1, _⟩ => exact ((dats m 0 c).arrAt_in (1 : Fin 3) rfl _).trans (V₂_ne m c _ h1).symm
  | ⟨2, _⟩ => exact (final_out m c).trans (V₂_out m c).symm

end AllReduce
-- ==== Proof.Launch.lean ====
/-
  The launch of the whole kernel: the cells' invariants are put in place (those of the call's own semaphores dormant, to be
  opened when the call begins), the tokens are dealt, every device runs the attention and then the call, and the run ends
  with the result in place, the arguments untouched and all semaphores at zero.
-/
module

public import proofs.«01_k».proof.Proof.Device

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The protocol's state at launch -/

theorem ownSemFacts : Pipeline.OwnSemFacts cfg0.spec osem := by decide +kernel

theorem share_eq (c : Dev nD) (w : Fin cfg0.W) : (dats m 0 c).share w = fullShare := by unfold Dat.share; split <;> rfl

/-- The barrier cells are funded from their counters; the transfer cells are dormant until the call. -/
def barEmb : Dev nD ↪ GSem nD τ sig := ⟨fun c => kcell (c, none), fun _ _ h => congrArg Prod.fst (kcell_inj h)⟩
def trEmb : Dev nD × (Bool × Tr) ↪ GSem nD τ sig :=
  ⟨fun p => kcell (p.1, some p.2), by
    rintro ⟨c, x⟩ ⟨c', x'⟩ h
    have := kcell_inj (a₁ := (c, some x)) (a₂ := (c', some x')) h
    cases this; rfl⟩
abbrev barCells : Finset (GSem nD τ sig) := Finset.univ.map barEmb
abbrev trCells : Finset (GSem nD τ sig) := Finset.univ.map trEmb

theorem disjoint_cells : Disjoint (barCells : Finset (GSem nD τ sig)) trCells := by
  rw [Finset.disjoint_left]
  rintro g h₁ h₂
  obtain ⟨c, -, rfl⟩ := Finset.mem_map.mp h₁
  obtain ⟨p, -, h⟩ := Finset.mem_map.mp h₂
  exact absurd (congrArg Prod.snd (kcell_inj h)) (Option.some_ne_none p.2)

theorem cell_mem (ck : Dev nD × CK) : kcell ck ∈ (barCells ∪ trCells : Finset (GSem nD τ sig)) := by
  obtain ⟨c, _ | x⟩ := ck
  · exact Finset.mem_union_left _ (Finset.mem_map_of_mem barEmb (Finset.mem_univ c))
  · exact Finset.mem_union_right _ (Finset.mem_map_of_mem trEmb (Finset.mem_univ (c, x)))

/-- The tokens of one device's cells: one per neighbour on its barrier, one on each transfer semaphore. -/
abbrev tokOf : Dev nD × (Pe ⊕ (Bool × Tr)) → GSem nD τ sig × ℕ × Pe
  | (c, .inl y) => (barCell c, 0, y)
  | (c, .inr x) => (kcell (c, some x), 0, .inl 0)
theorem tokOf_inj : Function.Injective tokOf := by
  rintro ⟨c, y | x⟩ ⟨c', y' | x'⟩ h
  · have h1 := kcell_inj (a₁ := (c, none)) (a₂ := (c', none)) (congrArg Prod.fst h)
    have h2 : y = y' := congrArg (fun t : GSem nD τ sig × ℕ × Pe => t.2.2) h
    cases h1; cases h2; rfl
  · exact absurd (kcell_inj (a₁ := (c, none)) (a₂ := (c', some x')) (congrArg Prod.fst h)) (by simp)
  · exact absurd (kcell_inj (a₁ := (c, some x)) (a₂ := (c', none)) (congrArg Prod.fst h)) (by simp)
  · have h1 := kcell_inj (a₁ := (c, some x)) (a₂ := (c', some x')) (congrArg Prod.fst h)
    cases h1; rfl
def allToks : Finset (GSem nD τ sig × ℕ × Pe) := Finset.univ.map ⟨tokOf, tokOf_inj⟩

def u₀ : UU :=
  (initOf (Pipeline.cells cfgs cellOf_inj) (Pipeline.launchToks cfgs cellOf_inj), launchOf barCells trCells allToks)

/-- The tokens of a device's own cells. -/
def toks (c : Dev nD) : sProp 𝕄 :=
  iprop((bigSep Finset.univ fun y : Pe => dutyTok ER (barCell c) 0 y) ∗ (bigSep Finset.univ fun s : Tr => dutyTok ER (sendCell c s) 0 (.inl 0))
    ∗ bigSep Finset.univ fun s : Tr => dutyTok ER (recvCell c s) 0 (.inl 0))

theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_sum, bigSep_univ_prod, over_bool]; rfl

theorem over_kinds (Φ : CK → sProp 𝕄) : bigSep Finset.univ Φ = iprop(Φ none ∗ (bigSepL order fun s => Φ (some (false, s))) ∗ bigSepL order fun s => Φ (some (true, s))) := by
  have h : bigSep Finset.univ Φ = bigSep Finset.univ fun z : Unit ⊕ (Bool × Tr) => Φ ((Equiv.optionEquivSumPUnit (Bool × Tr)).symm ((Equiv.sumComm _ _) z)) :=
    bigSep_univ_equiv ((Equiv.sumComm Unit (Bool × Tr)).trans (Equiv.optionEquivSumPUnit (Bool × Tr)).symm) Φ
  rw [h, bigSep_univ_sum, bigSep_univ_prod, over_bool, over_order, over_order, bigSep_univ_eq_bigSepL [()] (by decide) (by decide), bigSepL_singleton]
  rfl

theorem ownSems0_eq (c : Dev nD) : (Pipeline.ownSems0 (Ix := Unit) (Name := ℕ) (U := UU) (Lvl := ℕ) (Val := Elt F) (τ := τ) osem c : sProp 𝕄)
    = iprop((bigSepL order fun s => semVal (sendCell c s) 0) ∗ bigSepL order fun s => semVal (recvCell c s) 0) := by
  unfold Pipeline.ownSems0
  rw [bigSep_univ_prod, over_bool, over_order, over_order]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A conjunction over devices and something else, with the devices permuted for each of the latter. -/
theorem permute {I : Type} [Fintype I] [DecidableEq I] (e : I → (Dev nD ≃ Dev nD)) (Ψ : Dev nD → I → sProp 𝕄) :
    (bigSep Finset.univ fun c => bigSep Finset.univ fun i => Ψ c i) = bigSep Finset.univ fun c => bigSep Finset.univ fun i => Ψ (e i c) i := by
  let f : Dev nD × I ≃ Dev nD × I :=
    ⟨fun p => (e p.2 p.1, p.2), fun p => ((e p.2).symm p.1, p.2), fun p => by simp, fun p => by simp⟩
  rw [← bigSep_univ_prod fun p : Dev nD × I => Ψ p.1 p.2, bigSep_univ_equiv f, bigSep_univ_prod]
  rfl

/-- The tokens after they are dealt: those with which device `c` pays. -/
def payToks (c : Dev nD) : sProp 𝕄 :=
  iprop((bigSep Finset.univ fun y : Pe => dutyTok ER (barCell (peer y c)) 0 (opp y)) ∗ (bigSep Finset.univ fun s : Tr => dutyTok ER (sendCell c s) 0 (.inl 0))
    ∗ bigSep Finset.univ fun s : Tr => dutyTok ER (recvCell (peer s.2 c) s) 0 (.inl 0))

theorem toks_around : (bigSep Finset.univ fun c : Dev nD => (toks c : sProp 𝕄)) ⊢ bigSep Finset.univ fun c : Dev nD => payToks c := by
  have h1 : (bigSep Finset.univ fun c : Dev nD => bigSep Finset.univ fun y : Pe => (dutyTok ER (barCell c) 0 y : sProp 𝕄))
      = bigSep Finset.univ fun c : Dev nD => bigSep Finset.univ fun y : Pe => dutyTok ER (barCell (peer y c)) 0 (opp y) := by
    rw [bigSep_congr (s := Finset.univ) fun (c : Dev nD) _ => bigSep_univ_equiv oppE fun y : Pe => (dutyTok ER (barCell c) 0 y : sProp 𝕄),
      permute (fun y => peerE y) fun (c : Dev nD) (y : Pe) => (dutyTok ER (barCell c) 0 (oppE y) : sProp 𝕄)]
    rfl
  have h2 : (bigSep Finset.univ fun c : Dev nD => bigSep Finset.univ fun s : Tr => (dutyTok ER (recvCell c s) 0 (.inl 0) : sProp 𝕄))
      = bigSep Finset.univ fun c : Dev nD => bigSep Finset.univ fun s : Tr => dutyTok ER (recvCell (peer s.2 c) s) 0 (.inl 0) := by
    rw [permute (fun s : Tr => peerE s.2) fun (c : Dev nD) (s : Tr) => (dutyTok ER (recvCell c s) 0 (.inl 0) : sProp 𝕄)]
    rfl
  unfold toks payToks
  rw [bigSep_sep', bigSep_sep', bigSep_sep', bigSep_sep', h1, h2]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What a device holds of the protocol until the call begins. -/
def Lin₀ (c : Dev nD) : sProp 𝕄 :=
  iprop(atPos ER (barCell c) 0 ∅ 0 ∗ payToks c ∗ bigSep Finset.univ fun x : Bool × Tr => openTok ER (kcell (c, some x)))
def Tk (c : Dev nD) : sProp 𝕄 := iprop((∃ K, Rec (xs m) (ws m) K ∗ Lin₀ c) ∗ Crd c)

theorem split_bool (Φ : Bool × Tr → sProp 𝕄) :
    bigSep Finset.univ Φ = iprop((bigSepL order fun s => Φ (false, s)) ∗ bigSepL order fun s => Φ (true, s)) := by
  rw [bigSep_univ_prod, over_bool, over_order, over_order]

/-- The opened cells' positions, with the tokens, are what the device starts the call with. -/
theorem lin_intro (c : Dev nD) :
    iprop(atPos ER (barCell c) 0 ∅ 0 ∗ payToks c
      ∗ bigSep Finset.univ fun x : Bool × Tr => iprop(atPos ER (kcell (c, some x)) 0 ∅ 0 ∗ reached ER (kcell (c, some x)) 0)) ⊢ (Lin c : sProp 𝕄) := by
  have h : iprop((bigSepL order fun s => dutyTok ER (sendCell c s) 0 (.inl 0)) ∗ (bigSepL order fun s => dutyTok ER (recvCell (peer s.2 c) s) 0 (.inl 0))
      ∗ (bigSepL order fun s => atPos ER (sendCell c s) 0 ∅ 0) ∗ bigSepL order fun s => reached ER (sendCell c s) 0) ⊢ (bigSepL order (Tok c) : sProp 𝕄) := by
    rw [← order_sep, ← order_sep, ← order_sep]
    exact Entails.of_eq rfl
  unfold payToks Lin
  rw [bigSep_sep', split_bool, split_bool, over_dirs, over_order, over_order]
  iintro ⟨Hb, ⟨Tb, Ts, Tr⟩, ⟨Hs, Hr⟩, ⟨Rs, Rr⟩⟩
  isplitl [Hb]; · iexact Hb
  isplitl [Tb]; · iexact Tb
  isplitl [Hs Ts Tr Rs]
  · iapply h
    isplitl [Ts]; · iexact Ts
    isplitl [Tr]; · iexact Tr
    isplitl [Hs]; · iexact Hs
    iexact Rs
  isplitl [Hr]; · iexact Hr
  iexact Rr

/-- One transfer cell opened. -/
theorem open_one (K : Dev nD × CK → ℕ) (c : Dev nD) (x : Bool × Tr) :
    iprop(Rec (xs m) (ws m) K ∗ openTok ER (kcell (c, some x)) ∗ semVal (kcell (c, some x)) 0)
      ⊢ (|={Set.univ}=> iprop(atPos ER (kcell (c, some x)) 0 ∅ 0 ∗ reached ER (kcell (c, some x)) 0) : sProp 𝕄) := by
  unfold Rec
  iintro ⟨⟨HI, -⟩, Ho, Hv⟩
  iapply (Rounds.cell_open ER (Rd (xs m) (ws m)) (g := kcell (c, some x)) (Set.mem_univ (K (c, some x))))
  isplitl [HI]
  · iapply (show (bigSep Finset.univ fun ck => (cellInv ER (Rd (xs m) (ws m)) (K ck) (kcell ck) : sProp 𝕄)) ⊢ cellInv ER (Rd (xs m) (ws m)) (K (c, some x)) (kcell (c, some x)) from
      bigSep_elim (Finset.mem_univ (c, some x))) $$ HI
  isplitl [Ho] <;> iassumption

theorem opened (c : Dev nD) : iprop(Tk m c ∗ Pipeline.ownSems0 (Ix := Unit) (Name := ℕ) (U := UU) (Lvl := ℕ) (Val := Elt F) (τ := τ) osem c ∗ levAts L lv)
    ⊢ (|={Set.univ}=> start m c : sProp 𝕄) := by
  have ho (K : Dev nD × CK → ℕ) : iprop(Rec (xs m) (ws m) K ∗ bigSep Finset.univ fun x : Bool × Tr => iprop(openTok ER (kcell (c, some x)) ∗ semVal (kcell (c, some x)) 0))
      ⊢ (|={Set.univ}=> bigSep Finset.univ fun x : Bool × Tr => iprop(atPos ER (kcell (c, some x)) 0 ∅ 0 ∗ reached ER (kcell (c, some x)) 0) : sProp 𝕄) :=
    (with_persistent fun x _ => open_one m K c x).trans (bigSep_fupd _ _)
  unfold Tk Lin₀ start
  iintro ⟨⟨⟨%K, #HR, Hb, Ht, Ho⟩, Hc⟩, Hv, HL⟩
  imod (ho K) $$ [Ho Hv] with Hx
  · isplitr; · iexact HR
    rw [bigSep_sep']
    isplitl [Ho]; · iexact Ho
    unfold Pipeline.ownSems0
    iexact Hv
  imodintro
  isplitl [Hb Ht Hx]
  · iexists K
    isplitr; · iexact HR
    iapply (lin_intro (F := F) c)
    isplitl [Hb]; · iexact Hb
    isplitl [Ht] <;> iassumption
  isplitl [Hc] <;> iassumption

/-! ## The credit at launch -/

/-- The device a payment goes to. -/
def destE : Pe ⊕ Tr → (Dev nD ≃ Dev nD)
  | .inl y => peerE y
  | .inr s => peerE s.2
theorem pcell_dest (d : Dev nD) (p : Pe ⊕ Tr) : pcell d p = kcell (destE p d, pck p) := by rcases p with y | s <;> rfl

/-- One payment of every device gives a cell of its kind its amount once. -/
theorem sum_pay (c : Dev nD) (k : CK) (p : Pe ⊕ Tr) :
    (∑ d : Dev nD, tallyAt (pcell d p) () (pamt p) (kcell (c, k)) ()) = if pck p = k then pamt p else 0 := by
  by_cases h : pck p = k
  · rw [if_pos h, Finset.sum_eq_single ((destE p).symm c)]
    · rw [tallyAt_apply, if_pos ⟨by rw [pcell_dest, Equiv.apply_symm_apply, h], rfl⟩]
    · intro d _ hd
      rw [tallyAt_apply, if_neg]
      rintro ⟨e, -⟩
      rw [pcell_dest] at e
      have := kcell_inj e
      exact hd ((destE p).injective (by rw [Equiv.apply_symm_apply]; exact (congrArg Prod.fst this).symm))
    · intro hn; exact absurd (Finset.mem_univ _) hn
  · rw [if_neg h]
    refine Finset.sum_eq_zero fun d _ => ?_
    rw [tallyAt_apply, if_neg]
    rintro ⟨e, -⟩
    rw [pcell_dest] at e
    exact h (congrArg Prod.snd (kcell_inj e)).symm

/-- What all devices together owe a cell. -/
theorem sum_owe (c : Dev nD) (k : CK) (l : List (Pe ⊕ Tr)) :
    (∑ d : Dev nD, owe d l (kcell (c, k)) ()) = (l.map fun p => if pck p = k then pamt p else 0).sum := by
  induction l with
  | nil => exact Finset.sum_eq_zero fun d _ => rfl
  | cons p l ih =>
    rw [List.map_cons, List.sum_cons, ← ih, ← sum_pay c k p, ← Finset.sum_add_distrib]
    refine Finset.sum_congr rfl fun d _ => ?_
    show (owe d l + tallyAt (pcell d p) () (pamt p)) (kcell (c, k)) () = _
    rw [Pi.add_apply, Finsupp.add_apply, Nat.add_comm]

theorem sum_bar : (pays.map fun p => if pck p = none then pamt p else 0).sum = 10 := rfl
theorem sum_recv (s : Tr) : (pays.map fun p => if pck p = some (true, s) then pamt p else 0).sum = amt s := by
  have h1 : (order.map fun t => if t = s then amt t else 0).sum = amt s := by
    rw [← List.sum_toFinset _ order_nodup, show order.toFinset = Finset.univ by ext y; simp [mem_order], Finset.sum_ite_eq' Finset.univ s, if_pos (Finset.mem_univ _)]
  unfold pays
  rw [List.map_append, List.sum_append, List.map_map, List.map_map,
    show ((fun p : Pe ⊕ Tr => if pck p = some (true, s) then pamt p else 0) ∘ Sum.inl) = fun _ => 0 from funext fun y => by simp [pck],
    show ((fun p : Pe ⊕ Tr => if pck p = some (true, s) then pamt p else 0) ∘ Sum.inr) = fun t => if t = s then amt t else 0 from
      funext fun t => by simp [pck, pamt], h1]
  simp

theorem launch_at (c : Dev nD) (k : CK) (n : ℕ) (h : (pays.map fun p => if pck p = k then pamt p else 0).sum = n) :
    tallyOn (kcell (c, k)) (launchCredit (Pipeline.owing fun d => owe d pays) 0 (kcell (c, k))) = (tallyAt (kcell (c, k)) () n : CellTallies nD τ sig Unit) := by
  unfold tallyAt; refine congrArg _ (Finsupp.ext fun u => ?_); cases u
  rw [Pipeline.launchCredit_owing, Finsupp.single_eq_same, sum_owe, h]

theorem creds (c : Dev nD) : (Pipeline.launchCred (fun d => owe d pays) c : sProp 𝕄) ⊢ Crd c := by
  have h : (Pipeline.launchCred (fun d => owe d pays) c : sProp 𝕄)
      ⊢ bigSep Finset.univ fun k : CK => cred (tallyOn (kcell (c, k)) (launchCredit (Pipeline.owing fun d => owe d pays) 0 (kcell (c, k)))) := by
    have h' (Φ : SemLoc sig → sProp 𝕄) : bigSep Finset.univ Φ ⊢ bigSep Finset.univ fun k : CK => Φ (csem k) := by
      have e : bigSep (Finset.univ.map ⟨csem, csem_inj⟩) Φ = bigSep Finset.univ fun k : CK => Φ (csem k) := by rw [bigSep_map]; rfl
      rw [← e]
      exact BI.bigSep_subset (Finset.subset_univ _)
    exact h' fun sm => cred (tallyOn ((c : Thread nD τ), sm) (launchCredit (Pipeline.owing fun d => owe d pays) 0 ((c : Thread nD τ), sm)))
  have h2 (A B C : sProp 𝕄) : iprop(A ∗ B ∗ C) ⊢ iprop(A ∗ C) := sep_mono_right sep_elim_right
  refine h.trans ?_
  rw [over_kinds]
  refine (h2 _ _ _).trans ?_
  unfold Crd
  rw [launch_at c none 10 sum_bar]
  have hr : (bigSepL order fun s => cred (tallyOn (kcell (c, some (true, s))) (launchCredit (Pipeline.owing fun d => owe d pays) 0 (kcell (c, some (true, s))))) : sProp 𝕄)
      ⊢ bigSepL order fun s => cred (tallyAt (recvCell c s) () (amt s)) :=
    bigSepL_mono fun s _ => by rw [launch_at c (some (true, s)) _ (sum_recv s)]
  exact sep_mono_right hr

/-! ## The call -/

theorem scr_eq (c : Dev nD) : (Pipeline.scopedRest (Ix := Unit) (Name := ℕ) (U := UU) (Lvl := ℕ) (Val := Elt F) cfg0.spec c : sProp 𝕄) = Scr c := by
  rw [scopedRest0_eq]
  unfold Scr raw
  simp only [Memref.view_whole, View.set_whole]

theorem region_in (c : Dev nD) :
    iprop(Pipeline.scopedRest (Ix := Unit) (Name := ℕ) (U := UU) (Lvl := ℕ) (Val := Elt F) cfg0.spec c ∗ (∃ r, prngReg c r) ∗ StableHlo.held (c.tc : Thread nD τ) ∅ (V₁ m c) ∗ start m c)
      ⊢ (dats m 0 c).Φ 0 := by
  rw [show (dats m 0 c).Φ 0 = Φ₀ m c from rfl, scr_eq]
  unfold Φ₀
  iintro ⟨Hr, Hg, -, Hs⟩
  isplitr [Hg]
  · isplitl [Hs] <;> iassumption
  iexact Hg

theorem region_out (c : Dev nD) :
    (dats m 0 c).Φ (Fin.last cfg0.N)
      ⊢ iprop(Pipeline.scopedRest (Ix := Unit) (Name := ℕ) (U := UU) (Lvl := ℕ) (Val := Elt F) cfg0.spec c ∗ (∃ r, prngReg c r) ∗ StableHlo.held (c.tc : Thread nD τ) ∅ (V₂ m c) ∗ Pipeline.ownSems0 osem c ∗ semVal (barCell c) 0) := by
  rw [show (dats m 0 c).Φ (Fin.last cfg0.N) = Φ₁ c from rfl, scr_eq, ownSems0_eq]
  unfold Φ₁ Sems StableHlo.held
  rw [BI.bigSep_empty]
  iintro ⟨⟨Hr, HzS, HzV, HzB⟩, Hg⟩
  isplitl [Hr]; · iexact Hr
  isplitl [Hg]; · iexact Hg
  isplitr; · iempintro
  isplitl [HzS HzV]
  · isplitl [HzS] <;> iassumption
  iexact HzB

end AllReduce
-- ==== Proof.Run.lean ====
/-
  The run of the whole kernel on thirty-two devices: the attention as one stretch of host operations on every device, the call
  as a region whose devices talk to each other, and what every buffer and semaphore holds at the end.
-/
module

public import Idealize.ShloMosaic.Lib.Pipeline.Regions
public import Idealize.ShloMosaic.Lib.Pipeline.RegionTalk
public import Idealize.ShloMosaic.Lib.StableHlo.RunRead
public import proofs.«01_k».proof.Proof.Launch

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The two segments -/

abbrev adm : (p : Fin 1) → (pcfgs (F := F) p).Adm := fun p => (cfgs p).toPCfg_adm

local notation "ℍ" => Pipeline.HostSeg (Ix := Unit) (Name := ℕ) (U := UU) (Lvl := ℕ) (pcfgs (F := F)) defs₀ 𝒱₀ L lv
local notation "ℝ" => Pipeline.RegionSeg (pcfgs (F := F)) adm (dats m) () defs₀ 𝒱₀ L lv

theorem ops_sub (c : Dev nD) : ∀ op ∈ hostOps0 (F := F) c, op.bufs ⊆ Pipeline.ucRefs τ sig := fun op h =>
  Pipeline.sub_ucRefs op (List.forall_iff_forall_mem.mp (hostOps0_sub c) op h)
theorem ops_fresh (c : Dev nD) : ∀ op ∈ hostOps0 (F := F) c, op.fresh = ∅ :=
  List.forall_iff_forall_mem.mp (by repeat' constructor)

/-- What a device carries through the attention. -/
def Carry (c : Dev nD) : sProp 𝕄 :=
  iprop(Tk m c ∗ (∃ W, owes (c : Thread nD τ) (owe c pays) W) ∗ ∃ r, prngReg c r)

/-- The attention on device `c`. -/
def segA (c : Dev nD) : ℍ :=
  Pipeline.HostSeg.ofOps _ _ _ _ _ (Pipeline.ucRefs τ sig) (hostOps0 (F := F) c) (ops_sub c) (ops_fresh c) (V₀ m) (Carry m)

/-- The buffers that are not arrays of the call. -/
abbrev others : Finset (DevRef τ sig) := Pipeline.ucRefs τ sig \ Pipeline.arrRefs (τ := τ) cfg0.spec

theorem out_mem : (Proc.devRef .tc main_v51 : DevRef τ sig) ∈ Pipeline.arrRefs (τ := τ) cfg0.spec :=
  Finset.mem_map_of_mem _ (Finset.mem_image_of_mem (Pipeline.arrRef cfg0.spec) (Finset.mem_univ (2 : Fin 3)))

theorem others_kept (c : Dev nD) : ∀ b ∈ others \ ∅, V₂ m c b = V₁ m c b := fun b hb =>
  V₂_ne m c b fun h => (Finset.mem_sdiff.mp (Finset.mem_sdiff.mp hb).1).2 (h ▸ out_mem)

theorem owed_pos (c : Dev nD) (t : Fin (cfg0.N + 1)) (g : GSem nD τ sig) (u : Unit) (h : 0 < (dats m 0 c).owed t g u) : u ∈ L g ∧ 0 < lv g u := by
  have key (l : List (Pe ⊕ Tr)) (h : 0 < owe c l g u) : u ∈ L g ∧ 0 < lv g u := by
    obtain ⟨p, -, rfl⟩ := owe_pos h
    obtain ⟨d, e⟩ := pcell_eq c p
    rw [e, lv_k, L_tc]
    exact ⟨Finset.mem_singleton_self _, by rcases p with y | ⟨_ | _, j | j⟩ <;> simp [pck, clv]⟩
  rcases t with ⟨_ | _, ht⟩
  · exact key pays h
  · exact key [] h

theorem stage_level (c : Dev nD) (w : Fin cfg0.W) (s : Fin (cfg0.win w).nbuf) : lv ((c : Thread nD τ), .dma ((cfg0.win w).sem s)) () ≤ 0 := by
  have hq : ∀ x, xsem x ≠ (cfg0.win w).sem s := by revert s; revert w; decide +kernel
  refine (Function.extend_apply' (f := kcell) _ _ _ ?_).le
  rintro ⟨⟨d, _ | x⟩, h⟩
  · exact absurd (congrArg Prod.snd h) (by simp [csem])
  · exact hq x (SemLoc.dma.inj (congrArg Prod.snd h))

set_option backward.isDefEq.respectTransparency.types false in
set_option maxRecDepth 8000 in
/-- The call. -/
def regB : ℝ 0 :=
  Pipeline.RegionSeg.ofTalk (pcfgs (F := F)) adm (dats m) () defs₀ 𝒱₀ L lv 0 osem ownSemFacts
    ∅ others (Finset.empty_subset _) launch0.toP rfl (fun c => (body_obligation m c).loose)
    (fun _ => 0) (fun c => owe c pays) (fun c => (zero_add _).symm) (fun _ => rfl) (fun _ => rfl) (share_eq m)
    (V₁ m) (V₂ m) (others_kept m)
    (Tk m) (fun c => semVal (barCell c) 0) (start m) (fun c => semVal (barCell c) 0) (opened m) (region_in m) (region_out m)
    (fun c => by iintro H; imodintro; iexact H)
    (fun _ => 0)
    ⟨fun c w s => by rw [L_tc]; exact Finset.mem_singleton_self _, fun c w s => stage_level c w s, fun c t g i h => owed_pos m c t g i h⟩
    (fun _ => iprop(emp))
    (arr_start m) (arr_end m)

def segs (c : Dev nD) : List (Pipeline.Seg (pcfgs (F := F)) adm (dats m) () defs₀ 𝒱₀ L lv) := [.host (segA m c), .region (regB m)]

theorem run_segs (c : Dev nD) : Pipeline.Seg.run (segs m c) = main (F := F) c := by
  rw [main_chain c, Pipeline.Seg.run_eq_chain]
  unfold segs
  rw [List.map_cons, List.map_cons, List.map_nil]
  have h1 : Pipeline.Seg.prog (.host (segA m c) : Pipeline.Seg (pcfgs (F := F)) adm (dats m) () defs₀ 𝒱₀ L lv) = StableHlo.seq (hostOps0 (F := F) c) := rfl
  rw [h1]
  rfl

theorem main_wp (c : Dev nD) (Q : PUnit → sProp 𝕄) :
    wp frame (wpE defs 𝒱₀.lift (c.tc : Thread nD τ) none) Set.univ (Pipeline.Seg.run (segs m c)) Q
      ⊢ wp frame (wpE defs 𝒱₀.lift (c.tc : Thread nD τ) none) Set.univ (main (F := F) c) Q := by
  rw [run_segs]

/-! ## The thread states -/

abbrev T₀ (c : Dev nD) : sProp 𝕄 := iprop(StableHlo.held (c : Thread nD τ) (Pipeline.ucRefs τ sig) (V₀ m c) ∗ Carry m c)
abbrev Tₙ (c : Dev nD) : sProp 𝕄 := iprop(StableHlo.held (c : Thread nD τ) (Pipeline.ucRefs τ sig) (V₂ m c) ∗ semVal (barCell c) 0)

theorem split_bufs (c : Dev nD) (V : Valuation τ sig (Elt F)) :
    (StableHlo.held (c.tc : Thread nD τ) (Pipeline.ucRefs τ sig) V : sProp 𝕄)
      = iprop(StableHlo.held (c.tc : Thread nD τ) (Pipeline.arrRefs (τ := τ) cfg0.spec) V ∗ StableHlo.held (c.tc : Thread nD τ) others V) :=
  StableHlo.held_sub_split (c.tc : Thread nD τ) (Pipeline.arrRefs_sub_ucRefs cfg0.spec (by decide)) V

theorem enter (c : Dev nD) : iprop(StableHlo.held (c : Thread nD τ) (Pipeline.ucRefs τ sig) (V₁ m c) ∗ Carry m c) ⊢ (regB m).pre c := by
  show _ ⊢ iprop(StableHlo.held (c.tc : Thread nD τ) (Pipeline.arrRefs (τ := τ) cfg0.spec) (V₁ m c) ∗ (∃ r, prngReg c r)
    ∗ (StableHlo.held (c.tc : Thread nD τ) others (V₁ m c) ∗ emp) ∗ Tk m c ∗ ∃ Wd, owes (c : Thread nD τ) (0 + owe c pays) Wd)
  rw [split_bufs, zero_add]
  unfold Carry
  iintro ⟨⟨Ha, Hr⟩, HT, HO, Hp⟩
  isplitl [Ha]; · iexact Ha
  isplitl [Hp]; · iexact Hp
  isplitl [Hr]
  · isplitl [Hr]; · iexact Hr
    iempintro
  isplitl [HT] <;> iassumption

theorem leave (c : Dev nD) : (regB m).post c ⊢ iprop(Tₙ m c ∗ ∃ W, owes (c : Thread nD τ) (0 : CellTallies nD τ sig Unit) W) := by
  show iprop(StableHlo.held (c.tc : Thread nD τ) (Pipeline.arrRefs (τ := τ) cfg0.spec) (V₂ m c) ∗ (∃ r, prngReg c r)
    ∗ (StableHlo.held (c.tc : Thread nD τ) others (V₂ m c) ∗ emp) ∗ semVal (barCell c) 0 ∗ ∃ Wd, owes (c : Thread nD τ) (0 : CellTallies nD τ sig Unit) Wd) ⊢ _
  unfold Tₙ
  rw [split_bufs]
  iintro ⟨Ha, -, ⟨Hr, -⟩, Hb, HO⟩
  isplitr [HO]
  · isplitr [Hb]
    · isplitl [Ha] <;> iassumption
    iexact Hb
  iexact HO

theorem after_attention (c : Dev nD) : (segA m c).post c ⊢ (regB m).pre c := by
  refine (?_ : (_ : sProp 𝕄) ⊢ _).trans (enter m c)
  show iprop(StableHlo.held (c : Thread nD τ) (Pipeline.ucRefs τ sig) (StableHlo.after (hostOps0 (F := F) c) (V₀ m c)) ∗ Carry m c) ⊢ _
  unfold V₁
  exact .rfl

/-! ## The launch -/

/-- The protocol's element as made is kept on one device until it is dealt. -/
def G (c : Dev nD) : sProp 𝕄 := if c = 0 then BI.own (ER (launchOf barCells trCells allToks)) else iprop(emp)
theorem G_all : bigSep Finset.univ (G (F := F)) = BI.own (ER (launchOf barCells trCells allToks)) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- What a device is dealt beside the protocol. -/
def Own (c : Dev nD) : sProp 𝕄 :=
  iprop(StableHlo.held (c : Thread nD τ) (Pipeline.ucRefs τ sig) (V₀ m c) ∗ Crd c ∗ owes (c : Thread nD τ) (owe c pays) ∅ ∗ ∃ r, prngReg c r)

theorem T₀_intro (K : Dev nD × CK → ℕ) (c : Dev nD) : iprop(Rec (xs m) (ws m) K ∗ (Lin₀ c ∗ Own m c)) ⊢ T₀ m c := by
  unfold Own T₀ Carry Tk
  iintro ⟨HR, Hl, Hh, Hc, HO, Hp⟩
  isplitl [Hh]; · iexact Hh
  isplitl [HR Hl Hc]
  · isplitr [Hc]
    · iexists K
      isplitl [HR] <;> iassumption
    iexact Hc
  isplitl [HO]
  · iexists ∅; iexact HO
  iexact Hp

theorem own_intro (c : Dev nD) :
    iprop(unscopedBufs c (fun b => m ((c : Thread nD τ).loc b)) ∗ unscopedSems0 c ∗ owes (c : Thread nD τ) (owe c pays) ∅
        ∗ Pipeline.launchCred (fun d => owe d pays) c ∗ prngReg c (ρ c) ∗ G c)
      ⊢ (iprop(Own m c ∗ (semVal (barCell c) 0 ∗ G c)) : sProp 𝕄) := by
  rw [show (unscopedBufs c fun b => m ((c : Thread nD τ).loc b) : sProp 𝕄) = StableHlo.held (c.tc : Thread nD τ) (Pipeline.ucRefs τ sig) (V₀ m c) from
    Pipeline.unscopedBufs_held c (V₀ m c), unscopedSems0_eq]
  unfold Own
  iintro ⟨Hh, Hv, HO, Hcr, Hp, HG⟩
  ihave Hc := (creds (F := F) c) $$ Hcr
  isplitl [Hh HO Hc Hp]
  · isplitl [Hh]; · iexact Hh
    isplitl [Hc]; · iexact Hc
    isplitl [HO]; · iexact HO
    iexists (ρ c); iexact Hp
  isplitl [Hv] <;> iassumption

/-- The records every device consults, of the invariants under their names. -/
theorem rec_intro (κ : GSem nD τ sig → ℕ) :
    iprop((bigSep (barCells ∪ trCells) fun g => cellInv ER (Rd (xs m) (ws m)) (κ g) g) ∗ bigSep barCells fun g => reached ER g 0)
      ⊢ Rec (xs m) (ws m) fun ck => κ (kcell ck) := by
  have h1 : (bigSep (barCells ∪ trCells) fun g => (cellInv ER (Rd (xs m) (ws m)) (κ g) g : sProp 𝕄))
      ⊢ bigSep Finset.univ fun ck => cellInv ER (Rd (xs m) (ws m)) (κ (kcell ck)) (kcell ck) :=
    BI.bigSep_intro_persistent fun ck _ => bigSep_elim (cell_mem ck)
  have h2 : bigSep barCells (fun g => (reached ER g 0 : sProp 𝕄)) ⊢ bigSep Finset.univ fun c : Dev nD => reached ER (barCell c) 0 :=
    Entails.of_eq (bigSep_map (s := Finset.univ) barEmb (Φ := fun g : GSem nD τ sig => (reached ER g 0 : sProp 𝕄)))
  unfold Rec
  iintro ⟨H1, H2⟩
  isplitl [H1]
  · iapply h1 $$ H1
  · iapply h2 $$ H2

theorem init :
    iprop((bigSep Finset.univ fun c : Dev nD => iprop(unscopedBufs c (fun b => m ((c : Thread nD τ).loc b)) ∗ unscopedSems0 c
          ∗ owes (c : Thread nD τ) (owe c pays) ∅ ∗ Pipeline.launchCred (fun d => owe d pays) c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep trCells (fun g => (openTok ER g : sProp 𝕄))
      ⊢ bigSep Finset.univ (fun c : Dev nD => bigSep Finset.univ fun x : Bool × Tr => openTok ER (kcell (c, some x))) :=
    Entails.of_eq (by rw [bigSep_map, bigSep_univ_prod]; rfl)
  have hd : (bigSep Finset.univ fun c : Dev nD => iprop(unscopedBufs c (fun b => m ((c : Thread nD τ).loc b)) ∗ unscopedSems0 c
          ∗ owes (c : Thread nD τ) (owe c pays) ∅ ∗ Pipeline.launchCred (fun d => owe d pays) c ∗ prngReg c (ρ c) ∗ G c))
      ⊢ (iprop((bigSep Finset.univ fun c => Own m c) ∗ (bigSep Finset.univ fun c => semVal (barCell c) 0) ∗ bigSep Finset.univ (G (F := F))) : sProp 𝕄) := by
    rw [← bigSep_sep', ← bigSep_sep']
    exact bigSep_mono fun c _ => own_intro m ρ c
  have hl : iprop((bigSep Finset.univ fun c : Dev nD => atPos ER (barCell c) 0 ∅ 0) ∗ (bigSep Finset.univ fun c : Dev nD => payToks c)
        ∗ (bigSep Finset.univ fun c : Dev nD => bigSep Finset.univ fun x : Bool × Tr => openTok ER (kcell (c, some x))) ∗ bigSep Finset.univ fun c => Own m c)
      ⊢ (bigSep Finset.univ fun c : Dev nD => iprop(Lin₀ c ∗ Own m c) : sProp 𝕄) := by
    rw [← bigSep_sep', ← bigSep_sep', ← bigSep_sep']
    refine bigSep_mono fun c _ => (?_ : (_ : sProp 𝕄) ⊢ _)
    unfold Lin₀
    iintro ⟨Ha, Ht, Ho, Hw⟩
    isplitr [Hw]
    · isplitl [Ha]; · iexact Ha
      isplitl [Ht] <;> iassumption
    iexact Hw
  have hT (κ : GSem nD τ sig → ℕ) : iprop(Rec (xs m) (ws m) (fun ck => κ (kcell ck)) ∗ bigSep Finset.univ fun c : Dev nD => iprop(Lin₀ c ∗ Own m c))
      ⊢ bigSep Finset.univ (T₀ m) := with_persistent fun c _ => T₀_intro m _ c
  iintro ⟨H, -⟩
  ihave H' := hd $$ H
  icases H' with ⟨HB, Hv, HG⟩
  ihave Hu := (Entails.of_eq (G_all (F := F))) $$ HG
  imod (Rounds.fund_launch ER (Rd (xs m) (ws m)) disjoint_cells (fun g _ h => h) allToks) $$ [Hv Hu] with ⟨%κ, -, Hinv, Hr, Hat, Hopen, Htok⟩
  · isplitl [Hv]
    · iapply hv $$ Hv
    · iexact Hu
  imodintro
  ihave Htk := (Entails.of_eq (toks_eq (F := F))) $$ Htok
  iapply (hT κ)
  isplitl [Hinv Hr]
  · iapply (rec_intro m κ)
    isplitl [Hinv] <;> iassumption
  iapply hl
  isplitl [Hat]; · iapply hat $$ Hat
  isplitl [Htk]; · iapply (toks_around (F := F)) $$ Htk
  isplitl [Hopen]; · iapply ho $$ Hopen
  iexact HB

/-! ## The run -/

/-- Every buffer that outlives the call ends with the contents named. -/
def Ends (s : MemSt nD τ sig (Elt F)) : Prop :=
  ∀ (c : Dev nD) (b : Ref sig .tc), (Proc.devRef .tc b : DevRef τ sig) ∈ Pipeline.ucRefs τ sig →
    s.mem ((c : Thread nD τ).loc b) = V₂ m c (Proc.devRef .tc b)

set_option backward.isDefEq.respectTransparency.types false in
set_option maxRecDepth 30000 in
/-- On thirty-two devices, over any float values and from any memory with all semaphores at zero, every fair execution ends
    without fault, every buffer has its final contents, and all semaphores are at zero. -/
theorem run_main : θ_run defs (onTc (τ := τ) (main (F := F))) ⟨m, fun _ => 0, ρ⟩ (fun r => Ends m r.2 ∧ r.2.sem = fun _ => 0) :=
  Pipeline.θ_run_regions_kit_dev_sems (pcfgs (F := F)) adm (dats m) () cellOf_inj EP defs₀ 𝒱₀ L lv m ρ main (segs m)
    (main_wp m)
    (fun c => by simp only [segs, Pipeline.Seg.pipes_host, Pipeline.Seg.pipes_region, Pipeline.Seg.pipes_nil]; decide)
    (O₀ := fun c => owe c pays) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, after_attention m c, leave m c⟩)
    (hinit := init m ρ)
    (QY := fun c s => (∀ b : Ref sig .tc, (Proc.devRef .tc b : DevRef τ sig) ∈ Pipeline.ucRefs τ sig →
      s.mem ((c : Thread nD τ).loc b) = V₂ m c (Proc.devRef .tc b))
      ∧ ∀ sm : SemLoc sig, sm.isScoped .tc = false → s.sem ((c.tc : Thread nD τ), sm) = 0)
    (hfin := fun c s' => by
      unfold Tₙ StableHlo.held
      iintro ⟨⟨Hh, Hb⟩, HSI⟩
      ihave %h := (SI_pointsTo_bufs_agree (qs := fun _ => fullShare) (Pipeline.ucRefs τ sig)) $$ [HSI Hh]
      · isplitl [HSI]; · iexact HSI
        iexact Hh
      imod (Pipeline.unscopedSems0_read (X := semVal (barCell c) 0) (c := c) (by rw [unscopedSems0_eq]; exact fupd_intro) s') $$ [Hb HSI] with ⟨%hz, HSI⟩
      · isplitl [Hb] <;> iassumption
      imodintro
      isplitr; · ipureintro; exact ⟨fun b hb => h _ hb, hz⟩
      iexact HSI)
    (hQ := fun s h hs => ⟨fun c => (h c).1, sem_eq_zero hs fun c => (h c).2⟩)

end AllReduce
-- ==== Proof.Value.lean ====
/-
  What the run leaves, buffer by buffer: the result is the protocol's sum of the devices' products, and no argument changes.
-/
module

public import Idealize.ShloMosaic.Lib.StableHlo.RunRead
public import proofs.«01_k».proof.Proof.Run

@[expose] public section

noncomputable section

namespace AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The buffers the attention writes, in order. -/
def written : List (Ref sig .tc) :=
  [main_c, main_c_0, main_v1, main_v2, main_v3, main_v4, main_v5, main_v6, main_v7, main_v8, main_v9, main_c_1,
    main_v10, main_c_2, main_v11, main_c_3, main_v12, main_v13, main_c_4, main_c_5, main_v14, main_v15, main_c_6,
    main_v16, main_c_7, main_v17, main_c_8, main_v18, main_v19, main_c_9, main_c_10, main_v20, main_v21, main_v22,
    main_v23, main_v24, main_v25, main_v26, main_v27, main_v28, main_v29, main_v30, main_cst, main_v31, main_v32,
    main_cst_11, main_v33, main_cst_12, main_v34, main_v35, main_v36, main_v37, main_v38, main_v39, main_cst_13,
    main_v40, main_v41, main_v42, main_v43, main_v44, main_v45, main_v46, main_v47, main_v48, main_v49, main_v50]

theorem writes_eq (c : Dev nD) : (hostOps0 (F := F) c).map HloOp.writes = written.map fun r => {Proc.devRef (τ := τ) .tc r} := rfl

/-- A buffer the attention does not write keeps its contents until the call, -/
theorem V₁_kept (c : Dev nD) (r : Ref sig .tc) (h : r ∉ written) : V₁ m c (Proc.devRef .tc r) = m ((c : Thread nD τ).loc r) := by
  unfold V₁
  exact StableHlo.after_unwritten written (writes_eq c) h (V₀ m c)
/-- and, unless it is the result, to the end. -/
theorem V₂_kept (c : Dev nD) (r : Ref sig .tc) (h : r ∉ written) (h' : r ≠ main_v51) : V₂ m c (Proc.devRef .tc r) = m ((c : Thread nD τ).loc r) :=
  (V₂_ne m c _ fun e => h' (Proc.devRef_injective _ e)).trans (V₁_kept m c r h)

theorem outlives (r : Ref sig .tc) (h : r.isScoped = false) : (Proc.devRef .tc r : DevRef τ sig) ∈ Pipeline.ucRefs τ sig :=
  Finset.mem_filter.mpr ⟨StableHlo.devRef_mem_tcRefs _, fun h' => Bool.false_ne_true (h.symm.trans h')⟩

/-- Every run ends with the result of the protocol in the result array, the arguments unchanged and every semaphore at
    zero. -/
theorem run_value : θ_run defs (onTc (τ := τ) (main (F := F))) ⟨m, fun _ => 0, ρ⟩ (fun r =>
    (∀ c : Dev nD, r.2.mem ((c : Thread nD τ).loc main_v51)
        = outAt (fun d : Dev nD => (V₁ m d (Proc.devRef .tc main_v50) : FVec F S1024x1024 .bf16)) (fun d : Dev nD => m ((d : Thread nD τ).loc main_arg4)) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) := by
  have hx : xs m = fun d : Dev nD => (V₁ m d (Proc.devRef .tc main_v50) : FVec F S1024x1024 .bf16) := funext (xs_eq m)
  have hw : ws m = fun d : Dev nD => m ((d : Thread nD τ).loc main_arg4) := funext fun d => (ws_eq m d).trans (V₁_kept m d main_arg4 (by decide))
  rw [← hx, ← hw]
  refine (θ_run defs _ _).mono (fun r h => ⟨fun c => ?_, h.2⟩) (run_main m ρ)
  have keep (b : Ref sig .tc) (hs : b.isScoped = false) (h1 : b ∉ written) (h2 : b ≠ main_v51) :
      r.2.mem ((c : Thread nD τ).loc b) = m ((c : Thread nD τ).loc b) := (h.1 c b (outlives b hs)).trans (V₂_kept m c b h1 h2)
  exact ⟨(h.1 c main_v51 (outlives _ rfl)).trans (V₂_out m c), keep main_arg0 rfl (by decide) (by decide), keep main_arg1 rfl (by decide) (by decide),
    keep main_arg2 rfl (by decide) (by decide), keep main_arg3 rfl (by decide) (by decide), keep main_arg4 rfl (by decide) (by decide)⟩

end AllReduce
-- ==== Proof.Frames.lean ====
/-
  The frames: the kernel and its exact reading have one text, so one run serves both.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Value
public import Idealize.ShloMosaic.Adequacy
public import Idealize.ShloMosaic.Init

@[expose] public section

noncomputable section

namespace Cert.Proof

open Idealize.ShloMosaic Idealize.SL.Sem

/-- The exact reading runs without fault, keeps its arguments and ends with every semaphore at zero, over any float
    values. -/
theorem frame_text {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4)
            = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (AllReduce.run_value m ρ)

/-- The kernel and its exact reading have the same body, -/
theorem bodies_eq {F : FTy → Type} [FloatOps F] : Cert.Kernel.defs₀ (F := F) = Cert.KernelIdeal.defs₀ (F := F) := by
  refine congrArg (Defs.onTc (nD := Cert.KernelIdeal.nD) (τ := Cert.KernelIdeal.τ) (sig := Cert.KernelIdeal.sig)
    (Val := Elt F) (Λ := Cert.KernelIdeal.Λ₀)) ?_
  funext l a
  match l, a with
  | 0, (t, s) => rfl

/-- and so the same table of functions. -/
theorem defs_eq {F : FTy → Type} [FloatOps F] : Cert.Kernel.defs (F := F) = Cert.KernelIdeal.defs (F := F) :=
  congrArg (Pipeline.defs (Cert.KernelIdeal.pcfgs (F := F))) bodies_eq

theorem cons_both {α : Type _} {a b : α} {l t : List α} (h : a = b) (h' : l = t) : a :: l = b :: t := h ▸ h' ▸ rfl

set_option maxHeartbeats 8000000 in
/-- Their host operations are the same, one by one, -/
theorem hosts_eq {F : FTy → Type} [FloatOps F] (c : Dev Cert.KernelIdeal.nD) :
    Cert.Kernel.Gen.hostOps0 (F := F) c = Cert.KernelIdeal.Gen.hostOps0 (F := F) c := by
  unfold Cert.Kernel.Gen.hostOps0 Cert.KernelIdeal.Gen.hostOps0
  repeat (refine cons_both (by rfl) ?_)
  rfl

/-- and so are their main programs. -/
theorem main_eq {F : FTy → Type} [FloatOps F] : Cert.Kernel.main (F := F) = Cert.KernelIdeal.main (F := F) := by
  funext c
  rw [Cert.Kernel.Gen.main_chain, Cert.KernelIdeal.Gen.main_chain]
  refine congrArg Pipeline.chain (cons_both (congrArg StableHlo.seq (hosts_eq c)) ?_)
  rfl

/-- So the kernel, too, runs without fault, keeps its operands and ends with every semaphore at zero. -/
theorem frame_kernel : Cert.quiescent_Kernel := fun m ρ _ => by
  rw [defs_eq, main_eq]
  exact frame_text (F := Bits) m ρ

theorem frame_kernelIdeal : Cert.quiescent_KernelIdeal := fun m ρ _ => frame_text (F := Ideal) m ρ

end Cert.Proof

end
-- ==== Proof.Softmax.lean ====
/-
  A row of softmax attention over the extended reals. A key whose score is −∞ has weight zero, so a row over all the keys
  with the forbidden ones at −∞ is the row over the allowed keys alone.
-/
module

public import Idealize.ShloMosaic.PureOps.Ideal.Laws
public import Idealize.ShloMosaic.Lib.IdealHost
public import Idealize.ShloMosaic.Lib.Pointwise.Index

@[expose] public section

noncomputable section

namespace AllReduce

open Idealize.ShloMosaic

section

variable {n k : ℕ}

/-- The largest score of a row. -/
def peak (s : Fin n → EReal) : EReal := Finset.univ.fold max ⊥ s

/-- What a row gives: the values, weighted by the exponentials of the scores' distances to the peak, over their sum. -/
def attend (s v : Fin n → EReal) : EReal :=
  ∑ j, v j * Ideal.div (Ideal.exp (s j - peak s)) (∑ i, Ideal.exp (s i - peak s))

theorem peak_eq_sup (s : Fin n → EReal) : peak s = Finset.univ.sup s := rfl

theorem le_peak (s : Fin n → EReal) (j : Fin n) : s j ≤ peak s := by
  rw [peak_eq_sup]; exact Finset.le_sup (Finset.mem_univ j)

theorem peak_le {s : Fin n → EReal} {b : EReal} (h : ∀ j, s j ≤ b) : peak s ≤ b := by
  rw [peak_eq_sup]; exact Finset.sup_le fun j _ => h j

/-- A row with a key has one at its peak. -/
theorem peak_mem (s : Fin n → EReal) (hn : 0 < n) : ∃ j, s j = peak s := by
  have : Nonempty (Fin n) := ⟨⟨0, hn⟩⟩
  obtain ⟨j, _, h⟩ := Finset.exists_mem_eq_sup (Finset.univ : Finset (Fin n)) Finset.univ_nonempty s
  exact ⟨j, h.symm⟩

theorem exp_nonneg (x : EReal) : 0 ≤ Ideal.exp x := by
  induction x using EReal.rec with
  | bot => exact le_of_eq rfl
  | coe r => exact EReal.coe_nonneg.mpr (Real.exp_pos r).le
  | top => exact le_top

/-- The weights of a row of real scores do not add up to zero. -/
theorem total_ne_zero (s : Fin n → EReal) (hn : 0 < n) (hs : ∀ j, s j ≠ ⊥ ∧ s j ≠ ⊤) :
    ∑ i, Ideal.exp (s i - peak s) ≠ 0 := by
  obtain ⟨j, hj⟩ := peak_mem s hn
  have h1 : Ideal.exp (s j - peak s) = 1 := by
    rw [← hj, EReal.sub_self (hs j).2 (hs j).1]
    show ((Real.exp 0 : ℝ) : EReal) = 1
    rw [Real.exp_zero]; rfl
  have h2 : (1 : EReal) ≤ ∑ i, Ideal.exp (s i - peak s) := by
    rw [← h1]
    exact Finset.single_le_sum (f := fun i => Ideal.exp (s i - peak s)) (fun i _ => exp_nonneg _) (Finset.mem_univ j)
  intro h
  rw [h] at h2
  exact absurd h2 (by simp)

variable (e : Fin k → Fin n) (P : Fin n → Prop) [DecidablePred P]

/-- A sum over the allowed keys, which `e` lists. -/
theorem sum_allowed (he : Function.Injective e) (hP : ∀ j, P j ↔ ∃ p, e p = j) (g : Fin n → EReal) :
    (∑ j, if P j then g j else 0) = ∑ p, g (e p) := by
  rw [← Finset.sum_filter, show Finset.univ.filter P = Finset.univ.image e by ext j; simp [hP j],
    Finset.sum_image fun a _ b _ h => he h]

/-- A row over all the keys, the forbidden ones at −∞, is the row over the allowed ones. -/
theorem attend_masked (he : Function.Injective e) (hP : ∀ j, P j ↔ ∃ p, e p = j) (hk : 0 < k) (s v : Fin n → EReal)
    (hs : ∀ j, s j ≠ ⊥ ∧ s j ≠ ⊤) :
    attend (fun j => if P j then s j else ⊥) v = attend (fun p => s (e p)) (fun p => v (e p)) := by
  have hM : peak (fun j => if P j then s j else ⊥) = peak (fun p => s (e p)) := by
    refine le_antisymm (peak_le fun j => ?_) (peak_le fun p => ?_)
    · by_cases h : P j
      · obtain ⟨p, rfl⟩ := (hP j).mp h
        rw [if_pos h]; exact le_peak (fun p => s (e p)) p
      · rw [if_neg h]; exact bot_le
    · refine le_trans (le_of_eq ?_) (le_peak (fun j => if P j then s j else ⊥) (e p))
      exact (if_pos ((hP (e p)).mpr ⟨p, rfl⟩)).symm
  have hE (j : Fin n) : Ideal.exp ((if P j then s j else ⊥) - peak (fun p => s (e p)))
      = if P j then Ideal.exp (s j - peak (fun p => s (e p))) else 0 := by
    by_cases h : P j
    · rw [if_pos h, if_pos h]
    · rw [if_neg h, if_neg h, sub_eq_add_neg, EReal.bot_add]; rfl
  have h0 := total_ne_zero (fun p => s (e p)) hk fun p => hs (e p)
  unfold attend
  rw [hM]
  simp only [hE]
  rw [sum_allowed e P he hP fun j => Ideal.exp (s j - peak (fun p => s (e p)))]
  rw [← sum_allowed e P he hP fun j => v j * Ideal.div (Ideal.exp (s j - peak (fun p => s (e p)))) (∑ i, Ideal.exp (s (e i) - peak fun p => s (e p)))]
  refine Finset.sum_congr rfl fun j _ => ?_
  by_cases h : P j
  · rw [if_pos h, if_pos h]
  · rw [if_neg h, if_neg h, Ideal.zero_div h0, mul_zero]

end

section

/-- The key at position `p` of group `g`: the keys of a group are those whose blocks of 64 are four apart. -/
def key (g : Fin 4) (p : Fin 256) : Fin 1024 := ⟨p.val / 64 * 256 + g.val * 64 + p.val % 64, by omega⟩

/-- The group a key is in, -/
def groupOf (j : Fin 1024) : Fin 4 := ⟨j.val / 64 % 4, by omega⟩

/-- and its position there. -/
def placeOf (j : Fin 1024) : Fin 256 := ⟨j.val / 256 * 64 + j.val % 64, by omega⟩

theorem key_of (j : Fin 1024) : key (groupOf j) (placeOf j) = j := by
  apply Fin.ext; simp only [key, groupOf, placeOf]; omega

theorem groupOf_key (g : Fin 4) (p : Fin 256) : groupOf (key g p) = g := by
  apply Fin.ext; simp only [key, groupOf]; omega

theorem key_injective (g : Fin 4) : Function.Injective (key g) := by
  intro a b h
  have h' := congrArg Fin.val h
  simp only [key] at h'
  apply Fin.ext; omega

theorem mem_group (g : Fin 4) (j : Fin 1024) : groupOf j = g ↔ ∃ p, key g p = j :=
  ⟨fun h => ⟨placeOf j, h ▸ key_of j⟩, fun ⟨p, h⟩ => h ▸ groupOf_key g p⟩

end

/-- The scale of the scores. -/
def scale : EReal := Ideal.ofBits .f32 0x3DB504F3#32

/-- The word of −∞. -/
theorem ofBits_negInf : Ideal.ofBits .f32 0xFF800000#32 = ⊥ := by
  simp [Ideal.ofBits, Ideal.ieee]

/-- The scale is a real number. -/
theorem scale_real : scale ≠ ⊥ ∧ scale ≠ ⊤ := by
  unfold scale
  simp [Ideal.ofBits, Ideal.ieee, -EReal.coe_mul]

/-- A finite sum of real numbers is real. -/
theorem sum_real {ι : Type} (t : Finset ι) (f : ι → EReal) (h : ∀ i, f i ≠ ⊥ ∧ f i ≠ ⊤) : (∑ i ∈ t, f i) ≠ ⊥ ∧ (∑ i ∈ t, f i) ≠ ⊤ := by
  classical
  induction t using Finset.induction_on with
  | empty => exact ⟨by simp, by simp⟩
  | insert a u ha ih =>
    rw [Finset.sum_insert ha]
    exact ⟨by simp [EReal.add_eq_bot_iff, (h a).1, ih.1], EReal.add_ne_top (h a).2 ih.2⟩

/-- A product of real numbers is real. -/
theorem mul_real {a b : EReal} (ha : a ≠ ⊥ ∧ a ≠ ⊤) (hb : b ≠ ⊥ ∧ b ≠ ⊤) : a * b ≠ ⊥ ∧ a * b ≠ ⊤ := by
  lift a to ℝ using ⟨ha.2, ha.1⟩
  lift b to ℝ using ⟨hb.2, hb.1⟩
  rw [← EReal.coe_mul]; exact ⟨EReal.coe_ne_bot _, EReal.coe_ne_top _⟩

/-- The score of a query row and a key, for one head. -/
def score (x : (⟨3, ![1, 1024, 1024]⟩ : Shape).Idx → EReal) (w : Fin 1024 → Fin 128 → EReal) (k : Fin 1024 → Fin 128 → EReal) (i j : Fin 1024) : EReal :=
  (∑ e : Fin 128, (∑ t : Fin 1024, x (ix3 0 i t) * w t e) * k j e) * scale

/-- It is real where the inputs are. -/
theorem score_real {x : (⟨3, ![1, 1024, 1024]⟩ : Shape).Idx → EReal} {w k : Fin 1024 → Fin 128 → EReal} {i j : Fin 1024}
    (hx : ∀ t, x (ix3 0 i t) ≠ ⊥ ∧ x (ix3 0 i t) ≠ ⊤) (hw : ∀ t e, w t e ≠ ⊥ ∧ w t e ≠ ⊤) (hk : ∀ e, k j e ≠ ⊥ ∧ k j e ≠ ⊤) :
    score x w k i j ≠ ⊥ ∧ score x w k i j ≠ ⊤ :=
  mul_real (sum_real _ _ fun e => mul_real (sum_real _ _ fun t => mul_real (hx t) (hw t e)) (hk e)) scale_real

end AllReduce
-- ==== Proof.Scores.lean ====
/-
  The attention of one device before the exchange: its host operations as a few named arrays, and each read at an index
  over the extended reals.
-/
module

public import Idealize.ShloMosaic.Lib.StableHlo.RunRead
public import Idealize.ShloMosaic.Lib.StableHlo.RunClose
public import Idealize.ShloMosaic.Lib.Tactic
public import Idealize.ShloMosaic.Lib.DynamicIndex
public import proofs.«01_k».proof.Proof.Device
public import proofs.«01_k».proof.Proof.Softmax

@[expose] public section

noncomputable section

namespace AllReduce

open Cert.KernelIdeal Cert.KernelIdeal.Gen
open Idealize.ShloMosaic
open Idealize.ShloMosaic.TcCoe
open Idealize.ShloMosaic.ValueIdx

variable {F : FTy → Type} [FloatOps F]

/-- The keys' blocks of 64, sorted by group. -/
def grouped {α : Type} (t : S1024x8x128.Idx → α) : S4x256x8x128.Idx → α :=
  shapeCast S4x256x8x128 (transpose S4x4x64x8x128 [1, 0, 2, 3, 4] (shapeCast S4x4x64x8x128 t shapeCasts_S1024x8x128_S4x4x64x8x128)
    transposes_S4x4x64x8x128_S4x4x64x8x128_1_0_2_3_4) shapeCasts_S4x4x64x8x128_S4x256x8x128

/-- The device's queries. -/
def queries (x : FVec F S1x1024x1024 .bf16) (w : FVec F S1024x1024 .bf16) : FVec F S4x256x8x128 .bf16 :=
  grouped (truncf .bf16 (shapeCast S1024x8x128 (Host.dotGeneral dot_S1024x1024_S1024x1024_S1024x1024_1_0_0_1_n_n none
    (shapeCast S1024x1024 x shapeCasts_S1x1024x1024_S1024x1024) w) shapeCasts_S1024x1024_S1024x8x128) bitsLt_bf16_f32)

/-- The number of the device's first head, as the program computes it, -/
def firstHead (c : Dev nD) : IVec S_ 32 :=
  muli (id (Host.remui (Host.divui (constantI S_ 32 (Dev.word c)) (constantI S_ 32 1#32)) (constantI S_ 32 32#32))) (constantI S_ 32 8#32)

/-- counted from the end where it is negative. -/
def headStart (c : Dev nD) : IVec S_ 32 :=
  select (cmpi .slt (firstHead c) (constantI S_ 32 0#32)) (addi (firstHead c) (constantI S_ 32 256#32)) (firstHead c)

/-- The device's heads of the keys, or of the values. -/
def share (c : Dev nD) (k : FVec F S1x1024x256x128 .bf16) : FVec F S4x256x8x128 .bf16 :=
  grouped (Host.dynamicSlice S1024x8x128 (shapeCast S1024x256x128 k shapeCasts_S1x1024x256x128_S1024x256x128)
    (fun a => ((![constantI S_ 32 0#32, headStart c, constantI S_ 32 0#32] : Fin 3 → IVec S_ 32) a (Shape.Idx.first h_S_)).toInt)
    sliceFits_S1024x256x128_S1024x8x128)

/-- The scores of each group. -/
def scores (q k : FVec F S4x256x8x128 .bf16) : FVec F S4x8x256x256 .f32 :=
  mulf (Host.dotGeneral dot_S4x256x8x128_S4x256x8x128_S4x8x256x256_3_3_1_1_02_02 none q k)
    (broadcastInDim S4x8x256x256 ![] bcast_S_S4x8x256x256 (constant S_ .f32 0x3DB504F3#32))

/-- The exponentials of the distances to each row's peak, -/
def raised (s : FVec F S4x8x256x256 .f32) : FVec F S4x8x256x256 .f32 :=
  Host.exp (subf s (broadcastInDim S4x8x256x256 ![0, 1, 2, 3] bcast_S4x8x256x1_S4x8x256x256_0_1_2_3
    (broadcastInDim S4x8x256x1 ![0, 1, 2] bcast_S4x8x256_S4x8x256x1_0_1_2
      (maximumf (broadcastInDim S4x8x256 ![] bcast_S_S4x8x256 (constant S_ .f32 0xFF800000#32))
        (Host.reduce FloatOps.maximumf s (constant S_ .f32 0xFF800000#32) reducesTo_S4x8x256x256_S4x8x256_d3 h_S_)))))

/-- and over their sum. -/
def weights (e : FVec F S4x8x256x256 .f32) : FVec F S4x8x256x256 .bf16 :=
  truncf .bf16 (Host.divf e (broadcastInDim S4x8x256x256 ![0, 1, 2, 3] bcast_S4x8x256x1_S4x8x256x256_0_1_2_3
    (broadcastInDim S4x8x256x1 ![0, 1, 2] bcast_S4x8x256_S4x8x256x1_0_1_2
      (Host.reduceAdd e (constant S_ .f32 0x00000000#32) reducesTo_S4x8x256x256_S4x8x256_d3 h_S_)))) bitsLt_bf16_f32

/-- The weighted values, the rows back in their order. -/
def mixed (v : FVec F S4x256x8x128 .bf16) (w : FVec F S4x8x256x256 .bf16) : FVec F S1024x1024 .bf16 :=
  truncf .bf16 (shapeCast S1024x1024 (transpose S4x4x64x8x128 [1, 0, 2, 3, 4] (shapeCast S4x4x64x8x128
    (transpose S4x256x8x128 [0, 3, 1, 2] (Host.dotGeneral dot_S4x256x8x128_S4x8x256x256_S4x8x128x256_1_3_3_2_02_01 none v w)
      transposes_S4x8x128x256_S4x256x8x128_0_3_1_2) shapeCasts_S4x256x8x128_S4x4x64x8x128)
    transposes_S4x4x64x8x128_S4x4x64x8x128_1_0_2_3_4) shapeCasts_S4x4x64x8x128_S1024x1024) bitsLt_bf16_f32

variable (m : (ℓ : Loc nD τ sig) → Buf (Elt F) ℓ)

set_option maxRecDepth 30000 in
set_option maxHeartbeats 4000000 in
/-- What the call is given for its left operand. -/
theorem context_eq (c : Dev nD) : (V₁ m c (Proc.devRef .tc main_v50) : FVec F S1024x1024 .bf16)
    = mixed (share c (m ((c : Thread nD τ).loc main_arg3)))
        (weights (raised (scores (queries (m ((c : Thread nD τ).loc main_arg0)) (m ((c : Thread nD τ).loc main_arg1)))
          (share c (m ((c : Thread nD τ).loc main_arg2)))))) := by
  unfold V₁
  after_results_simp_entrywise
  rfl

end AllReduce
-- ==== Proof.Attention.lean ====
/-
  One device's attention, read at an index over the extended reals: each row is a softmax row over the keys of its group.
-/
module

public import Idealize.ShloMosaic.Lib.Pointwise
public import Idealize.ShloMosaic.Lib.IdealHost
public import Idealize.ShloMosaic.Lib.DynamicIndex
public import proofs.«01_k».proof.Proof.Scores

@[expose] public section

noncomputable section

namespace AllReduce

open Cert.KernelIdeal Cert.KernelIdeal.Gen
open Idealize.ShloMosaic
open Idealize.ShloMosaic.TcCoe

theorem grouped_apply {α : Type} (t : S1024x8x128.Idx → α) (g : Fin 4) (p : Fin 256) (h : Fin 8) (d : Fin 128) :
    grouped t (ix4 g p h d) = t (ix3 (key g p) h d) := by
  unfold grouped
  pointwise
  rfl

theorem queries_apply (x : FVec Ideal S1x1024x1024 .bf16) (w : FVec Ideal S1024x1024 .bf16) (g : Fin 4) (p : Fin 256) (h : Fin 8) (d : Fin 128) :
    queries x w (ix4 g p h d) = ∑ k : Fin 1024, x (ix3 0 (key g p) k) * w (ix2 k ⟨h.val * 128 + d.val, by omega⟩) := by
  unfold queries
  rw [grouped_apply]
  pointwise

theorem headStart_eq (c : Dev nD) : (headStart c (Shape.Idx.first h_S_)).toInt = 8 * (c.val : ℤ) := by
  unfold headStart firstHead
  pointwise
  revert c
  decide +kernel

theorem start_eq (c : Dev nD) (a : Fin 3) :
    ((![constantI S_ 32 0#32, headStart c, constantI S_ 32 0#32] : Fin 3 → IVec S_ 32) a (Shape.Idx.first h_S_)).toInt
      = (((![0, 8 * c.val, 0] : Fin 3 → ℕ) a : ℕ) : ℤ) := by
  match a with
  | 0 => rfl
  | 1 => exact (headStart_eq c).trans (by simp)
  | 2 => rfl

theorem slice_fits (c : Dev nD) : S1024x256x128.Slices ![0, 8 * c.val, 0] S1024x8x128 := by
  have h : c.val < 32 := c.isLt
  refine ⟨rfl, fun a => ?_⟩
  match a with
  | 0 => exact le_of_eq rfl
  | 1 => show 8 * c.val + 8 ≤ 256; omega
  | 2 => exact le_of_eq rfl

theorem share_apply (c : Dev nD) (k : FVec Ideal S1x1024x256x128 .bf16) (g : Fin 4) (p : Fin 256) (h : Fin 8) (d : Fin 128) :
    share c k (ix4 g p h d) = k (ix4 0 (key g p) ⟨8 * c.val + h.val, by have : c.val < 32 := c.isLt; omega⟩ d) := by
  unfold share
  rw [grouped_apply, Host.dynamicSlice_eq_extractStridedSlice S1024x8x128 _ _ ![0, 8 * c.val, 0] _ (slice_fits c) (start_eq c)]
  pointwise

theorem scores_apply (q k : FVec Ideal S4x256x8x128 .bf16) (g : Fin 4) (h : Fin 8) (i j : Fin 256) :
    scores q k (ix4 g h i j) = (∑ d : Fin 128, q (ix4 g i h d) * k (ix4 g j h d)) * scale := by
  unfold scores scale
  pointwise

theorem raised_apply (s : FVec Ideal S4x8x256x256 .f32) (g : Fin 4) (h : Fin 8) (i j : Fin 256) :
    raised s (ix4 g h i j) = Ideal.exp (s (ix4 g h i j) - peak fun k : Fin 256 => s (ix4 g h i k)) := by
  unfold raised
  pointwise
  rw [ofBits_negInf, max_eq_right bot_le]
  rfl

theorem weights_apply (e : FVec Ideal S4x8x256x256 .f32) (g : Fin 4) (h : Fin 8) (i j : Fin 256) :
    weights e (ix4 g h i j) = Ideal.div (e (ix4 g h i j)) (∑ k : Fin 256, e (ix4 g h i k)) := by
  unfold weights
  pointwise

theorem mixed_apply (v : FVec Ideal S4x256x8x128 .bf16) (w : FVec Ideal S4x8x256x256 .bf16) (i : Fin 1024) (h : Fin 8) (d : Fin 128) :
    mixed v w (ix2 i ⟨h.val * 128 + d.val, by omega⟩)
      = ∑ j : Fin 256, v (ix4 (groupOf i) j h d) * w (ix4 (groupOf i) h (placeOf i) j) := by
  unfold mixed
  pointwise
  rfl

end AllReduce
-- ==== Proof.Rows.lean ====
/-
  One device's attention as softmax rows: each of its heads is the attention of the row's group.
-/
module

public import proofs.«01_k».proof.Proof.Attention

@[expose] public section

noncomputable section

namespace AllReduce

open Cert.KernelIdeal Cert.KernelIdeal.Gen
open Idealize.ShloMosaic

/-- Before the exchange, device `c` holds for each row and each of its heads the attention of the row's group. -/
theorem mixed_value (c : Dev nD) (x : FVec Ideal S1x1024x1024 .bf16) (w : FVec Ideal S1024x1024 .bf16)
    (k v : FVec Ideal S1x1024x256x128 .bf16) (i : Fin 1024) (h : Fin 8) (d : Fin 128) (h' : Fin 256) (hh : h'.val = 8 * c.val + h.val) :
    mixed (share c v) (weights (raised (scores (queries x w) (share c k)))) (ix2 i ⟨h.val * 128 + d.val, by omega⟩)
      = attend (fun p => score x (fun t e => w (ix2 t ⟨h.val * 128 + e.val, by omega⟩)) (fun j e => k (ix4 0 j h' e)) i (key (groupOf i) p))
          (fun p => v (ix4 0 (key (groupOf i) p) h' d)) := by
  obtain ⟨h', hb⟩ := h'
  obtain rfl : h' = 8 * c.val + h.val := hh
  rw [mixed_apply]
  unfold attend score
  simp only [share_apply, weights_apply, raised_apply, scores_apply, queries_apply, key_of]

end AllReduce

end
-- ==== Proof.Masked.lean ====
/-
  The reference's attention, operation by operation as it is printed, in a few named arrays, and each read at an index over
  the extended reals: each row is a softmax row over all the keys, those outside its group at −∞.
-/
module

public import Idealize.ShloMosaic.Lib.Pointwise
public import Idealize.ShloMosaic.Lib.IdealHost
public import Idealize.ShloMosaic.Lib.Routing.OpsOrder
public import proofs.«01_k».proof.Proof.Gen.ReferenceIdeal.Run
public import proofs.«01_k».proof.Proof.Softmax

@[expose] public section

noncomputable section

namespace AllReduce.Whole

open Cert.ReferenceIdeal Cert.ReferenceIdeal.Gen
open Idealize.ShloMosaic

/-- The block of 64 each row lies in. -/
def blocks : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The blocks as a column, -/
def blockCol : IVec S1024x1 32 := broadcastInDim S1024x1 ![0] bcast_S1024_S1024x1_0 blocks
/-- and as a row. -/
def blockRow : IVec S1x1024 32 := broadcastInDim S1x1024 ![1] bcast_S1024_S1x1024_1 blocks

/-- The divisor four, kept from being zero. -/
def four : IVec S_ 32 :=
  select (cmpi .eq (id (constantI S_ 32 4#32)) (constantI S_ 32 0#32)) (constantI S_ 32 1#32) (id (constantI S_ 32 4#32))

/-- The row of the blocks' remainders by four, -/
def groupRow : IVec S1x1024 32 :=
  select (andi (cmpi .ne (cmpi .slt (Host.remsi blockRow (broadcastInDim S1x1024 ![] bcast_S_S1x1024 four)) (broadcastInDim S1x1024 ![] bcast_S_S1x1024 (constantI S_ 32 0#32)))
        (broadcastInDim S1x1024 ![] bcast_S_S1x1024 (cmpi .slt four (constantI S_ 32 0#32))))
      (cmpi .ne (Host.remsi blockRow (broadcastInDim S1x1024 ![] bcast_S_S1x1024 four)) (broadcastInDim S1x1024 ![] bcast_S_S1x1024 (constantI S_ 32 0#32))))
    (addi (Host.remsi blockRow (broadcastInDim S1x1024 ![] bcast_S_S1x1024 four)) (broadcastInDim S1x1024 ![] bcast_S_S1x1024 four))
    (Host.remsi blockRow (broadcastInDim S1x1024 ![] bcast_S_S1x1024 four))
/-- and the column. -/
def groupCol : IVec S1024x1 32 :=
  select (andi (cmpi .ne (cmpi .slt (Host.remsi blockCol (broadcastInDim S1024x1 ![] bcast_S_S1024x1 four)) (broadcastInDim S1024x1 ![] bcast_S_S1024x1 (constantI S_ 32 0#32)))
        (broadcastInDim S1024x1 ![] bcast_S_S1024x1 (cmpi .slt four (constantI S_ 32 0#32))))
      (cmpi .ne (Host.remsi blockCol (broadcastInDim S1024x1 ![] bcast_S_S1024x1 four)) (broadcastInDim S1024x1 ![] bcast_S_S1024x1 (constantI S_ 32 0#32))))
    (addi (Host.remsi blockCol (broadcastInDim S1024x1 ![] bcast_S_S1024x1 four)) (broadcastInDim S1024x1 ![] bcast_S_S1024x1 four))
    (Host.remsi blockCol (broadcastInDim S1024x1 ![] bcast_S_S1024x1 four))

/-- Which key each row may see. -/
def mask : IVec S1024x1024 1 :=
  ori (cmpi .eq (broadcastInDim S1024x1024 ![0, 1] bcast_S1024x1_S1024x1024_0_1 blockCol) (broadcastInDim S1024x1024 ![0, 1] bcast_S1x1024_S1024x1024_0_1 blockRow))
    (cmpi .eq (broadcastInDim S1024x1024 ![0, 1] bcast_S1x1024_S1024x1024_0_1 groupRow) (broadcastInDim S1024x1024 ![0, 1] bcast_S1024x1_S1024x1024_0_1 groupCol))

/-- Which rows see a key at all. -/
def kept : IVec S1x1024x1 1 :=
  broadcastInDim S1x1024x1 ![1] bcast_S1024_S1x1024x1_1 (Host.reduce IntOp.ori mask (constantI S_ 1 0#1) reducesTo_S1024x1024_S1024_d1 h_S_)

/-- The queries of all the heads. -/
def queries (x : FVec Ideal S1x1024x1024 .bf16) (w : FVec Ideal S1024x32768 .bf16) : FVec Ideal S1024x256x128 .f32 :=
  shapeCast S1024x256x128 (Host.dotGeneral dot_S1024x1024_S1024x32768_S1024x32768_1_0_0_1_n_n none
    (extf .f32 (shapeCast S1024x1024 x shapeCasts_S1x1024x1024_S1024x1024) bitsLt_bf16_f32) (extf .f32 w bitsLt_bf16_f32)) shapeCasts_S1024x32768_S1024x256x128

/-- The keys, or the values. -/
def plain (k : FVec Ideal S1x1024x256x128 .bf16) : FVec Ideal S1024x256x128 .f32 :=
  extf .f32 (shapeCast S1024x256x128 k shapeCasts_S1x1024x256x128_S1024x256x128) bitsLt_bf16_f32

/-- The scores, those of the forbidden keys at −∞. -/
def scores (q k : FVec Ideal S1024x256x128 .f32) : FVec Ideal S256x1024x1024 .f32 :=
  select (broadcastInDim S256x1024x1024 ![0, 1, 2] bcast_S1x1024x1024_S256x1024x1024_0_1_2
      (broadcastInDim S1x1024x1024 ![1, 2] bcast_S1024x1024_S1x1024x1024_1_2 mask))
    (mulf (Host.dotGeneral dot_S1024x256x128_S1024x256x128_S256x1024x1024_2_2_0_0_1_1 none q k)
      (broadcastInDim S256x1024x1024 ![] bcast_S_S256x1024x1024 (constant S_ .f32 0x3DB504F3#32)))
    (broadcastInDim S256x1024x1024 ![] bcast_S_S256x1024x1024 (id (constant S_ .f32 0xFF800000#32)))

/-- The exponentials of the distances to each row's peak, -/
def raised (s : FVec Ideal S256x1024x1024 .f32) : FVec Ideal S256x1024x1024 .f32 :=
  Host.exp (subf s (broadcastInDim S256x1024x1024 ![0, 1, 2] bcast_S256x1024x1_S256x1024x1024_0_1_2
    (broadcastInDim S256x1024x1 ![0, 1] bcast_S256x1024_S256x1024x1_0_1
      (Host.reduce FloatOps.maximumf s (constant S_ .f32 0xFF800000#32) reducesTo_S256x1024x1024_S256x1024_d2 h_S_))))

/-- and over their sum. -/
def weights (e : FVec Ideal S256x1024x1024 .f32) : FVec Ideal S256x1024x1024 .f32 :=
  select (broadcastInDim S256x1024x1024 ![0, 1, 2] bcast_S1x1024x1_S256x1024x1024_0_1_2 kept)
    (Host.divf e (broadcastInDim S256x1024x1024 ![0, 1, 2] bcast_S256x1024x1_S256x1024x1024_0_1_2
      (select (broadcastInDim S256x1024x1 ![0, 1, 2] bcast_S1x1024x1_S256x1024x1_0_1_2 kept)
        (broadcastInDim S256x1024x1 ![0, 1] bcast_S256x1024_S256x1024x1_0_1
          (Host.reduceAdd e (constant S_ .f32 0x00000000#32) reducesTo_S256x1024x1024_S256x1024_d2 h_S_))
        (broadcastInDim S256x1024x1 ![] bcast_S_S256x1024x1 (id (constant S_ .f32 0x3F800000#32))))))
    (broadcastInDim S256x1024x1024 ![] bcast_S_S256x1024x1024 (id (constant S_ .f32 0x00000000#32)))

/-- The weighted values, one row for each row of the input. -/
def mixed (v : FVec Ideal S1024x256x128 .f32) (w : FVec Ideal S256x1024x1024 .f32) : FVec Ideal S1024x32768 .f32 :=
  shapeCast S1024x32768 (transpose S1024x256x128 [2, 0, 1] (Host.dotGeneral dot_S1024x256x128_S256x1024x1024_S256x128x1024_0_2_2_1_1_0 none v w)
    transposes_S256x128x1024_S1024x256x128_2_0_1) shapeCasts_S1024x256x128_S1024x32768

/-- The context of all the heads. -/
def context (x : FVec Ideal S1x1024x1024 .bf16) (w : FVec Ideal S1024x32768 .bf16) (k v : FVec Ideal S1x1024x256x128 .bf16) :
    FVec Ideal S1024x32768 .f32 :=
  mixed (plain v) (weights (raised (scores (queries x w) (plain k))))

variable (m : (ℓ : Loc nD τ sig) → Buf (Elt Ideal) ℓ)

set_option maxRecDepth 30000 in
set_option maxHeartbeats 4000000 in
/-- The reference's result is the context through the last product. -/
theorem result_eq (c : Dev nD) : Cert.ReferenceIdeal.Value.res_main_v47 (F := Ideal) m c
    = Host.dotGeneral (F := Ideal) (φ₁ := .f32) (φ₂ := .f32) dot_S1024x32768_S32768x1024_S1024x1024_1_0_0_1_n_n none
        (context (m ((c.tc : Thread nD τ).loc main_arg0)) (m ((c.tc : Thread nD τ).loc main_arg1)) (m ((c.tc : Thread nD τ).loc main_arg2))
          (m ((c.tc : Thread nD τ).loc main_arg3)))
        (extf .f32 (m ((c.tc : Thread nD τ).loc main_arg4) : FVec Ideal S32768x1024 .bf16) bitsLt_bf16_f32) := by
  unfold Cert.ReferenceIdeal.Value.res_main_v47
  rfl

theorem blocks_apply (i : Fin 1024) : blocks (ix1 i) = BitVec.ofNat 32 (i.val / 64) := by
  unfold blocks
  pointwise
  revert i
  decide +kernel

theorem four_apply (z : S_.Idx) : four z = 4#32 := by
  unfold four
  pointwise
  rfl

theorem groupRow_apply (j : Fin 1024) : groupRow (ix2 0 j) = BitVec.ofNat 32 (j.val / 64 % 4) := by
  unfold groupRow blockRow
  pointwise
  simp only [blocks_apply, four_apply]
  revert j
  decide +kernel

theorem groupCol_apply (i : Fin 1024) : groupCol (ix2 i 0) = BitVec.ofNat 32 (i.val / 64 % 4) := by
  unfold groupCol blockCol
  pointwise
  simp only [blocks_apply, four_apply]
  revert i
  decide +kernel

/-- A row sees the keys of its own group. -/
theorem mask_apply (i j : Fin 1024) : mask (ix2 i j) = if groupOf j = groupOf i then 1#1 else 0#1 := by
  unfold mask
  pointwise
  rw [groupRow_apply, groupCol_apply]
  unfold blockCol blockRow
  pointwise
  simp only [blocks_apply]
  have h : ∀ a b : Fin 16, IntOp.ori (IntOp.cmpi .eq (BitVec.ofNat 32 a.val) (BitVec.ofNat 32 b.val))
      (IntOp.cmpi .eq (BitVec.ofNat 32 (b.val % 4)) (BitVec.ofNat 32 (a.val % 4))) = if b.val % 4 = a.val % 4 then 1#1 else 0#1 := by
    decide +kernel
  refine (h ⟨i.val / 64, by omega⟩ ⟨j.val / 64, by omega⟩).trans (if_congr ?_ rfl rfl)
  simp only [groupOf, Fin.mk.injEq]

/-- Every row sees itself. -/
theorem kept_apply (i : Fin 1024) : kept (ix3 0 i 0) = 1#1 := by
  unfold kept
  pointwise
  rw [Routing.fold_ori]
  exact ⟨i, Finset.mem_univ _, by rw [mask_apply, if_pos rfl]⟩

theorem queries_apply (x : FVec Ideal S1x1024x1024 .bf16) (w : FVec Ideal S1024x32768 .bf16) (i : Fin 1024) (h : Fin 256) (d : Fin 128) :
    queries x w (ix3 i h d) = ∑ t : Fin 1024, x (ix3 0 i t) * w (ix2 t ⟨h.val * 128 + d.val, by omega⟩) := by
  unfold queries
  pointwise

theorem plain_apply (k : FVec Ideal S1x1024x256x128 .bf16) (j : Fin 1024) (h : Fin 256) (d : Fin 128) :
    plain k (ix3 j h d) = k (ix4 0 j h d) := by
  unfold plain
  pointwise

theorem scores_apply (q k : FVec Ideal S1024x256x128 .f32) (h : Fin 256) (i j : Fin 1024) :
    scores q k (ix3 h i j) = if groupOf j = groupOf i then (∑ d : Fin 128, q (ix3 i h d) * k (ix3 j h d)) * scale else ⊥ := by
  unfold scores scale
  pointwise
  rw [mask_apply]
  have h0 : id (constant (F := Ideal) S_ FTy.f32 0xFF800000#32) ix0 = (⊥ : EReal) := ofBits_negInf
  rw [h0]
  by_cases h : groupOf j = groupOf i
  · rw [if_pos h, if_pos h]; rfl
  · rw [if_neg h, if_neg h]; rfl

theorem raised_apply (s : FVec Ideal S256x1024x1024 .f32) (h : Fin 256) (i j : Fin 1024) :
    raised s (ix3 h i j) = Ideal.exp (s (ix3 h i j) - peak fun k : Fin 1024 => s (ix3 h i k)) := by
  unfold raised
  pointwise
  rw [ofBits_negInf]
  rfl

theorem weights_apply (e : FVec Ideal S256x1024x1024 .f32) (h : Fin 256) (i j : Fin 1024) :
    weights e (ix3 h i j) = Ideal.div (e (ix3 h i j)) (∑ k : Fin 1024, e (ix3 h i k)) := by
  unfold weights
  pointwise
  rw [kept_apply]
  rfl

theorem mixed_apply (v : FVec Ideal S1024x256x128 .f32) (w : FVec Ideal S256x1024x1024 .f32) (i : Fin 1024) (h : Fin 256) (d : Fin 128) :
    mixed v w (ix2 i ⟨h.val * 128 + d.val, by omega⟩) = ∑ j : Fin 1024, v (ix3 j h d) * w (ix3 h i j) := by
  unfold mixed
  pointwise

/-- For each row and each head the reference's context is a softmax row over all the keys, the other groups' at −∞. -/
theorem context_apply (x : FVec Ideal S1x1024x1024 .bf16) (w : FVec Ideal S1024x32768 .bf16) (k v : FVec Ideal S1x1024x256x128 .bf16)
    (i : Fin 1024) (h : Fin 256) (d : Fin 128) :
    context x w k v (ix2 i ⟨h.val * 128 + d.val, by omega⟩)
      = attend (fun j => if groupOf j = groupOf i
            then score x (fun t e => w (ix2 t ⟨h.val * 128 + e.val, by omega⟩)) (fun j e => k (ix4 0 j h e)) i j else ⊥)
          (fun j => v (ix4 0 j h d)) := by
  unfold context
  rw [mixed_apply]
  unfold attend score
  simp only [plain_apply, weights_apply, raised_apply, scores_apply, queries_apply]

/-- With real inputs the row is the one over the row's own group. -/
theorem context_group (x : FVec Ideal S1x1024x1024 .bf16) (w : FVec Ideal S1024x32768 .bf16) (k v : FVec Ideal S1x1024x256x128 .bf16)
    (hx : ∀ z, x z ≠ (⊥ : EReal) ∧ x z ≠ (⊤ : EReal)) (hw : ∀ z, w z ≠ (⊥ : EReal) ∧ w z ≠ (⊤ : EReal))
    (hk : ∀ z, k z ≠ (⊥ : EReal) ∧ k z ≠ (⊤ : EReal)) (i : Fin 1024) (h : Fin 256) (d : Fin 128) :
    context x w k v (ix2 i ⟨h.val * 128 + d.val, by omega⟩)
      = attend (fun p => score x (fun t e => w (ix2 t ⟨h.val * 128 + e.val, by omega⟩)) (fun j e => k (ix4 0 j h e)) i (key (groupOf i) p))
          (fun p => v (ix4 0 (key (groupOf i) p) h d)) := by
  rw [context_apply]
  exact attend_masked (key (groupOf i)) (fun j => groupOf j = groupOf i) (key_injective _) (fun j => mem_group _ j) (by decide) _ _
    fun j => score_real (fun t => hx _) (fun t e => hw _) (fun e => hk _)

end AllReduce.Whole
-- ==== Proof.Finite.lean ====
/-
  What the precondition says: the entries of the tested arrays are real numbers.
-/
module

public import proofs.«01_k».proof.Defs
public import proofs.«01_k».proof.Proof.Softmax
public import Idealize.ShloMosaic.PureOps.Ideal.Laws

@[expose] public section

noncomputable section

namespace AllReduce

open Idealize.ShloMosaic

theorem ofBits_posInf : Ideal.ofBits .f32 0x7F800000#32 = ⊤ := by
  simp [Ideal.ofBits, Ideal.ieee]

/-- A number that passes both tests lies strictly between the infinities. -/
theorem real_of_bits {a lo hi : EReal} (h : IntOp.andi (Ideal.cmp .ogt a lo) (Ideal.cmp .olt a hi) = 1#1) : lo < a ∧ a < hi := by
  have e : ∀ p q : Bool, IntOp.andi (BitVec.ofBool p) (BitVec.ofBool q) = 1#1 → p = true ∧ q = true := by decide
  have e := e (decide (lo < a)) (decide (a < hi)) h
  exact ⟨of_decide_eq_true e.1, of_decide_eq_true e.2⟩

/-- An array of real numbers. -/
def Finite {s : Shape} (t : FVec Ideal s .bf16) : Prop := ∀ z, (t z : EReal) ≠ ⊥ ∧ (t z : EReal) ≠ ⊤

/-- So the entries of an array that passes both tests everywhere are real. -/
theorem real_of_test {s : Shape} (t : FVec Ideal s .bf16) (hb : FTy.bits .bf16 < FTy.bits .f32)
    (hc : (⟨0, ![]⟩ : Shape).BroadcastsInDim s (![] : Fin 0 → Fin s.rank))
    (h : andi (cmpf .ogt (extf .f32 t hb) (broadcastInDim s ![] hc (constant (F := Ideal) ⟨0, ![]⟩ .f32 0xFF800000#32)))
        (cmpf .olt (extf .f32 t hb) (broadcastInDim s ![] hc (constant (F := Ideal) ⟨0, ![]⟩ .f32 0x7F800000#32))) = fun _ => 1#1) : Finite t := by
  intro z
  have e : Ideal.ofBits .f32 0xFF800000#32 < (t z : EReal) ∧ (t z : EReal) < Ideal.ofBits .f32 0x7F800000#32 := real_of_bits (congrFun h z)
  rw [ofBits_negInf, ofBits_posInf] at e
  exact ⟨ne_of_gt e.1, ne_of_lt e.2⟩

section
variable [Cert.Pre_finite_KernelIdeal.Facts]
  {m : (ℓ : Loc Cert.KernelIdeal.nD Cert.KernelIdeal.τ Cert.KernelIdeal.sig) → Buf (Elt Ideal) ℓ}
  (h : Cert.Pre_KernelIdeal_finite_KernelIdeal m) (c : Dev Cert.KernelIdeal.nD)
include h

/-- The tokens, -/
theorem finite_x : Finite (s := ⟨3, ![1, 1024, 1024]⟩) (m ((c.tc : Thread Cert.KernelIdeal.nD Cert.KernelIdeal.τ).loc Cert.KernelIdeal.main_arg0)) :=
  real_of_test (s := ⟨3, ![1, 1024, 1024]⟩) _ _ _ (h c).1

/-- each device's columns of the query weights, -/
theorem finite_w : Finite (s := ⟨2, ![1024, 1024]⟩) (m ((c.tc : Thread Cert.KernelIdeal.nD Cert.KernelIdeal.τ).loc Cert.KernelIdeal.main_arg1)) :=
  real_of_test (s := ⟨2, ![1024, 1024]⟩) _ _ _ (h c).2.1

/-- and the keys are real. -/
theorem finite_k : Finite (s := ⟨4, ![1, 1024, 256, 128]⟩) (m ((c.tc : Thread Cert.KernelIdeal.nD Cert.KernelIdeal.τ).loc Cert.KernelIdeal.main_arg2)) :=
  real_of_test (s := ⟨4, ![1, 1024, 256, 128]⟩) _ _ _ (h c).2.2

end

end AllReduce

end
-- ==== Proof.Total.lean ====
/-
  What the kernel computes in exact arithmetic: every entry of the result, on every device, is the sum over all
  thirty-two devices of that entry of the device's partial product.
-/
module

public import proofs.«01_k».proof.Proof.Contents
public import Idealize.ShloMosaic.Lib.MatmulPlain
public import Idealize.ShloMosaic.Lib.ValueIdx
public import Idealize.ShloMosaic.PureOps.Ideal.Laws

@[expose] public section

noncomputable section

namespace AllReduce

open Cert.KernelIdeal Cert.KernelIdeal.Gen
open Idealize.ShloMosaic
open Idealize.ShloMosaic.ValueIdx

/-! ## Summing over a plane and over the planes -/

/-- The plane of a device. -/
def plane (c : Dev nD) : Fin 4 := ⟨zc c, zc_lt c⟩

/-- A plane is a device and its seven plane neighbours. -/
theorem plane_list (c : Dev nD) : (Finset.univ.filter fun d : Dev nD => plane d = plane c).val
    = ↑(c :: (List.finRange 7).map fun j => peer (opp (.inl j)) c) := by revert c; decide +kernel

/-- The four planes are a device's own and those of its three column neighbours. -/
theorem planes_list (c : Dev nD) : (Finset.univ : Finset (Fin 4)).val
    = ↑(plane c :: (List.finRange 3).map fun j => plane (peer (opp (.inr j)) c)) := by revert c; decide +kernel

/-- The sum of a function of the device over a plane. -/
def planeSum (f : Dev nD → EReal) (z : Fin 4) : EReal := ∑ d ∈ Finset.univ.filter fun d : Dev nD => plane d = z, f d

/-- A device's term and its plane neighbours' terms, in the order the kernel adds them, make the sum over the plane. -/
theorem plane_add (f : Dev nD → EReal) (c : Dev nD) (t : Fin 7 → EReal) (ht : ∀ j, t j = f (peer (opp (.inl j)) c)) :
    f c + (t 0 + t 1 + t 2 + t 3 + t 4 + t 5 + t 6) = planeSum f (plane c) := by
  simp only [ht]
  unfold planeSum Finset.sum
  rw [plane_list]
  simp only [List.finRange_succ, List.finRange_zero, List.map_cons, List.map_nil, Multiset.map_coe, Multiset.sum_coe,
    List.sum_cons, List.sum_nil, add_zero]
  refine congrArg (f c + ·) ?_
  simp only [add_assoc]
  rfl

/-- The sums over a device's plane and its column neighbours' planes, in the order the kernel adds them, make the sum over
    all devices. -/
theorem planes_add (f : Dev nD → EReal) (c : Dev nD) (t : Fin 3 → EReal)
    (ht : ∀ j, t j = planeSum f (plane (peer (opp (.inr j)) c))) :
    planeSum f (plane c) + (t 0 + t 1 + t 2) = ∑ d, f d := by
  simp only [ht]
  rw [← Finset.sum_fiberwise Finset.univ plane f]
  show _ = (Finset.univ.val.map (planeSum f)).sum
  rw [planes_list c]
  simp only [List.finRange_succ, List.finRange_zero, List.map_cons, List.map_nil, Multiset.map_coe, Multiset.sum_coe,
    List.sum_cons, List.sum_nil, add_zero]
  refine congrArg (planeSum f (plane c) + ·) ?_
  simp only [add_assoc]
  rfl

/-! ## The reduction -/

variable (X W : Dev nD → FVec Ideal S1024x1024 .bf16)

/-- Entry `(r, n)` of device `d`'s partial product. -/
def entry (r n : Fin 1024) (d : Dev nD) : EReal := ∑ k : Fin 1024, X d (ix2 r k) * W d (ix2 k n)

/-- Entry `(r, n)` of the sum of all partial products. -/
def total (r n : Fin 1024) : EReal := ∑ d : Dev nD, entry X W r n d

theorem part_apply (d : Dev nD) (e : ℕ) (x : S128x1024.Idx) :
    part X W d e x = entry X W (Fin.ofNat 1024 (128 * e + (x 0).val)) (x 1) d := by
  rw [eq_ix2 x]
  refine (Ideal.matmul_plain_apply (M := 128) (K := 1024) (N := 1024) (φ₁ := .bf16) (φ₂ := .bf16) none (rowsAt 128 (128 * e) (X d)) (W d) _ (x 0) (x 1)).trans ?_
  rw [constant_apply, Ideal.ofBits_zero_f32, zero_add]
  rfl

theorem inA_apply (c : Dev nD) (j : Fin 7) (x : S128x1024.Idx) :
    inA X W c j x = entry X W (Fin.ofNat 1024 (128 * pl c + (x 0).val)) (x 1) (peer (opp (.inl j)) c) := by
  show part X W (peer (opp (.inl j)) c) (pl (peer (.inl j) (peer (opp (.inl j)) c))) x = _
  rw [peer_opp, part_apply]

/-- A chunk after the first step is the sum of the plane's partial products. -/
theorem acc1_apply (c : Dev nD) (x : S128x1024.Idx) :
    acc1 X W c x = planeSum (entry X W (Fin.ofNat 1024 (128 * pl c + (x 0).val)) (x 1)) (plane c) := by
  refine Eq.trans ?_ (plane_add _ c (fun j => inA X W c j x) fun j => inA_apply X W c j x)
  rw [← part_apply X W c (pl c) x]
  rfl

theorem pl_column (c : Dev nD) (r : Fin 3) : pl (peer (opp (.inr r)) c) = pl c := by revert c r; decide +kernel

theorem row_in_chunk (a b y : ℕ) (ha : a < 8) (hb : b < 4) (hy : y < 32) :
    Fin.ofNat 1024 (128 * a + (Fin.ofNat 128 (32 * b + y)).val) = Fin.ofNat 1024 (128 * a + 32 * b + y) := by
  apply Fin.ext
  show (128 * a + (32 * b + y) % 128) % 1024 = (128 * a + 32 * b + y) % 1024
  omega

theorem block_apply (c d : Dev nD) (h : pl d = pl c) (x : S32x1024.Idx) :
    rowsAt 32 (32 * zc c) (acc1 X W d) x
      = planeSum (entry X W (Fin.ofNat 1024 (128 * pl c + 32 * zc c + (x 0).val)) (x 1)) (plane d) := by
  refine (acc1_apply X W d _).trans ?_
  rw [h, ← row_in_chunk (pl c) (zc c) (x 0).val (pl_lt c) (zc_lt c) (idx2_lt0 x)]

theorem inB_apply (c : Dev nD) (j : Fin 3) (x : S32x1024.Idx) :
    inB X W c j x = planeSum (entry X W (Fin.ofNat 1024 (128 * pl c + 32 * zc c + (x 0).val)) (x 1)) (plane (peer (opp (.inr j)) c)) := by
  show rowsAt 32 (32 * zc (peer (.inr j) (peer (opp (.inr j)) c))) (acc1 X W (peer (opp (.inr j)) c)) x = _
  rw [peer_opp]
  exact block_apply X W c _ (pl_column c j) x

/-- A block after the second step is the sum of all partial products. -/
theorem zsum_apply (c : Dev nD) (x : S32x1024.Idx) :
    zsum X W c x = total X W (Fin.ofNat 1024 (128 * pl c + 32 * zc c + (x 0).val)) (x 1) := by
  refine Eq.trans ?_ (planes_add _ c (fun j => inB X W c j x) fun j => inB_apply X W c j x)
  rw [← block_apply X W c c rfl x]
  rfl

/-! ## The gathering -/

theorem zc_dv (z q : ℕ) (hz : z < 4) (hq : q < 8) : zc (dv z q) = z := by
  show (8 * z + q) % 32 / 8 = z; omega
theorem pl_dv (z q : ℕ) (hq : q < 8) : pl (dv z q) = q := by
  show (8 * z + q) % 32 % 8 = q; omega

/-- A chunk after the gathering along the column holds the sum of all partial products. -/
theorem own_apply (c : Dev nD) (x : S128x1024.Idx) :
    own X W c x = total X W (Fin.ofNat 1024 (128 * pl c + (x 0).val)) (x 1) := by
  have hx : (x 0).val < 128 := idx2_lt0 x
  have key : ∀ d : Dev nD, pl d = pl c → zc d = (x 0).val / 32 →
      zsum X W d (ix2 (Fin.ofNat 32 (x 0).val) (x 1)) = total X W (Fin.ofNat 1024 (128 * pl c + (x 0).val)) (x 1) := by
    intro d hp hz
    rw [zsum_apply, hp, hz]
    congr 1
    apply Fin.ext
    show (128 * pl c + 32 * ((x 0).val / 32) + (x 0).val % 32) % 1024 = (128 * pl c + (x 0).val) % 1024
    omega
  unfold own
  split
  · next h => exact key c rfl h.symm
  · exact key (dv ((x 0).val / 32) (pl c)) (pl_dv _ _ (pl_lt c)) (zc_dv _ _ (by omega) (pl_lt c))

/-- The result on every device is the sum of all partial products. -/
theorem outAt_apply (c : Dev nD) (i : S1024x1024.Idx) : outAt X W c i = total X W (i 0) (i 1) := by
  have hi : (i 0).val < 1024 := idx2_lt0 i
  have key : ∀ d : Dev nD, pl d = (i 0).val / 128 →
      own X W d (ix2 (Fin.ofNat 128 (i 0).val) (i 1)) = total X W (i 0) (i 1) := by
    intro d hp
    rw [own_apply, hp]
    congr 1
    apply Fin.ext
    show (128 * ((i 0).val / 128) + (i 0).val % 128) % 1024 = (i 0).val
    omega
  unfold outAt
  split
  · next h => exact key c h.symm
  · exact key (dv (zc c) ((i 0).val / 128)) (pl_dv _ _ (by omega))

end AllReduce

end
-- ==== Proof.Product.lean ====
/-
  The reference's product, over the whole arrays, is the sum over the devices of the products of their parts.
-/
module

public import proofs.«01_k».proof.Proof.Total
public import proofs.«01_k».proof.Proof.Gen.ReferenceIdeal
public import Idealize.ShloMosaic.Lib.StackMember
public import Idealize.ShloMosaic.Lib.Layout

@[expose] public section

noncomputable section

namespace AllReduce

open Cert.KernelIdeal Cert.KernelIdeal.Gen
open Idealize.ShloMosaic
open Idealize.ShloMosaic.ValueIdx

/-- A device and a position in its part, as a position in the whole contraction. -/
def along (d : Dev nD) (k : Fin 1024) : Fin 32768 := ⟨d.val * 1024 + k.val, by have : d.val < 32 := d.isLt; omega⟩

/-- A sum over the whole contraction is the sum over the devices of the sums over their parts. -/
theorem sum_along (f : Fin 32768 → EReal) : ∑ j, f j = ∑ d : Dev nD, ∑ k, f (along d k) := by
  rw [← Fintype.sum_prod_type' fun (d : Fin 32) (k : Fin 1024) => f (along d k)]
  refine (Fintype.sum_equiv (finProdFinEquiv (m := 32) (n := 1024)) _ f fun p => ?_).symm
  refine congrArg f (Fin.ext ?_)
  show p.1.val * 1024 + p.2.val = p.2.val + 1024 * p.1.val
  omega

theorem tiles_x : Layout.Tiles ⟨2, ![1024, 1024]⟩ ⟨2, ![1024, 32768]⟩ 1 32 := by decide
theorem tiles_w : Layout.Tiles ⟨2, ![1024, 1024]⟩ ⟨2, ![32768, 1024]⟩ 0 32 := by decide

/-- A device's entry of the left factor in the whole left factor, -/
theorem part_x (A : FVec Ideal ⟨2, ![1024, 32768]⟩ .bf16) (d : Dev nD) (r k : Fin 1024) :
    Layout.block ⟨2, ![1024, 1024]⟩ ⟨2, ![1024, 32768]⟩ 1 32 d A tiles_x (ix2 r k) = A (ix2 r (along d k)) := by
  refine congrArg A (funext fun a => Fin.ext ?_)
  match a with
  | ⟨0, _⟩ => rfl
  | ⟨1, _⟩ => rfl
/-- and its entry of the right factor in the whole right factor. -/
theorem part_w (B : FVec Ideal ⟨2, ![32768, 1024]⟩ .bf16) (d : Dev nD) (k n : Fin 1024) :
    Layout.block ⟨2, ![1024, 1024]⟩ ⟨2, ![32768, 1024]⟩ 0 32 d B tiles_w (ix2 k n) = B (ix2 (along d k) n) := by
  refine congrArg B (funext fun a => Fin.ext ?_)
  match a with
  | ⟨0, _⟩ => rfl
  | ⟨1, _⟩ => rfl

/-- The whole product, entry by entry, is the sum of the devices' partial products. -/
theorem product_eq (X W : Dev nD → FVec Ideal ⟨2, ![1024, 1024]⟩ .bf16) (A : FVec Ideal ⟨2, ![1024, 32768]⟩ .f32)
    (B : FVec Ideal ⟨2, ![32768, 1024]⟩ .f32) (hX : ∀ d r k, (X d (ix2 r k) : EReal) = A (ix2 r (along d k)))
    (hW : ∀ d k n, (W d (ix2 k n) : EReal) = B (ix2 (along d k) n)) (c : Dev nD) :
    outAt X W c = Host.dotGeneral (F := Ideal) Cert.ReferenceIdeal.dot_S1024x32768_S32768x1024_S1024x1024_1_0_0_1_n_n none A B := by
  funext i
  rw [outAt_apply]
  refine Eq.trans ?_ ((congrArg _ (eq_ix2 i)).trans
    (Idealize.ShloMosaic.StackMember.dotGeneral_plain_apply (m := 1024) (k := 32768) (n := 1024) none A B (i 0) (i 1))).symm
  rw [sum_along]
  exact Finset.sum_congr rfl fun d _ => Finset.sum_congr rfl fun k _ =>
    congrArg₂ (fun a b : EReal => a * b) (hX d (i 0) k) (hW d k (i 1))

end AllReduce

end
-- ==== Proof.Context.lean ====
/-
  A device's attention is its heads' columns of the reference's.
-/
module

public import proofs.«01_k».proof.Proof.Rows
public import proofs.«01_k».proof.Proof.Masked
public import proofs.«01_k».proof.Proof.Finite
public import proofs.«01_k».proof.Proof.Product

@[expose] public section

noncomputable section

namespace AllReduce

open Cert.KernelIdeal Cert.KernelIdeal.Gen
open Idealize.ShloMosaic
open Idealize.ShloMosaic.TcCoe

/-- Head `h` of device `d` among all the heads. -/
def headOf (d : Dev nD) (h : Fin 8) : Fin 256 := ⟨8 * d.val + h.val, by have : d.val < 32 := d.isLt; omega⟩

/-- A head's column on its device is the head's column in the whole. -/
theorem along_head (d : Dev nD) (h : Fin 8) (e : Fin 128) :
    along d ⟨h.val * 128 + e.val, by omega⟩ = ⟨(headOf d h).val * 128 + e.val, by have := (headOf d h).isLt; omega⟩ := by
  apply Fin.ext
  show d.val * 1024 + (h.val * 128 + e.val) = (8 * d.val + h.val) * 128 + e.val
  omega

/-- An array whose blocks are real is real. -/
theorem finite_of_parts (w : FVec Ideal ⟨2, ![1024, 32768]⟩ .bf16)
    (h : ∀ d : Dev nD, Finite (s := ⟨2, ![1024, 1024]⟩) (Layout.block ⟨2, ![1024, 1024]⟩ ⟨2, ![1024, 32768]⟩ 1 32 d w tiles_x)) : Finite w := by
  intro z
  obtain ⟨t, j, rfl⟩ : ∃ t j, z = ix2 t j := ⟨_, _, Idealize.ShloMosaic.ValueIdx.eq_ix2 z⟩
  have hj : j = along ⟨j.val / 1024, by have := j.isLt; show _ < 32; omega⟩ ⟨j.val % 1024, by omega⟩ := by
    apply Fin.ext
    show j.val = j.val / 1024 * 1024 + j.val % 1024
    omega
  rw [hj]
  have e := h ⟨j.val / 1024, by have := j.isLt; show _ < 32; omega⟩ (ix2 t ⟨j.val % 1024, by omega⟩)
  have q : Layout.block ⟨2, ![1024, 1024]⟩ ⟨2, ![1024, 32768]⟩ 1 32 (⟨j.val / 1024, by have := j.isLt; show _ < 32; omega⟩ : Dev nD) w tiles_x
      (ix2 t ⟨j.val % 1024, by omega⟩) = w (ix2 t (along _ _)) := part_x w _ t _
  rw [q] at e
  exact e

/-- For real inputs, device `d`'s attention of its columns of the query weights is its columns of the reference's. -/
theorem attention_part (d : Dev nD) (x : FVec Ideal ⟨3, ![1, 1024, 1024]⟩ .bf16) (w : FVec Ideal ⟨2, ![1024, 32768]⟩ .bf16)
    (k v : FVec Ideal ⟨4, ![1, 1024, 256, 128]⟩ .bf16) (hx : Finite x) (hw : Finite w) (hk : Finite k) (r n : Fin 1024) :
    (mixed (share d v) (weights (raised (scores (queries x (Layout.block ⟨2, ![1024, 1024]⟩ ⟨2, ![1024, 32768]⟩ 1 32 d w tiles_x)) (share d k))))
        (ix2 r n) : EReal) = Whole.context x w k v (ix2 r (along d n)) := by
  obtain ⟨h, e, rfl⟩ : ∃ (h : Fin 8) (e : Fin 128), n = ⟨h.val * 128 + e.val, by omega⟩ :=
    ⟨⟨n.val / 128, by omega⟩, ⟨n.val % 128, by omega⟩, Fin.ext (by show n.val = n.val / 128 * 128 + n.val % 128; omega)⟩
  rw [along_head]
  refine (mixed_value d x _ k v r h e (headOf d h) rfl).trans (Eq.trans ?_ (Whole.context_group x w k v hx hw hk r (headOf d h) e).symm)
  have hq : ∀ (t : Fin 1024) (e : Fin 128),
      Layout.block ⟨2, ![1024, 1024]⟩ ⟨2, ![1024, 32768]⟩ 1 32 d w tiles_x (ix2 t ⟨h.val * 128 + e.val, by omega⟩)
        = w (ix2 t ⟨(headOf d h).val * 128 + e.val, by have := (headOf d h).isLt; omega⟩) := fun t e => by
    refine (part_x w d t _).trans ?_
    rw [along_head]
    rfl
  simp only [hq]

end AllReduce

end
-- ==== Proof.lean ====
/-
  The proof of `Cert.Claim`: the kernel and its exact reading run on thirty-two devices without fault, leave their arguments
  as they were and every semaphore at zero, and in exact arithmetic, from real tokens, query weights and keys, every device
  ends with the attention's projection that the reference computes of the whole arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Context
public import Idealize.ShloMosaic.Adequacy
public import Idealize.ShloMosaic.Init

@[expose] public section

noncomputable section

namespace Cert.Proof

open Idealize.ShloMosaic Idealize.SL.Sem

/-- The reference runs without fault and keeps its operands; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments cut over the devices, with real tokens, query weights and keys, every device ends with the reference's
    result. -/
theorem algebraic : Cert.algebraic_KernelIdeal_ReferenceIdeal_pre_finite_KernelIdeal := fun m ρ m' ρ' hpre hag => by
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (AllReduce.run_value (F := Ideal) m ρ)
  have hx := AllReduce.finite_x hpre 0
  have hk := AllReduce.finite_k hpre 0
  have hw := fun d => AllReduce.finite_w hpre d
  rw [(hag 0).1] at hx
  rw [(hag 0).2.2.1] at hk
  simp only [fun d => (hag d).2.1] at hw
  refine (AllReduce.product_eq _ _ _ _ (fun d r n => ?_) (fun d k n => ?_) c).trans (AllReduce.Whole.result_eq m' 0).symm
  · rw [AllReduce.context_eq m d, (hag d).1, (hag d).2.1, (hag d).2.2.1, (hag d).2.2.2.1]
    exact AllReduce.attention_part d _ _ _ _ hx (AllReduce.finite_of_parts _ hw) hk r n
  · rw [(hag d).2.2.2.2]
    exact AllReduce.part_w _ d k n

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_kernelIdeal, fun m ρ _ => frame_kernelIdeal m ρ trivial, frame_reference,
    fun m ρ _ => frame_reference m ρ trivial, trivial, algebraic⟩

end Cert.Proof

end
